-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_qkv [hPre_finite_qkv : Cert.Pre_finite_qkv.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_qkv.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_qkv [hPre_finite_qkv : Cert.Pre_finite_qkv.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_qkv.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_finite_qkv [hKernel14Ideal : Cert.Kernel14Ideal.Facts] [hPre_finite_qkv : Cert.Pre_finite_qkv.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_qkv m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_finite_qkv [hReference14Ideal : Cert.Reference14Ideal.Facts] [hPre_finite_qkv : Cert.Pre_finite_qkv.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_qkv m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite_qkv [hKernel14Ideal : Cert.Kernel14Ideal.Facts] [hReference14Ideal : Cert.Reference14Ideal.Facts] [hPre_finite_qkv : Cert.Pre_finite_qkv.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_qkv m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v31) = v0 c
          ∧ r.2.mem ((c.tc : Thread Cert.Reference14Ideal.nD Cert.Reference14Ideal.τ).loc Cert.Reference14Ideal.main_v32) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v30) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v73) = v0 c
          ∧ r.2.mem ((c.tc : Thread Cert.Reference16Ideal.nD Cert.Reference16Ideal.τ).loc Cert.Reference16Ideal.main_v72) = v1 c
          ∧ r.2.mem ((c.tc : Thread Cert.Reference16Ideal.nD Cert.Reference16Ideal.τ).loc Cert.Reference16Ideal.main_v71) = v2 c
          ∧ r.2.mem ((c.tc : Thread Cert.Reference16Ideal.nD Cert.Reference16Ideal.τ).loc Cert.Reference16Ideal.main_v65) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v20) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v29) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v37) = v2 c
          ∧ r.2.mem ((c.tc : Thread Cert.Reference18Ideal.nD Cert.Reference18Ideal.τ).loc Cert.Reference18Ideal.main_v36) = v3 c
          ∧ r.2.mem ((c.tc : Thread Cert.Reference18Ideal.nD Cert.Reference18Ideal.τ).loc Cert.Reference18Ideal.main_v38) = v4 c
          ∧ r.2.mem ((c.tc : Thread Cert.Reference18Ideal.nD Cert.Reference18Ideal.τ).loc Cert.Reference18Ideal.main_v39) = v5 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite_qkv : Cert.Pre_finite_qkv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_qkv (hKernel14Ideal := hKernel14Ideal) (hPre_finite_qkv := hPre_finite_qkv)
    ∧ quiescent_Reference14Ideal (hReference14Ideal := hReference14Ideal)
    ∧ quiescent_Reference14Ideal_pre_finite_qkv (hReference14Ideal := hReference14Ideal) (hPre_finite_qkv := hPre_finite_qkv)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_qkv (hKernel14Ideal := hKernel14Ideal) (hReference14Ideal := hReference14Ideal) (hPre_finite_qkv := hPre_finite_qkv)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4096x2048 : Shape := ⟨2, ![4096, 2048]⟩
abbrev S4096x512 : Shape := ⟨2, ![4096, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .bf16) (main_arg1 : FVec F S4096x512 .bf16) (main_arg2 : FVec F S4096x512 .bf16) (main_arg3 : FVec F S4096x2048 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .bf16 := Host.absf main_arg2
  let main_cst_2 : FVec F S_ .bf16 := constant S_ .bf16 0x7F80#16
  let main_v10 : FVec F S4096x512 .bf16 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x2048 .bf16 := Host.absf main_arg3
  let main_cst_4 : FVec F S_ .bf16 := constant S_ .bf16 0x7F80#16
  let main_v15 : FVec F S4096x2048 .bf16 := broadcastInDim S4096x2048 ![] bcast_S_S4096x2048 main_cst_4
  let main_v16 : IVec S4096x2048 1 := cmpf .olt main_v14 main_v15
  fn_part1 (F := F) main_v13 main_v16
-- ==== Pre_finite_qkv.lean ====
abbrev S4096x2048 : Shape := ⟨2, ![4096, 2048]⟩
abbrev S4096x512 : Shape := ⟨2, ![4096, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x2048 .bf16) (main_arg1 : FVec F S4096x512 .bf16) (main_arg2 : FVec F S4096x512 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .bf16 := Host.absf main_arg2
  let main_cst_2 : FVec F S_ .bf16 := constant S_ .bf16 0x7F80#16
  let main_v10 : FVec F S4096x512 .bf16 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Kernel.lean ====
abbrev S4096x2048 : Shape := ⟨2, ![4096, 2048]⟩
abbrev S4096x512 : Shape := ⟨2, ![4096, 512]⟩
abbrev S4096x4x128 : Shape := ⟨3, ![4096, 4, 128]⟩
abbrev S4096x4x4x128 : Shape := ⟨4, ![4096, 4, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x4096x4 : Shape := ⟨3, ![4, 4096, 4]⟩
abbrev S256x512 : Shape := ⟨2, ![256, 512]⟩
abbrev S4096x128 : Shape := ⟨2, ![4096, 128]⟩
abbrev S1x256x4 : Shape := ⟨3, ![1, 256, 4]⟩
abbrev S1024x4096 : Shape := ⟨2, ![1024, 4096]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S256x4096 : Shape := ⟨2, ![256, 4096]⟩
abbrev S1x256x1 : Shape := ⟨3, ![1, 256, 1]⟩

abbrev nBuf : Space → Nat
  | .hbm => 52
  | .vmem => 24
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x2048, .bf16⟩
  | .hbm, ⟨4, _⟩ => ⟨S4096x512, .f32⟩
  | .hbm, ⟨5, _⟩ => ⟨S4096x4x128, .f32⟩
  | .hbm, ⟨6, _⟩ => ⟨S4096x2048, .f32⟩
  | .hbm, ⟨7, _⟩ => ⟨S4096x4x4x128, .f32⟩
  | .hbm, ⟨8, _⟩ => ⟨S4096x512, .f32⟩
  | .hbm, ⟨9, _⟩ => ⟨S4096x4x128, .f32⟩
  | .hbm, ⟨10, _⟩ => ⟨S4x4096x4096x4, .f32⟩
  | .hbm, ⟨11, _⟩ => ⟨S4x4x4096x4096, .f32⟩
  | .hbm, ⟨12, _⟩ => ⟨S_, .f32⟩
  | .hbm, ⟨13, _⟩ => ⟨S4x4x4096, .f32⟩
  | .hbm, ⟨14, _⟩ => ⟨S_, .f32⟩
  | .hbm, ⟨15, _⟩ => ⟨S4x4x4096, .f32⟩
  | .hbm, ⟨16, _⟩ => ⟨S4x4x4096, .f32⟩
  | .hbm, ⟨17, _⟩ => ⟨S4x4x4096x1, .f32⟩
  | .hbm, ⟨18, _⟩ => ⟨S4x4x4096x4096, .f32⟩
  | .hbm, ⟨19, _⟩ => ⟨S4x4x4096x4096, .f32⟩
  | .hbm, ⟨20, _⟩ => ⟨S4x4x4096x4096, .f32⟩
  | .hbm, ⟨21, _⟩ => ⟨S_, .f32⟩
  | .hbm, ⟨22, _⟩ => ⟨S4x4x4096, .f32⟩
  | .hbm, ⟨23, _⟩ => ⟨S4x4x4096x1, .f32⟩
  | .hbm, ⟨24, _⟩ => ⟨S4x4x4096x4096, .f32⟩
  | .hbm, ⟨25, _⟩ => ⟨S4x4x4096x4096, .f32⟩
  | .hbm, ⟨26, _⟩ => ⟨S4x128x4x4096, .f32⟩
  | .hbm, ⟨27, _⟩ => ⟨S4096x4x4x128, .f32⟩
  | .hbm, ⟨28, _⟩ => ⟨S4096x2048, .f32⟩
  | .hbm, ⟨29, _⟩ => ⟨S4096x2048, .bf16⟩
  | .hbm, ⟨30, _⟩ => ⟨S4096x2048, .f32⟩
  | .hbm, ⟨31, _⟩ => ⟨S4096x4x4x128, .f32⟩
  | .hbm, ⟨32, _⟩ => ⟨S4096x512, .f32⟩
  | .hbm, ⟨33, _⟩ => ⟨S4096x4x128, .f32⟩
  | .hbm, ⟨34, _⟩ => ⟨S4x4096x4096x4, .f32⟩
  | .hbm, ⟨35, _⟩ => ⟨S4x4x4096x4096, .f32⟩
  | .hbm, ⟨36, _⟩ => ⟨S_, .f32⟩
  | .hbm, ⟨37, _⟩ => ⟨S4x4x4096, .f32⟩
  | .hbm, ⟨38, _⟩ => ⟨S4x4x4096x1, .f32⟩
  | .hbm, ⟨39, _⟩ => ⟨S4x4x4096x4096, .f32⟩
  | .hbm, ⟨40, _⟩ => ⟨S4x4x4096x4096, .f32⟩
  | .hbm, ⟨41, _⟩ => ⟨S4x4x4096x4096, .f32⟩
  | .hbm, ⟨42, _⟩ => ⟨S_, .f32⟩
  | .hbm, ⟨43, _⟩ => ⟨S4x4x4096, .f32⟩
  | .hbm, ⟨44, _⟩ => ⟨S4x4x4096x1, .f32⟩
  | .hbm, ⟨45, _⟩ => ⟨S4x4x4096x1, .f32⟩
  | .hbm, ⟨46, _⟩ => ⟨S4x4x4096x1, .f32⟩
  | .hbm, ⟨47, _⟩ => ⟨S4x4x4096, .f32⟩
  | .hbm, ⟨48, _⟩ => ⟨S4x4096x4, .f32⟩
  | .hbm, ⟨49, _⟩ => ⟨S4096x2048, .bf16⟩
  | .hbm, ⟨50, _⟩ => ⟨S4096x512, .bf16⟩
  | .hbm, ⟨51, _⟩ => ⟨S4096x512, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1x256x4, .f32⟩
  | .local _ .vmem, ⟨11, _⟩ => ⟨S1x256x4, .f32⟩
  | .local _ .vmem, ⟨12, _⟩ => ⟨S256x512, .bf16⟩
  | .local _ .vmem, ⟨13, _⟩ => ⟨S256x512, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S1024x4096, .bf16⟩
  | .local _ .vmem, ⟨19, _⟩ => ⟨S1024x4096, .bf16⟩
  | .local _ .vmem, ⟨20, _⟩ => ⟨S1024x128, .bf16⟩
  | .local _ .vmem, ⟨21, _⟩ => ⟨S1024x128, .bf16⟩
  | .local _ .vmem, ⟨22, _⟩ => ⟨S4096x128, .f32⟩
  | .local _ .vmem, ⟨23, _⟩ => ⟨S4096x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40_0 : Ref sig .tc := ⟨.hbm, 49, rfl⟩
abbrev main_v40_1 : Ref sig .tc := ⟨.hbm, 50, rfl⟩
abbrev main_v40_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v165 : BitVec 1 := Scalar.cmpi .eq arg1 c15_i32
  let v166 : BitVec 32 := Scalar.extui v165
  let c0_i32_105 : BitVec 32 := 0#32
  let v167 : BitVec 1 := Scalar.cmpi .ne v166 c0_i32_105
  v167

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x2048 : Shape := ⟨2, ![4096, 2048]⟩
abbrev S4096x512 : Shape := ⟨2, ![4096, 512]⟩
abbrev S4096x4x128 : Shape := ⟨3, ![4096, 4, 128]⟩
abbrev S4096x4x4x128 : Shape := ⟨4, ![4096, 4, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x128x4096 : Shape := ⟨3, ![4, 128, 4096]⟩
abbrev S4x4096x4x128 : Shape := ⟨4, ![4, 4096, 4, 128]⟩
abbrev S4x4096x128 : Shape := ⟨3, ![4, 4096, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x2048, .bf16⟩
  | .hbm, ⟨4, _⟩ => ⟨S4096x512, .f32⟩
  | .hbm, ⟨5, _⟩ => ⟨S4096x4x128, .f32⟩
  | .hbm, ⟨6, _⟩ => ⟨S4096x2048, .f32⟩
  | .hbm, ⟨7, _⟩ => ⟨S4096x4x4x128, .f32⟩
  | .hbm, ⟨8, _⟩ => ⟨S4096x512, .f32⟩
  | .hbm, ⟨9, _⟩ => ⟨S4096x4x128, .f32⟩
  | .hbm, ⟨10, _⟩ => ⟨S4x4096x4096x4, .f32⟩
  | .hbm, ⟨11, _⟩ => ⟨S4x4x4096x4096, .f32⟩
  | .hbm, ⟨12, _⟩ => ⟨S_, .f32⟩
  | .hbm, ⟨13, _⟩ => ⟨S4x4x4096, .f32⟩
  | .hbm, ⟨14, _⟩ => ⟨S4x4x4096x1, .f32⟩
  | .hbm, ⟨15, _⟩ => ⟨S4x4x4096x4096, .f32⟩
  | .hbm, ⟨16, _⟩ => ⟨S4x4x4096x4096, .i1⟩
  | .hbm, ⟨17, _⟩ => ⟨S4x4x4096x4096, .f32⟩
  | .hbm, ⟨18, _⟩ => ⟨S_, .f32⟩
  | .hbm, ⟨19, _⟩ => ⟨S4x4x4096, .f32⟩
  | .hbm, ⟨20, _⟩ => ⟨S_, .f32⟩
  | .hbm, ⟨21, _⟩ => ⟨S4x4x4096, .f32⟩
  | .hbm, ⟨22, _⟩ => ⟨S4x4x4096, .f32⟩
  | .hbm, ⟨23, _⟩ => ⟨S_, .f32⟩
  | .hbm, ⟨24, _⟩ => ⟨S4x4x4096, .f32⟩
  | .hbm, ⟨25, _⟩ => ⟨S4x4x4096, .i1⟩
  | .hbm, ⟨26, _⟩ => ⟨S_, .f32⟩
  | .hbm, ⟨27, _⟩ => ⟨S4x4x4096, .f32⟩
  | .hbm, ⟨28, _⟩ => ⟨S4x4x4096, .i1⟩
  | .hbm, ⟨29, _⟩ => ⟨S_, .f32⟩
  | .hbm, ⟨30, _⟩ => ⟨S4x4x4096, .f32⟩
  | .hbm, ⟨31, _⟩ => ⟨S_, .f32⟩
  | .hbm, ⟨32, _⟩ => ⟨S4x4x4096, .f32⟩
  | .hbm, ⟨33, _⟩ => ⟨S_, .f32⟩
  | .hbm, ⟨34, _⟩ => ⟨S4x4x4096, .f32⟩
  | .hbm, ⟨35, _⟩ => ⟨S4x4x4096, .f32⟩
  | .hbm, ⟨36, _⟩ => ⟨S4x4x4096, .f32⟩
  | .hbm, ⟨37, _⟩ => ⟨S4x4x4096x1, .f32⟩
  | .hbm, ⟨38, _⟩ => ⟨S4x4x4096x4096, .f32⟩
  | .hbm, ⟨39, _⟩ => ⟨S4x4x4096x4096, .f32⟩
  | .hbm, ⟨40, _⟩ => ⟨S4x4x4096x4096, .f32⟩
  | .hbm, ⟨41, _⟩ => ⟨S_, .f32⟩
  | .hbm, ⟨42, _⟩ => ⟨S4x4x4096, .f32⟩
  | .hbm, ⟨43, _⟩ => ⟨S4x4x4096x1, .f32⟩
  | .hbm, ⟨44, _⟩ => ⟨S4x4x4096x4096, .f32⟩
  | .hbm, ⟨45, _⟩ => ⟨S4x4x4096x4096, .f32⟩
  | .hbm, ⟨46, _⟩ => ⟨S4x4x4096x1, .f32⟩
  | .hbm, ⟨47, _⟩ => ⟨S_, .f32⟩
  | .hbm, ⟨48, _⟩ => ⟨S4x4x4096x1, .f32⟩
  | .hbm, ⟨49, _⟩ => ⟨S4x4x4096x1, .f32⟩
  | .hbm, ⟨50, _⟩ => ⟨S4x128x4x4096, .f32⟩
  | .hbm, ⟨51, _⟩ => ⟨S4096x4x4x128, .f32⟩
  | .hbm, ⟨52, _⟩ => ⟨S4096x2048, .f32⟩
  | .hbm, ⟨53, _⟩ => ⟨S4096x2048, .f32⟩
  | .hbm, ⟨54, _⟩ => ⟨S4096x4x4x128, .f32⟩
  | .hbm, ⟨55, _⟩ => ⟨S4x128x4x4096, .f32⟩
  | .hbm, ⟨56, _⟩ => ⟨S4x4x4096x4096, .f32⟩
  | .hbm, ⟨57, _⟩ => ⟨S4x128x4096, .f32⟩
  | .hbm, ⟨58, _⟩ => ⟨S4096x4x128, .f32⟩
  | .hbm, ⟨59, _⟩ => ⟨S4x4x4096x4096, .f32⟩
  | .hbm, ⟨60, _⟩ => ⟨S4x4x4096x4096, .f32⟩
  | .hbm, ⟨61, _⟩ => ⟨S4x4x4096x4096, .f32⟩
  | .hbm, ⟨62, _⟩ => ⟨S_, .f32⟩
  | .hbm, ⟨63, _⟩ => ⟨S4x4x4096, .f32⟩
  | .hbm, ⟨64, _⟩ => ⟨S4x4x4096x1, .f32⟩
  | .hbm, ⟨65, _⟩ => ⟨S4x4x4096x1, .f32⟩
  | .hbm, ⟨66, _⟩ => ⟨S4x4x4096x4096, .f32⟩
  | .hbm, ⟨67, _⟩ => ⟨S4x4x4096x4096, .f32⟩
  | .hbm, ⟨68, _⟩ => ⟨S_, .f32⟩
  | .hbm, ⟨69, _⟩ => ⟨S4x4x4096, .f32⟩
  | .hbm, ⟨70, _⟩ => ⟨S4x4x4096x4096, .f32⟩
  | .hbm, ⟨71, _⟩ => ⟨S4x4x4096x4096, .f32⟩
  | .hbm, ⟨72, _⟩ => ⟨S4x4x4096x4096, .f32⟩
  | .hbm, ⟨73, _⟩ => ⟨S4x4096x4096x4, .f32⟩
  | .hbm, ⟨74, _⟩ => ⟨S4x4096x4x128, .f32⟩
  | .hbm, ⟨75, _⟩ => ⟨S4096x4x4x128, .f32⟩
  | .hbm, ⟨76, _⟩ => ⟨S4x4096x128, .f32⟩
  | .hbm, ⟨77, _⟩ => ⟨S4096x4x128, .f32⟩
  | .hbm, ⟨78, _⟩ => ⟨S4096x512, .f32⟩
  | .hbm, ⟨79, _⟩ => ⟨S4096x512, .bf16⟩
  | .hbm, ⟨80, _⟩ => ⟨S4096x2048, .f32⟩
  | .hbm, ⟨81, _⟩ => ⟨S4096x2048, .bf16⟩
  | .hbm, ⟨82, _⟩ => ⟨S4096x512, .f32⟩
  | .hbm, ⟨83, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩

abbrev nD : Nat := 1
abbrev τ : Topo := Topo.v7x

variable {F : FTy → Type} [FloatOps F]
-- ==== Kernel2.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .bf16⟩
  | .hbm, ⟨3, _⟩ => ⟨S2048x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel5.lean ====
abbrev S4096x8192 : Shape := ⟨2, ![4096, 8192]⟩
abbrev S2048x8192 : Shape := ⟨2, ![2048, 8192]⟩
abbrev S4096x2048 : Shape := ⟨2, ![4096, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x13312 : Shape := ⟨2, ![4096, 13312]⟩
abbrev S2048x13312 : Shape := ⟨2, ![2048, 13312]⟩
abbrev S4096x2048 : Shape := ⟨2, ![4096, 2048]⟩
abbrev S1024x3328 : Shape := ⟨2, ![1024, 3328]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x13312, .bf16⟩
  | .hbm, ⟨1, _⟩ => ⟨S2048x13312, .bf16⟩
  | .hbm, ⟨2, _⟩ => ⟨S4096x2048, .bf16⟩
  | .local _ .vmem, ⟨0, _⟩ => ⟨S1024x3328, .bf16⟩
  | .local _ .vmem, ⟨1, _⟩ => ⟨S1024x3328, .bf16⟩
  | .local _ .vmem, ⟨2, _⟩ => ⟨S1024x3328, .bf16⟩
  | .local _ .vmem, ⟨3, _⟩ => ⟨S1024x3328, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x13312 : Shape := ⟨2, ![4096, 13312]⟩
abbrev S2048x13312 : Shape := ⟨2, ![2048, 13312]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x13312, .bf16⟩
  | .hbm, ⟨1, _⟩ => ⟨S2048x13312, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x13312, .f32⟩
  | .hbm, ⟨6, _⟩ => ⟨S4096x13312, .f32⟩
  | .hbm, ⟨7, _⟩ => ⟨S4096x13312, .f32⟩
  | .hbm, ⟨8, _⟩ => ⟨S4096x2048, .f32⟩
  | .hbm, ⟨9, _⟩ => ⟨S4096x2048, .bf16⟩
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x8192 : Shape := ⟨2, ![4096, 8192]⟩
abbrev S4096x2048 : Shape := ⟨2, ![4096, 2048]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .bf16⟩
  | .hbm, ⟨3, _⟩ => ⟨S8192x2048, .bf16⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S4096x8192 : Shape := ⟨2, ![4096, 8192]⟩
abbrev S2048x8192 : Shape := ⟨2, ![2048, 8192]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .bf16⟩
  | .hbm, ⟨3, _⟩ => ⟨S2048x8192, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S8192x2048, .f32⟩
  | .hbm, ⟨9, _⟩ => ⟨S2048x8192, .f32⟩
  | .hbm, ⟨10, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x2048 : Shape := ⟨2, ![4096, 2048]⟩
abbrev S4096x13312 : Shape := ⟨2, ![4096, 13312]⟩
abbrev S2048x13312 : Shape := ⟨2, ![2048, 13312]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x13312, .bf16⟩
  | .hbm, ⟨2, _⟩ => ⟨S2048x13312, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x13312 : Shape := ⟨2, ![4096, 13312]⟩
abbrev S_ : Shape := ⟨0, ![]⟩
abbrev S2048x13312 : Shape := ⟨2, ![2048, 13312]⟩
abbrev S13312x2048 : Shape := ⟨2, ![13312, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x13312, .bf16⟩
  | .hbm, ⟨2, _⟩ => ⟨S_, .bf16⟩
  | .hbm, ⟨3, _⟩ => ⟨S2048x13312, .bf16⟩
  | .hbm, ⟨4, _⟩ => ⟨S4096x2048, .f32⟩
  | .hbm, ⟨5, _⟩ => ⟨S2048x13312, .f32⟩
  | .hbm, ⟨6, _⟩ => ⟨S4096x13312, .f32⟩
  | .hbm, ⟨7, _⟩ => ⟨S4096x13312, .f32⟩
  | .hbm, ⟨8, _⟩ => ⟨S13312x2048, .f32⟩
  | .hbm, ⟨9, _⟩ => ⟨S2048x13312, .f32⟩
  | .hbm, ⟨10, _⟩ => ⟨S2048x13312, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S4096x2048 : Shape := ⟨2, ![4096, 2048]⟩
abbrev S2048x13312 : Shape := ⟨2, ![2048, 13312]⟩
abbrev S4096x13312 : Shape := ⟨2, ![4096, 13312]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x13312, .bf16⟩
  | .hbm, ⟨2, _⟩ => ⟨S4096x13312, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x13312 : Shape := ⟨2, ![2048, 13312]⟩
abbrev S4096x13312 : Shape := ⟨2, ![4096, 13312]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x13312, .bf16⟩
  | .hbm, ⟨2, _⟩ => ⟨S4096x2048, .f32⟩
  | .hbm, ⟨3, _⟩ => ⟨S2048x13312, .f32⟩
  | .hbm, ⟨4, _⟩ => ⟨S4096x13312, .f32⟩
  | .hbm, ⟨5, _⟩ => ⟨S4096x13312, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel13.lean ====
abbrev S4096x8192 : Shape := ⟨2, ![4096, 8192]⟩
abbrev S8192x2048 : Shape := ⟨2, ![8192, 2048]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | .hbm, ⟨5, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x2048 : Shape := ⟨2, ![4096, 2048]⟩
abbrev S4096x512 : Shape := ⟨2, ![4096, 512]⟩
abbrev S4x4096x4 : Shape := ⟨3, ![4, 4096, 4]⟩
abbrev S1024x512 : Shape := ⟨2, ![1024, 512]⟩
abbrev S4096x128 : Shape := ⟨2, ![4096, 128]⟩
abbrev S1x1024x4 : Shape := ⟨3, ![1, 1024, 4]⟩
abbrev S4096x256 : Shape := ⟨2, ![4096, 256]⟩
abbrev S128x128 : Shape := ⟨2, ![128, 128]⟩
abbrev S128x4096 : Shape := ⟨2, ![128, 4096]⟩
abbrev S128 : Shape := ⟨1, ![128]⟩
abbrev S128x1 : Shape := ⟨2, ![128, 1]⟩
abbrev S128x256 : Shape := ⟨2, ![128, 256]⟩
abbrev S1x128x1 : Shape := ⟨3, ![1, 128, 1]⟩

abbrev nBuf : Space → Nat
  | .hbm => 5
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x2048, .bf16⟩
  | .hbm, ⟨4, _⟩ => ⟨S4x4096x4, .f32⟩
  | .local _ .vmem, ⟨0, _⟩ => ⟨S1024x512, .bf16⟩
  | .local _ .vmem, ⟨1, _⟩ => ⟨S1024x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x512, .bf16⟩
  | .local _ .vmem, ⟨7, _⟩ => ⟨S1024x512, .bf16⟩
  | .local _ .vmem, ⟨8, _⟩ => ⟨S1x1024x4, .f32⟩
  | .local _ .vmem, ⟨9, _⟩ => ⟨S1x1024x4, .f32⟩
  | .local _ .vmem, ⟨10, _⟩ => ⟨S4096x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S4096x2048 : Shape := ⟨2, ![4096, 2048]⟩
abbrev S4096x512 : Shape := ⟨2, ![4096, 512]⟩
abbrev S4096x4x4x128 : Shape := ⟨4, ![4096, 4, 4, 128]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x4096x4 : Shape := ⟨3, ![4, 4096, 4]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x2048, .f32⟩
  | .hbm, ⟨4, _⟩ => ⟨S4096x4x4x128, .f32⟩
  | .hbm, ⟨5, _⟩ => ⟨S4096x512, .f32⟩
  | .hbm, ⟨6, _⟩ => ⟨S4096x4x128, .f32⟩
  | .hbm, ⟨7, _⟩ => ⟨S4x4096x4096x4, .f32⟩
  | .hbm, ⟨8, _⟩ => ⟨S4x4x4096x4096, .f32⟩
  | .hbm, ⟨9, _⟩ => ⟨S4x4x4096x4096, .f32⟩
  | .hbm, ⟨10, _⟩ => ⟨S_, .f32⟩
  | .hbm, ⟨11, _⟩ => ⟨S4x4x4096, .f32⟩
  | .hbm, ⟨12, _⟩ => ⟨S4x4x4096, .f32⟩
  | .hbm, ⟨13, _⟩ => ⟨S4096x512, .f32⟩
  | .hbm, ⟨14, _⟩ => ⟨S4096x4x128, .f32⟩
  | .hbm, ⟨15, _⟩ => ⟨S4096x2048, .f32⟩
  | .hbm, ⟨16, _⟩ => ⟨S4096x4x4x128, .f32⟩
  | .hbm, ⟨17, _⟩ => ⟨S4096x512, .f32⟩
  | .hbm, ⟨18, _⟩ => ⟨S4096x4x128, .f32⟩
  | .hbm, ⟨19, _⟩ => ⟨S4x4096x4096x4, .f32⟩
  | .hbm, ⟨20, _⟩ => ⟨S4x4x4096x4096, .f32⟩
  | .hbm, ⟨21, _⟩ => ⟨S_, .f32⟩
  | .hbm, ⟨22, _⟩ => ⟨S4x4x4096, .f32⟩
  | .hbm, ⟨23, _⟩ => ⟨S_, .f32⟩
  | .hbm, ⟨24, _⟩ => ⟨S4x4x4096, .f32⟩
  | .hbm, ⟨25, _⟩ => ⟨S4x4x4096, .f32⟩
  | .hbm, ⟨26, _⟩ => ⟨S4x4x4096x1, .f32⟩
  | .hbm, ⟨27, _⟩ => ⟨S4x4x4096x4096, .f32⟩
  | .hbm, ⟨28, _⟩ => ⟨S4x4x4096x4096, .f32⟩
  | .hbm, ⟨29, _⟩ => ⟨S4x4x4096x4096, .f32⟩
  | .hbm, ⟨30, _⟩ => ⟨S_, .f32⟩
  | .hbm, ⟨31, _⟩ => ⟨S4x4x4096, .f32⟩
  | .hbm, ⟨32, _⟩ => ⟨S4x4x4096x1, .f32⟩
  | .hbm, ⟨33, _⟩ => ⟨S4x4x4096x4096, .f32⟩
  | .hbm, ⟨34, _⟩ => ⟨S4x4x4096x4096, .f32⟩
  | .hbm, ⟨35, _⟩ => ⟨S4x128x4x4096, .f32⟩
  | .hbm, ⟨36, _⟩ => ⟨S4096x4x4x128, .f32⟩
  | .hbm, ⟨37, _⟩ => ⟨S4096x2048, .f32⟩
  | .hbm, ⟨38, _⟩ => ⟨S4096x2048, .bf16⟩
  | .hbm, ⟨39, _⟩ => ⟨S4x4096x4, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel15.lean ====
abbrev S4096x13312 : Shape := ⟨2, ![4096, 13312]⟩
abbrev S3x2048 : Shape := ⟨2, ![3, 2048]⟩
abbrev S4096x2048 : Shape := ⟨2, ![4096, 2048]⟩
abbrev S4096x256 : Shape := ⟨2, ![4096, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S4096x13312, .bf16⟩
  | .hbm, ⟨1, _⟩ => ⟨S3x2048, .f32⟩
  | .hbm, ⟨2, _⟩ => ⟨S4096x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S3x256, .f32⟩
  | .local _ .vmem, ⟨7, _⟩ => ⟨S3x256, .f32⟩
  | .local _ .vmem, ⟨8, _⟩ => ⟨S4096x256, .bf16⟩
  | .local _ .vmem, ⟨9, _⟩ => ⟨S4096x256, .bf16⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S4096x13312 : Shape := ⟨2, ![4096, 13312]⟩
abbrev S3x2048 : Shape := ⟨2, ![3, 2048]⟩
abbrev S4096x2048 : Shape := ⟨2, ![4096, 2048]⟩
abbrev S_ : Shape := ⟨0, ![]⟩
abbrev S1x2048 : Shape := ⟨2, ![1, 2048]⟩
abbrev S4098x2048 : Shape := ⟨2, ![4098, 2048]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S4096x13312, .bf16⟩
  | .hbm, ⟨1, _⟩ => ⟨S3x2048, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S1x2048, .f32⟩
  | .hbm, ⟨11, _⟩ => ⟨S4098x2048, .f32⟩
  | .hbm, ⟨12, _⟩ => ⟨S1x2048, .f32⟩
  | .hbm, ⟨13, _⟩ => ⟨S2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .bf16⟩
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== Kernel16.lean ====
abbrev S4096x2048 : Shape := ⟨2, ![4096, 2048]⟩
abbrev S4096x13312 : Shape := ⟨2, ![4096, 13312]⟩
abbrev S3x2048 : Shape := ⟨2, ![3, 2048]⟩
abbrev S4096x256 : Shape := ⟨2, ![4096, 256]⟩
abbrev S3x256 : Shape := ⟨2, ![3, 256]⟩
abbrev S1x256 : Shape := ⟨2, ![1, 256]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x13312, .bf16⟩
  | .hbm, ⟨2, _⟩ => ⟨S3x2048, .f32⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S3x2048, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S3x256, .f32⟩
  | .local _ .vmem, ⟨9, _⟩ => ⟨S3x256, .f32⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S3x256, .f32⟩
  | .local _ .vmem, ⟨17, _⟩ => ⟨S3x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S4096x2048 : Shape := ⟨2, ![4096, 2048]⟩
abbrev S4096x13312 : Shape := ⟨2, ![4096, 13312]⟩
abbrev S3x2048 : Shape := ⟨2, ![3, 2048]⟩
abbrev S_ : Shape := ⟨0, ![]⟩
abbrev S1x2048 : Shape := ⟨2, ![1, 2048]⟩
abbrev S4098x2048 : Shape := ⟨2, ![4098, 2048]⟩
abbrev S2048 : Shape := ⟨1, ![2048]⟩

abbrev nBuf : Space → Nat
  | .hbm => 92
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x13312, .bf16⟩
  | .hbm, ⟨2, _⟩ => ⟨S3x2048, .f32⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S1x2048, .f32⟩
  | .hbm, ⟨12, _⟩ => ⟨S4098x2048, .f32⟩
  | .hbm, ⟨13, _⟩ => ⟨S_, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S4098x2048, .f32⟩
  | .hbm, ⟨51, _⟩ => ⟨S1x2048, .f32⟩
  | .hbm, ⟨52, _⟩ => ⟨S_, .f32⟩
  | .hbm, ⟨53, _⟩ => ⟨S3x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S_, .f32⟩
  | .hbm, ⟨61, _⟩ => ⟨S2048, .f32⟩
  | .hbm, ⟨62, _⟩ => ⟨S_, .f32⟩
  | .hbm, ⟨63, _⟩ => ⟨S4098x2048, .f32⟩
  | .hbm, ⟨64, _⟩ => ⟨S4098x2048, .f32⟩
  | .hbm, ⟨65, _⟩ => ⟨S1x2048, .f32⟩
  | .hbm, ⟨66, _⟩ => ⟨S_, .f32⟩
  | .hbm, ⟨67, _⟩ => ⟨S3x2048, .f32⟩
  | .hbm, ⟨68, _⟩ => ⟨S3x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S_, .f32⟩
  | .hbm, ⟨76, _⟩ => ⟨S2048, .f32⟩
  | .hbm, ⟨77, _⟩ => ⟨S_, .f32⟩
  | .hbm, ⟨78, _⟩ => ⟨S4098x2048, .f32⟩
  | .hbm, ⟨79, _⟩ => ⟨S4098x2048, .f32⟩
  | .hbm, ⟨80, _⟩ => ⟨S1x2048, .f32⟩
  | .hbm, ⟨81, _⟩ => ⟨S_, .f32⟩
  | .hbm, ⟨82, _⟩ => ⟨S3x2048, .f32⟩
  | .hbm, ⟨83, _⟩ => ⟨S3x2048, .f32⟩
  | .hbm, ⟨84, _⟩ => ⟨S1x2048, .f32⟩
  | .hbm, ⟨85, _⟩ => ⟨S4096x2048, .f32⟩
  | .hbm, ⟨86, _⟩ => ⟨S1x2048, .f32⟩
  | .hbm, ⟨87, _⟩ => ⟨S4096x2048, .f32⟩
  | .hbm, ⟨88, _⟩ => ⟨S4096x2048, .f32⟩
  | .hbm, ⟨89, _⟩ => ⟨S4096x2048, .bf16⟩
  | .hbm, ⟨90, _⟩ => ⟨S4096x2048, .bf16⟩
  | .hbm, ⟨91, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Kernel17.lean ====
abbrev S4096x2048 : Shape := ⟨2, ![4096, 2048]⟩
abbrev S4096x13312 : Shape := ⟨2, ![4096, 13312]⟩
abbrev S1x4096 : Shape := ⟨2, ![1, 4096]⟩
abbrev S512x1024 : Shape := ⟨2, ![512, 1024]⟩
abbrev S1x1024 : Shape := ⟨2, ![1, 1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x13312, .bf16⟩
  | .hbm, ⟨3, _⟩ => ⟨S1x4096, .f32⟩
  | .hbm, ⟨4, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S4096x2048 : Shape := ⟨2, ![4096, 2048]⟩
abbrev S4096x13312 : Shape := ⟨2, ![4096, 13312]⟩
abbrev S1x4096 : Shape := ⟨2, ![1, 4096]⟩
abbrev S4096x4096 : Shape := ⟨2, ![4096, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x13312, .bf16⟩
  | .hbm, ⟨3, _⟩ => ⟨S1x4096, .f32⟩
  | .hbm, ⟨4, _⟩ => ⟨S4096x2048, .bf16⟩
  | .hbm, ⟨5, _⟩ => ⟨S4096x2048, .bf16⟩
  | .hbm, ⟨6, _⟩ => ⟨S4096x2048, .f32⟩
  | .hbm, ⟨7, _⟩ => ⟨S4096x2048, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel18.lean ====
abbrev S4096x2048 : Shape := ⟨2, ![4096, 2048]⟩
abbrev S4096x13312 : Shape := ⟨2, ![4096, 13312]⟩
abbrev S1x4096 : Shape := ⟨2, ![1, 4096]⟩
abbrev S1x2048 : Shape := ⟨2, ![1, 2048]⟩
abbrev S512x1024 : Shape := ⟨2, ![512, 1024]⟩
abbrev S1x1024 : Shape := ⟨2, ![1, 1024]⟩
abbrev S8x1024 : Shape := ⟨2, ![8, 1024]⟩
abbrev S64x8x1024 : Shape := ⟨3, ![64, 8, 1024]⟩
abbrev S1024 : Shape := ⟨1, ![1024]⟩

abbrev nBuf : Space → Nat
  | .hbm => 11
  | .vmem => 28
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x13312, .bf16⟩
  | .hbm, ⟨4, _⟩ => ⟨S1x4096, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S1x2048, .f32⟩
  | .hbm, ⟨10, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S8x1024, .f32⟩
  | .local _ .vmem, ⟨27, _⟩ => ⟨S8x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_33 : BitVec 32 := 0#32
  let v57 : BitVec 1 := Scalar.cmpi .ne v56 c0_i32_33
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference18Ideal.lean ====
abbrev S4096x2048 : Shape := ⟨2, ![4096, 2048]⟩
abbrev S4096x13312 : Shape := ⟨2, ![4096, 13312]⟩
abbrev S1x4096 : Shape := ⟨2, ![1, 4096]⟩
abbrev S4096x4096 : Shape := ⟨2, ![4096, 4096]⟩
abbrev S_ : Shape := ⟨0, ![]⟩
abbrev S4096 : Shape := ⟨1, ![4096]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x13312, .bf16⟩
  | .hbm, ⟨4, _⟩ => ⟨S1x4096, .f32⟩
  | .hbm, ⟨5, _⟩ => ⟨S4096x2048, .bf16⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | .hbm, ⟨35, _⟩ => ⟨S4096x2048, .f32⟩
  | .hbm, ⟨36, _⟩ => ⟨S4096x2048, .f32⟩
  | .hbm, ⟨37, _⟩ => ⟨S4096x2048, .bf16⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S1x4096, .f32⟩
  | .hbm, ⟨43, _⟩ => ⟨S4096x2048, .f32⟩
  | .hbm, ⟨44, _⟩ => ⟨S4096x2048, .f32⟩
  | .hbm, ⟨45, _⟩ => ⟨S4096x2048, .bf16⟩
  | .hbm, ⟨46, _⟩ => ⟨S4096x2048, .bf16⟩
  | .hbm, ⟨47, _⟩ => ⟨S1x2048, .f32⟩
  | .hbm, ⟨48, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Proof.KerPay.lean ====
/- What the kernel body's values are at an index. -/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KerAttn

open Cert.KernelIdeal Cert.KernelIdeal.Gen Idealize.ShloMosaic.Pointwise

theorem p_at (k : Vec Ideal S4096x128 .bf16) (q : Vec Ideal S256x128 .bf16) (l : Vec Ideal S1x256x1 .f32) (r : Fin 256) (s : Fin 4096) :
    k0_pay6 k q l (ix2 r s) = Ideal.exp ((∑ d : Fin 128, q (ix2 r d) * k (ix2 s d)) - l (ix3 0 r 0)) := by
  pointwise [k0_pay6]

theorem ds_at (k v : Vec Ideal S4096x128 .bf16) (q d o : Vec Ideal S256x128 .bf16) (l : Vec Ideal S1x256x1 .f32) (r : Fin 256) (s : Fin 4096) :
    k0_pay7 k v q d o l (ix2 r s) = k0_pay6 k q l (ix2 r s) * ((∑ e : Fin 128, d (ix2 r e) * v (ix2 s e)) - ∑ e : Fin 128, d (ix2 r e) * o (ix2 r e)) := by
  pointwise [k0_pay7]

theorem dq_at (k v : Vec Ideal S4096x128 .bf16) (q d o : Vec Ideal S256x128 .bf16) (l : Vec Ideal S1x256x1 .f32) (r : Fin 256) (e : Fin 128) :
    k0_pay8 k v q d o l (ix2 r e) = ∑ s : Fin 4096, k0_pay7 k v q d o l (ix2 r s) * k (ix2 s e) := by
  pointwise [k0_pay8]

theorem acc_at (a : Vec Ideal S4096x128 .f32) (p : Vec Ideal S1024x4096 .bf16) (d : Vec Ideal S1024x128 .bf16) (s : Fin 4096) (e : Fin 128) :
    k0_pay36 a p d (ix2 s e) = a (ix2 s e) + ∑ x : Fin 1024, p (ix2 x s) * d (ix2 x e) := by
  pointwise [k0_pay36]

theorem acc_at' (a : Vec Ideal S4096x128 .f32) (p : Vec Ideal S1024x4096 .bf16) (d : Vec Ideal S1024x128 .bf16) (s : Fin 4096) (e : Fin 128) :
    k0_pay37 a p d (ix2 s e) = a (ix2 s e) + ∑ x : Fin 1024, p (ix2 x s) * d (ix2 x e) := by
  pointwise [k0_pay37]

theorem zero_at (i : S4096x128.Idx) : (k0_pay4 (F := Ideal) i : EReal) = 0 := by
  pointwise [k0_pay4]

theorem zero_at' (i : S4096x128.Idx) : (k0_pay5 (F := Ideal) i : EReal) = 0 := by
  pointwise [k0_pay5]

theorem pay15_eq : @k0_pay15 Ideal _ = k0_pay8 := rfl
theorem pay23_eq : @k0_pay23 Ideal _ = k0_pay8 := rfl

end Cert.KerAttn

end
-- ==== Proof.RefAttn.lean ====
/- What the reference of the attention's gradient computes, one named array per line of its mathematics, and each
   array read at an index. -/
module

public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RefAttn

open Cert.ReferenceIdeal Cert.ReferenceIdeal.Gen Idealize.ShloMosaic.Pointwise

/-- The scores `q · k`, indexed by kv head, group, query row and key row. -/
def sc (Q : FVec Ideal S4096x2048 .bf16) (K : FVec Ideal S4096x512 .bf16) : FVec Ideal S4x4x4096x4096 .f32 :=
  transpose S4x4x4096x4096 [0, 3, 2, 1] (Host.dotGeneral dot_S4096x4x128_S4096x4x4x128_S4x4096x4096x4_2_3_0_02_1_1 none
    (shapeCast S4096x4x128 (extf .f32 K bitsLt_bf16_f32) shapeCasts_S4096x512_S4096x4x128)
    (shapeCast S4096x4x4x128 (extf .f32 Q bitsLt_bf16_f32) shapeCasts_S4096x2048_S4096x4x4x128)) transposes_S4x4096x4096x4_S4x4x4096x4096_0_3_2_1

/-- The largest score of each query row. -/
def mx (Q : FVec Ideal S4096x2048 .bf16) (K : FVec Ideal S4096x512 .bf16) : FVec Ideal S4x4x4096 .f32 :=
  maximumf (broadcastInDim S4x4x4096 ![] bcast_S_S4x4x4096 (constant S_ .f32 0xFF800000#32))
    (Host.reduce FloatOps.maximumf (sc Q K) (constant S_ .f32 0xFF800000#32) reducesTo_S4x4x4096x4096_S4x4x4096_d3 h_S_)

/-- The exponentials of the scores less the row's largest. -/
def ex (Q : FVec Ideal S4096x2048 .bf16) (K : FVec Ideal S4096x512 .bf16) : FVec Ideal S4x4x4096x4096 .f32 :=
  Host.exp (subf (sc Q K) (broadcastInDim S4x4x4096x4096 ![0, 1, 2, 3] bcast_S4x4x4096x1_S4x4x4096x4096_0_1_2_3
    (broadcastInDim S4x4x4096x1 ![0, 1, 2] bcast_S4x4x4096_S4x4x4096x1_0_1_2 (mx Q K))))

/-- The sum of each row's exponentials. -/
def sm (Q : FVec Ideal S4096x2048 .bf16) (K : FVec Ideal S4096x512 .bf16) : FVec Ideal S4x4x4096x1 .f32 :=
  broadcastInDim S4x4x4096x1 ![0, 1, 2] bcast_S4x4x4096_S4x4x4096x1_0_1_2
    (Host.reduceAdd (ex Q K) (constant S_ .f32 0x00000000#32) reducesTo_S4x4x4096x4096_S4x4x4096_d3 h_S_)

/-- The gradient of the softmax's probabilities, `do · v`. -/
def dp (V : FVec Ideal S4096x512 .bf16) (D : FVec Ideal S4096x2048 .bf16) : FVec Ideal S4x4x4096x4096 .f32 :=
  Host.dotGeneral dot_S4x128x4x4096_S4096x4x128_S4x4x4096x4096_1_2_23_0_0_1 none
    (transpose S4x128x4x4096 [1, 3, 2, 0] (shapeCast S4096x4x4x128 (extf .f32 D bitsLt_bf16_f32) shapeCasts_S4096x2048_S4096x4x4x128) transposes_S4096x4x4x128_S4x128x4x4096_1_3_2_0)
    (shapeCast S4096x4x128 (extf .f32 V bitsLt_bf16_f32) shapeCasts_S4096x512_S4096x4x128)

/-- The gradient of the scores. -/
def ds (Q : FVec Ideal S4096x2048 .bf16) (K V : FVec Ideal S4096x512 .bf16) (D : FVec Ideal S4096x2048 .bf16) : FVec Ideal S4x4x4096x4096 .f32 :=
  mulf (addf (Host.divf (dp V D) (broadcastInDim S4x4x4096x4096 ![0, 1, 2, 3] bcast_S4x4x4096x1_S4x4x4096x4096_0_1_2_3 (sm Q K)))
    (broadcastInDim S4x4x4096x4096 ![0, 1, 2] bcast_S4x4x4096_S4x4x4096x4096_0_1_2
      (Host.reduceAdd (Host.negf (shapeCast S4x4x4096x1
        (Host.reduceAdd (mulf (mulf (dp V D) (broadcastInDim S4x4x4096x4096 ![0, 1, 2, 3] bcast_S4x4x4096x1_S4x4x4096x4096_0_1_2_3
          (Host.divf (broadcastInDim S4x4x4096x1 ![] bcast_S_S4x4x4096x1 (constant S_ .f32 0x3F800000#32)) (mulf (sm Q K) (sm Q K))))) (ex Q K))
          (constant S_ .f32 0x00000000#32) reducesTo_S4x4x4096x4096_S4x4x4096_d3 h_S_) shapeCasts_S4x4x4096_S4x4x4096x1))
        (constant S_ .f32 0x00000000#32) reducesTo_S4x4x4096x1_S4x4x4096_d3 h_S_))) (ex Q K)

/-- The gradient of q from the gradient of the scores. -/
def dqOf (S : FVec Ideal S4x4x4096x4096 .f32) (K : FVec Ideal S4096x512 .bf16) : FVec Ideal S4096x2048 .bf16 :=
  truncf .bf16 (shapeCast S4096x2048 (transpose S4096x4x4x128 [1, 0, 2, 3] (Host.dotGeneral dot_S4x4096x4096x4_S4096x4x128_S4x4096x4x128_1_0_23_2_0_1 none
    (transpose S4x4096x4096x4 [0, 3, 2, 1] S transposes_S4x4x4096x4096_S4x4096x4096x4_0_3_2_1)
    (shapeCast S4096x4x128 (extf .f32 K bitsLt_bf16_f32) shapeCasts_S4096x512_S4096x4x128)) transposes_S4x4096x4x128_S4096x4x4x128_1_0_2_3) shapeCasts_S4096x4x4x128_S4096x2048) bitsLt_bf16_f32

/-- The gradient of k from the gradient of the scores. -/
def dkOf (S : FVec Ideal S4x4x4096x4096 .f32) (Q : FVec Ideal S4096x2048 .bf16) : FVec Ideal S4096x512 .bf16 :=
  truncf .bf16 (shapeCast S4096x512 (transpose S4096x4x128 [1, 0, 2] (Host.dotGeneral dot_S4x4096x4096x4_S4096x4x4x128_S4x4096x128_23_02_1_3_0_1 none
    (transpose S4x4096x4096x4 [0, 3, 2, 1] S transposes_S4x4x4096x4096_S4x4096x4096x4_0_3_2_1)
    (shapeCast S4096x4x4x128 (extf .f32 Q bitsLt_bf16_f32) shapeCasts_S4096x2048_S4096x4x4x128)) transposes_S4x4096x128_S4096x4x128_1_0_2) shapeCasts_S4096x4x128_S4096x512) bitsLt_bf16_f32

/-- The softmax's probabilities. -/
def pr (Q : FVec Ideal S4096x2048 .bf16) (K : FVec Ideal S4096x512 .bf16) : FVec Ideal S4x4x4096x4096 .f32 :=
  Host.divf (ex Q K) (broadcastInDim S4x4x4096x4096 ![0, 1, 2, 3] bcast_S4x4x4096x1_S4x4x4096x4096_0_1_2_3 (sm Q K))

/-- The gradient of v from the probabilities. -/
def dvOf (P : FVec Ideal S4x4x4096x4096 .f32) (D : FVec Ideal S4096x2048 .bf16) : FVec Ideal S4096x512 .bf16 :=
  truncf .bf16 (shapeCast S4096x512 (transpose S4096x4x128 [2, 0, 1] (Host.dotGeneral dot_S4x128x4x4096_S4x4x4096x4096_S4x128x4096_23_12_1_3_0_0 none
    (transpose S4x128x4x4096 [1, 3, 2, 0] (shapeCast S4096x4x4x128 (extf .f32 D bitsLt_bf16_f32) shapeCasts_S4096x2048_S4096x4x4x128) transposes_S4096x4x4x128_S4x128x4x4096_1_3_2_0)
    P) transposes_S4x128x4096_S4096x4x128_2_0_1) shapeCasts_S4096x4x128_S4096x512) bitsLt_bf16_f32

/-- A column of the 2048-wide arrays: kv head `h`, group `g`, feature `d`. -/
abbrev qcol (h g : Fin 4) (d : Fin 128) : Fin 2048 := ⟨512 * h.val + 128 * g.val + d.val, by omega⟩
/-- A column of the 512-wide arrays: kv head `h`, feature `d`. -/
abbrev kcol (h : Fin 4) (d : Fin 128) : Fin 512 := ⟨128 * h.val + d.val, by omega⟩

end Cert.RefAttn

end
-- ==== Proof.AttnMath.lean ====
/- The mathematics of the attention's gradient on one row, over the real numbers and then over the extended reals with
   finite entries: the gradient of the scores from the saved log of the sum of exponentials, as the kernel forms it, is
   the one that differentiating the softmax gives. -/
module

public import Idealize.ShloMosaic.Lib.Pipeline.ValueKit
public import Idealize.ShloMosaic.Lib.Pointwise

@[expose] public section

noncomputable section

open Idealize.ShloMosaic

namespace Cert.AttnMath

/-- A finite sum of real numbers, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array whose entries are all real is the image of a real one. -/
theorem exists_real {ι : Type*} (x : ι → EReal) (h : ∀ i, ∃ r : ℝ, x i = r) : ∃ y : ι → ℝ, x = fun i => (y i : EReal) :=
  ⟨fun i => (h i).choose, funext fun i => (h i).choose_spec⟩

/-- The largest of finitely many reals, from minus infinity, is a real when there is at least one. -/
theorem fold_max_real {ι : Type*} (s : Finset ι) (x : ι → EReal) (hx : ∀ i, ∃ r : ℝ, x i = r) (hs : s.Nonempty) :
    ∃ M : ℝ, s.fold max (⊥ : EReal) x = M := by
  classical
  have key : ∀ s : Finset ι, (s = ∅ ∧ s.fold max (⊥ : EReal) x = ⊥) ∨ ∃ M : ℝ, s.fold max (⊥ : EReal) x = M := by
    intro s
    induction s using Finset.induction_on with
    | empty => exact .inl ⟨rfl, rfl⟩
    | insert a s ha ih =>
      right
      rw [Finset.fold_insert ha]
      obtain ⟨r, hr⟩ := hx a
      rw [hr]
      rcases ih with ⟨_, h⟩ | ⟨M, h⟩
      · rw [h]; exact ⟨r, max_eq_left bot_le⟩
      · rw [h]; exact ⟨max r M, by rcases le_total r M with h | h <;> simp [h]⟩
  rcases key s with ⟨h, _⟩ | h
  · exact absurd h hs.ne_empty
  · exact h

/-- The maximum over one axis of an array of reals, from minus infinity, is a real. -/
theorem reduce_max_real {s t u : Shape} {a : Fin s.rank} (x : FVec Ideal s .f32) (init : FVec Ideal u .f32)
    (h' : s.ReducesTo [a] t) (h : s.Reduces [a] t) (hu : 0 < u.numel) (j : t.Idx) (hi : init (Shape.Idx.first hu) = (⊥ : EReal))
    (hx : ∀ i, ∃ r : ℝ, (x i : EReal) = r) (hn : 0 < s.size a) :
    ∃ M : ℝ, (Host.reduce (FloatOps.maximumf (F := Ideal) (φ := .f32)) x init h' hu j : EReal) = M := by
  rw [Host.reduce_eq_fold_single _ x init h' h hu j, hi]
  exact fold_max_real Finset.univ (x ∘ h.lift j) (fun k => hx _) ⟨⟨0, hn⟩, Finset.mem_univ _⟩

section Row

variable {κ δ : Type} [Fintype κ] [Fintype δ]

/-- The probability the kernel forms from the saved log of the sum of exponentials. -/
theorem exp_sub_lse [Nonempty κ] (S : κ → ℝ) (M M' : ℝ) (s : κ) :
    Ideal.exp ((S s : EReal) - ((M : EReal) + Ideal.log (∑ s', Ideal.exp ((S s' : EReal) - (M : EReal)))))
      = ((Real.exp (S s - M') / ∑ s', Real.exp (S s' - M') : ℝ) : EReal) := by
  have e1 : ∀ s', Ideal.exp ((S s' : EReal) - (M : EReal)) = ((Real.exp (S s' - M) : ℝ) : EReal) := fun s' => by
    rw [← EReal.coe_sub]; rfl
  have hp : 0 < ∑ s', Real.exp (S s' - M) := Finset.sum_pos (fun _ _ => Real.exp_pos _) Finset.univ_nonempty
  have hp' : 0 < ∑ s', Real.exp (S s' - M') := Finset.sum_pos (fun _ _ => Real.exp_pos _) Finset.univ_nonempty
  have e2 : Ideal.log ((∑ s', Real.exp (S s' - M) : ℝ) : EReal) = ((Real.log (∑ s', Real.exp (S s' - M)) : ℝ) : EReal) := by
    show (if (∑ s', Real.exp (S s' - M)) ≤ 0 then (⊥ : EReal) else _) = _
    rw [if_neg (not_le.2 hp)]
  simp only [e1]
  rw [← coe_sum, e2, ← EReal.coe_add, ← EReal.coe_sub]
  show ((Real.exp _ : ℝ) : EReal) = _
  congr 1
  rw [Real.exp_sub, Real.exp_add, Real.exp_log hp, eq_div_iff hp'.ne']
  have e3 : ∀ s', Real.exp (S s' - M') = Real.exp (S s' - M) * Real.exp (M - M') := fun s' => by
    rw [← Real.exp_add]; congr 1; ring
  have e4 : Real.exp (S s) = Real.exp (S s - M) * Real.exp M := by rw [← Real.exp_add]; congr 1; ring
  simp only [e3]
  rw [← Finset.sum_mul, e4]
  field_simp [hp.ne', (Real.exp_pos M).ne']

/-- Dividing reals by a positive real. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The sum of the output's gradient against the output is the sum of the probabilities against their gradient. -/
theorem delta_eq (p : κ → ℝ) (V : κ → δ → ℝ) (D : δ → ℝ) :
    ∑ d, D d * ∑ s, V s d * p s = ∑ s, p s * ∑ d, D d * V s d := by
  simp only [Finset.mul_sum]
  rw [Finset.sum_comm]
  exact Finset.sum_congr rfl fun s _ => Finset.sum_congr rfl fun d _ => by ring

end Row

end Cert.AttnMath

end
-- ==== Proof.RefReads.lean ====
/- Each named array of the reference of the attention's gradient read at an index. -/
module

public import proofs.«01_k».proof.Proof.RefAttn
public import proofs.«01_k».proof.Proof.AttnMath

@[expose] public section

set_option maxRecDepth 16384

noncomputable section

open Idealize.ShloMosaic Idealize.ShloMosaic.TcCoe Idealize.SL.Sem

namespace Cert.RefAttn

open Cert.ReferenceIdeal Cert.ReferenceIdeal.Gen Idealize.ShloMosaic.Pointwise

theorem sc_at (Q : FVec Ideal S4096x2048 .bf16) (K : FVec Ideal S4096x512 .bf16) (h g : Fin 4) (i s : Fin 4096) :
    sc Q K (ix4 h g i s) = ∑ d : Fin 128, K (ix2 s (kcol h d)) * Q (ix2 i (qcol h g d)) := by
  pointwise [sc]
  refine Finset.sum_congr rfl fun d _ => ?_
  blk_point []

theorem ex_at (Q : FVec Ideal S4096x2048 .bf16) (K : FVec Ideal S4096x512 .bf16) (h g : Fin 4) (i s : Fin 4096) :
    ex Q K (ix4 h g i s) = Ideal.exp (sc Q K (ix4 h g i s) - mx Q K (ix3 h g i)) := by
  pointwise [ex]

theorem sm_at (Q : FVec Ideal S4096x2048 .bf16) (K : FVec Ideal S4096x512 .bf16) (h g : Fin 4) (i : Fin 4096) (z : Fin 1) :
    sm Q K (ix4 h g i z) = ∑ s : Fin 4096, ex Q K (ix4 h g i s) := by
  pointwise [sm]

theorem pr_at (Q : FVec Ideal S4096x2048 .bf16) (K : FVec Ideal S4096x512 .bf16) (h g : Fin 4) (i s : Fin 4096) :
    pr Q K (ix4 h g i s) = Ideal.div (ex Q K (ix4 h g i s)) (sm Q K (ix4 h g i 0)) := by
  pointwise [pr]

theorem dp_at (V : FVec Ideal S4096x512 .bf16) (D : FVec Ideal S4096x2048 .bf16) (h g : Fin 4) (i s : Fin 4096) :
    dp V D (ix4 h g i s) = ∑ d : Fin 128, D (ix2 i (qcol h g d)) * V (ix2 s (kcol h d)) := by
  pointwise [dp]
  refine Finset.sum_congr rfl fun d _ => ?_
  blk_point []

theorem ds_at (Q : FVec Ideal S4096x2048 .bf16) (K V : FVec Ideal S4096x512 .bf16) (D : FVec Ideal S4096x2048 .bf16) (h g : Fin 4) (i s : Fin 4096) :
    ds Q K V D (ix4 h g i s) = (Ideal.div (dp V D (ix4 h g i s)) (sm Q K (ix4 h g i 0))
      + -∑ s' : Fin 4096, dp V D (ix4 h g i s') * Ideal.div 1 (sm Q K (ix4 h g i 0) * sm Q K (ix4 h g i 0)) * ex Q K (ix4 h g i s')) * ex Q K (ix4 h g i s) := by
  pointwise [ds]
  rw [Fin.sum_univ_one]

theorem dqOf_at (S : FVec Ideal S4x4x4096x4096 .f32) (K : FVec Ideal S4096x512 .bf16) (h g : Fin 4) (i : Fin 4096) (d : Fin 128) :
    dqOf S K (ix2 i (qcol h g d)) = ∑ s : Fin 4096, S (ix4 h g i s) * K (ix2 s (kcol h d)) := by
  pointwise [dqOf]
  refine Finset.sum_congr rfl fun s _ => ?_
  blk_point []

theorem dkOf_at (S : FVec Ideal S4x4x4096x4096 .f32) (Q : FVec Ideal S4096x2048 .bf16) (h : Fin 4) (s : Fin 4096) (d : Fin 128) :
    dkOf S Q (ix2 s (kcol h d)) = ∑ i : Fin 4096, ∑ g : Fin 4, S (ix4 h g i s) * Q (ix2 i (qcol h g d)) := by
  pointwise [dkOf]
  refine Finset.sum_congr rfl fun i _ => Finset.sum_congr rfl fun g _ => ?_
  blk_point []

theorem dvOf_at (P : FVec Ideal S4x4x4096x4096 .f32) (D : FVec Ideal S4096x2048 .bf16) (h : Fin 4) (s : Fin 4096) (d : Fin 128) :
    dvOf P D (ix2 s (kcol h d)) = ∑ g : Fin 4, ∑ i : Fin 4096, D (ix2 i (qcol h g d)) * P (ix4 h g i s) := by
  pointwise [dvOf]
  refine Finset.sum_congr rfl fun g _ => Finset.sum_congr rfl fun i _ => ?_
  blk_point []

/-- The larger of two arrays at an index is the larger of the two entries. -/
theorem maximumf_entry {s : Shape} (x y : FVec Ideal s .f32) (j : s.Idx) : (maximumf x y j : EReal) = max (x j : EReal) (y j) := rfl

/-- A constant broadcast to a shape is that constant at every index. -/
theorem bcast_entry {s t : Shape} (x : FVec Ideal s .f32) (b : Fin s.rank → Fin t.rank) (h) (r : EReal) (hx : ∀ i, (x i : EReal) = r) (j : t.Idx) :
    (broadcastInDim t b h x j : EReal) = r := hx _

/-- The row maximum starts from minus infinity. -/
theorem init_entry (i : S_.Idx) : (constant (F := Ideal) S_ .f32 0xFF800000#32 i : EReal) = ⊥ := by
  show Ideal.ofBits .f32 0xFF800000#32 = ⊥
  simp [Ideal.ofBits, Ideal.ieee]

/-- With real scores the row's largest is a real. -/
theorem mx_real (Q : FVec Ideal S4096x2048 .bf16) (K : FVec Ideal S4096x512 .bf16) (hs : ∀ i, ∃ r : ℝ, (sc Q K i : EReal) = r) (j : S4x4x4096.Idx) :
    ∃ M : ℝ, (mx Q K j : EReal) = M := by
  obtain ⟨M, hM⟩ := AttnMath.reduce_max_real (sc Q K) (constant S_ .f32 0xFF800000#32) reducesTo_S4x4x4096x4096_S4x4x4096_d3
    (by decide) h_S_ j (init_entry _) hs (by decide)
  refine ⟨M, ?_⟩
  rw [mx, maximumf_entry, bcast_entry _ _ _ ⊥ init_entry, hM]
  exact max_eq_right bot_le

/-- The reference's first result is the gradient of q. -/
theorem res0 (m : (ℓ : Loc nD τ sig) → Buf (Elt Ideal) ℓ) (c : Dev nD) : Cert.ReferenceIdeal.Value.res_main_v65 m c = dqOf (ds (m ((c : Thread nD τ).loc main_arg0)) (m ((c : Thread nD τ).loc main_arg1)) (m ((c : Thread nD τ).loc main_arg2)) (m ((c : Thread nD τ).loc main_arg3))) (m ((c : Thread nD τ).loc main_arg1)) := rfl

/-- The reference's second result is the gradient of k. -/
theorem res1 (m : (ℓ : Loc nD τ sig) → Buf (Elt Ideal) ℓ) (c : Dev nD) : Cert.ReferenceIdeal.Value.res_main_v63 m c = dkOf (ds (m ((c : Thread nD τ).loc main_arg0)) (m ((c : Thread nD τ).loc main_arg1)) (m ((c : Thread nD τ).loc main_arg2)) (m ((c : Thread nD τ).loc main_arg3))) (m ((c : Thread nD τ).loc main_arg0)) := rfl

end Cert.RefAttn

end
-- ==== Proof.KerHost.lean ====
/- What the kernel program computes on the host before its launch: the attention's output and the log of the sum of
   exponentials, read at an index. -/
module

public import proofs.«01_k».proof.Proof.Gen.KernelIdeal.Value
public import proofs.«01_k».proof.Proof.RefReads

@[expose] public section

set_option maxRecDepth 16384

noncomputable section

open Idealize.ShloMosaic Idealize.ShloMosaic.TcCoe Idealize.SL.Sem

namespace Cert.KerAttn

open Cert.KernelIdeal Cert.KernelIdeal.Gen Idealize.ShloMosaic.Pointwise
open Cert.RefAttn (sc mx ex sm pr qcol kcol)

/-- The attention's output, as the host computes it. -/
def oArr (Q : FVec Ideal S4096x2048 .bf16) (K V : FVec Ideal S4096x512 .bf16) : FVec Ideal S4096x2048 .bf16 :=
  truncf .bf16 (shapeCast S4096x2048 (transpose S4096x4x4x128 [3, 0, 2, 1] (Host.dotGeneral dot_S4096x4x128_S4x4x4096x4096_S4x128x4x4096_0_3_2_12_1_0 none
    (shapeCast S4096x4x128 (extf .f32 V bitsLt_bf16_f32) shapeCasts_S4096x512_S4096x4x128) (pr Q K)) transposes_S4x128x4x4096_S4096x4x4x128_3_0_2_1) shapeCasts_S4096x4x4x128_S4096x2048) bitsLt_bf16_f32

/-- The largest score of each row, as the host computes it for the log of the sum. -/
def mxH (Q : FVec Ideal S4096x2048 .bf16) (K : FVec Ideal S4096x512 .bf16) : FVec Ideal S4x4x4096 .f32 :=
  Host.reduce FloatOps.maximumf (sc Q K) (constant S_ .f32 0xFF800000#32) reducesTo_S4x4x4096x4096_S4x4x4096_d3 h_S_

/-- The row's largest, with a last axis of one. -/
def mxB (Q : FVec Ideal S4096x2048 .bf16) (K : FVec Ideal S4096x512 .bf16) : FVec Ideal S4x4x4096x1 .f32 :=
  broadcastInDim S4x4x4096x1 ![0, 1, 2] bcast_S4x4x4096_S4x4x4096x1_0_1_2 (mxH Q K)

/-- The exponentials of the scores less the row's largest. -/
def exH (Q : FVec Ideal S4096x2048 .bf16) (K : FVec Ideal S4096x512 .bf16) : FVec Ideal S4x4x4096x4096 .f32 :=
  Host.exp (subf (sc Q K) (broadcastInDim S4x4x4096x4096 ![0, 1, 2, 3] bcast_S4x4x4096x1_S4x4x4096x4096_0_1_2_3 (mxB Q K)))

/-- The sum of each row's exponentials. -/
def smH (Q : FVec Ideal S4096x2048 .bf16) (K : FVec Ideal S4096x512 .bf16) : FVec Ideal S4x4x4096 .f32 :=
  Host.reduceAdd (exH Q K) (constant S_ .f32 0x00000000#32) reducesTo_S4x4x4096x4096_S4x4x4096_d3 h_S_

/-- The row's largest plus the log of the row's sum, in the layout the launch takes. -/
def lseOf (A : FVec Ideal S4x4x4096x1 .f32) (B : FVec Ideal S4x4x4096 .f32) : FVec Ideal S4x4096x4 .f32 :=
  transpose S4x4096x4 [0, 2, 1] (shapeCast S4x4x4096 (addf A
    (Host.log (broadcastInDim S4x4x4096x1 ![0, 1, 2] bcast_S4x4x4096_S4x4x4096x1_0_1_2 B))) shapeCasts_S4x4x4096x1_S4x4x4096) transposes_S4x4x4096_S4x4096x4_0_2_1

/-- The log of the sum of exponentials, as the host computes it. -/
def lseArr (Q : FVec Ideal S4096x2048 .bf16) (K : FVec Ideal S4096x512 .bf16) : FVec Ideal S4x4096x4 .f32 :=
  lseOf (mxB Q K) (smH Q K)

theorem o_at (Q : FVec Ideal S4096x2048 .bf16) (K V : FVec Ideal S4096x512 .bf16) (h g : Fin 4) (i : Fin 4096) (d : Fin 128) :
    oArr Q K V (ix2 i (qcol h g d)) = ∑ s : Fin 4096, V (ix2 s (kcol h d)) * pr Q K (ix4 h g i s) := by
  pointwise [oArr]
  refine Finset.sum_congr rfl fun s _ => ?_
  generalize pr Q K = P
  blk_point []

theorem exH_at (Q : FVec Ideal S4096x2048 .bf16) (K : FVec Ideal S4096x512 .bf16) (h g : Fin 4) (i s : Fin 4096) :
    exH Q K (ix4 h g i s) = Ideal.exp (sc Q K (ix4 h g i s) - mxH Q K (ix3 h g i)) := by
  pointwise [exH, mxB]

theorem smH_at (Q : FVec Ideal S4096x2048 .bf16) (K : FVec Ideal S4096x512 .bf16) (h g : Fin 4) (i : Fin 4096) :
    smH Q K (ix3 h g i) = ∑ s : Fin 4096, exH Q K (ix4 h g i s) := by
  pointwise [smH]

theorem lseOf_at (A : FVec Ideal S4x4x4096x1 .f32) (B : FVec Ideal S4x4x4096 .f32) (h g : Fin 4) (i : Fin 4096) :
    lseOf A B (ix3 h i g) = A (ix4 h g i 0) + Ideal.log (B (ix3 h g i)) := by
  pointwise [lseOf]

theorem bcast_at (B : FVec Ideal S4x4x4096 .f32) (h g : Fin 4) (i : Fin 4096) (z : Fin 1) :
    broadcastInDim S4x4x4096x1 ![0, 1, 2] bcast_S4x4x4096_S4x4x4096x1_0_1_2 B (ix4 h g i z) = B (ix3 h g i) := by
  pointwise []

theorem lse_at (Q : FVec Ideal S4096x2048 .bf16) (K : FVec Ideal S4096x512 .bf16) (h g : Fin 4) (i : Fin 4096) :
    lseArr Q K (ix3 h i g) = mxH Q K (ix3 h g i) + Ideal.log (∑ s : Fin 4096, exH Q K (ix4 h g i s)) := by
  rw [lseArr, lseOf_at, mxB, bcast_at, smH_at]

/-- With real scores the row's largest is a real. -/
theorem mxH_real (Q : FVec Ideal S4096x2048 .bf16) (K : FVec Ideal S4096x512 .bf16) (hs : ∀ i, ∃ r : ℝ, (sc Q K i : EReal) = r) (j : S4x4x4096.Idx) :
    ∃ M : ℝ, (mxH Q K j : EReal) = M := by
  rw [mxH]
  exact AttnMath.reduce_max_real (sc Q K) (constant S_ .f32 0xFF800000#32) reducesTo_S4x4x4096x4096_S4x4x4096_d3
    (by decide) h_S_ j (RefAttn.init_entry _) hs (by decide)

/-- The launch finds the attention's output in its fifth operand. -/
theorem V_o (m : (ℓ : Loc nD τ sig) → Buf (Elt Ideal) ℓ) (c : Dev nD) : V m c main_v22 = oArr (m ((c : Thread nD τ).loc main_arg0)) (m ((c : Thread nD τ).loc main_arg1)) (m ((c : Thread nD τ).loc main_arg2)) := by
  unfold V
  after_results_simp
  rfl

/-- The launch finds the log of the sum of exponentials in its sixth operand. -/
theorem V_lse (m : (ℓ : Loc nD τ sig) → Buf (Elt Ideal) ℓ) (c : Dev nD) : V m c main_v39 = lseArr (m ((c : Thread nD τ).loc main_arg0)) (m ((c : Thread nD τ).loc main_arg1)) := by
  unfold V
  after_results_simp
  rfl

end Cert.KerAttn

end
-- ==== Proof.KerPoint.lean ====
/- The gradient kernel's blocks at one grid point, in the entries of the argument arrays. -/
module

public import proofs.«01_k».proof.Proof.KerPay
public import proofs.«01_k».proof.Proof.KerHost
public import Idealize.ShloMosaic.Lib.Pipeline.ReadBack

@[expose] public section

set_option maxRecDepth 16384

noncomputable section

open Idealize.ShloMosaic Idealize.ShloMosaic.TcCoe Idealize.SL.Sem

namespace Cert.KerAttn

open Cert.KernelIdeal Cert.KernelIdeal.Gen Idealize.ShloMosaic.Pointwise
open Cert.RefAttn (qcol kcol)

/-- The probability the kernel forms from the scores and the saved log of the sum of exponentials. -/
def pK (Q : FVec Ideal S4096x2048 .bf16) (K : FVec Ideal S4096x512 .bf16) (L : FVec Ideal S4x4096x4 .f32) (h g : Fin 4) (i s : Fin 4096) : EReal :=
  Ideal.exp ((∑ d : Fin 128, Q (ix2 i (qcol h g d)) * K (ix2 s (kcol h d))) - L (ix3 h i g))

/-- The gradient of the scores as the kernel forms it. -/
def dsK (Q : FVec Ideal S4096x2048 .bf16) (K V : FVec Ideal S4096x512 .bf16) (D O : FVec Ideal S4096x2048 .bf16) (L : FVec Ideal S4x4096x4 .f32) (h g : Fin 4) (i s : Fin 4096) : EReal :=
  pK Q K L h g i s * ((∑ e : Fin 128, D (ix2 i (qcol h g e)) * V (ix2 s (kcol h e))) - ∑ e : Fin 128, D (ix2 i (qcol h g e)) * O (ix2 i (qcol h g e)))

variable (m : (ℓ : Loc nD τ sig) → Buf (Elt Ideal) ℓ) (c : Dev nD)

abbrev aQ : FVec Ideal S4096x2048 .bf16 := m ((c : Thread nD τ).loc main_arg0)
abbrev aK : FVec Ideal S4096x512 .bf16 := m ((c : Thread nD τ).loc main_arg1)
abbrev aV : FVec Ideal S4096x512 .bf16 := m ((c : Thread nD τ).loc main_arg2)
abbrev aD : FVec Ideal S4096x2048 .bf16 := m ((c : Thread nD τ).loc main_arg3)

/-- The block each window stages at each point. -/
theorem idx : ∀ t : Fin cfg0.N, win0_0.index t = ![t.val % 16, t.val / 16] ∧ win0_1.index t = ![0, t.val / 16] ∧ win0_2.index t = ![0, t.val / 16]
    ∧ win0_3.index t = ![t.val % 16, t.val / 16] ∧ win0_4.index t = ![t.val % 16, t.val / 16] ∧ win0_5.index t = ![t.val / 16, t.val % 16, 0]
    ∧ win0_6.index t = ![t.val % 16, t.val / 16] ∧ win0_7.index t = ![0, t.val / 16] ∧ win0_8.index t = ![0, t.val / 16] :=
  (by decide +kernel : ∀ t : Fin grid0.N, _)

theorem N64 : cfg0.N = 64 := N_0

/-- The kv head of a point. -/
abbrev hd (t : Fin cfg0.N) : Fin 4 := ⟨t.val / 16, by have : t.val < 64 := lt_of_lt_of_eq t.isLt N64; omega⟩
/-- The row of the whole array that row `r` of a point's block is. -/
abbrev row (t : Fin cfg0.N) (r : Fin 256) : Fin 4096 := ⟨256 * (t.val % 16) + r.val, by omega⟩
abbrev gOf (x : Fin 1024) : Fin 4 := ⟨x.val / 256, by omega⟩
abbrev rOf (x : Fin 1024) : Fin 256 := ⟨x.val % 256, by omega⟩

/-- Block reads, in the entries of the arrays. -/
theorem blkQ (t : Fin cfg0.N) (r : Fin 256) (g : Fin 4) (d : Fin 128) (x : Fin 512) (hx : x.val = 128 * g.val + d.val) :
    (show FVec Ideal S256x512 .bf16 from iblk m c 0 t) (ix2 r x) = aQ m c (ix2 (row t r) (qcol (hd t) g d)) := by
  blk_point [iblk, V, idx t]

theorem blkK (t : Fin cfg0.N) (s : Fin 4096) (d : Fin 128) :
    (show FVec Ideal S4096x128 .bf16 from iblk m c 1 t) (ix2 s d) = aK m c (ix2 s (kcol (hd t) d)) := by
  blk_point [iblk, V, idx t]

theorem blkV (t : Fin cfg0.N) (s : Fin 4096) (d : Fin 128) :
    (show FVec Ideal S4096x128 .bf16 from iblk m c 2 t) (ix2 s d) = aV m c (ix2 s (kcol (hd t) d)) := by
  blk_point [iblk, V, idx t]

theorem blkD (t : Fin cfg0.N) (r : Fin 256) (g : Fin 4) (d : Fin 128) (x : Fin 512) (hx : x.val = 128 * g.val + d.val) :
    (show FVec Ideal S256x512 .bf16 from iblk m c 3 t) (ix2 r x) = aD m c (ix2 (row t r) (qcol (hd t) g d)) := by
  blk_point [iblk, V, idx t]

theorem rdO (X : FVec Ideal S4096x2048 .bf16) (t : Fin cfg0.N) (r : Fin 256) (g : Fin 4) (d : Fin 128) (x : Fin 512) (hx : x.val = 128 * g.val + d.val) :
    (show FVec Ideal S256x512 .bf16 from ((cfg0.win 4).blk t).view.read (Elt Ideal) X) (ix2 r x) = X (ix2 (row t r) (qcol (hd t) g d)) := by
  blk_point [idx t]

theorem rdL (X : FVec Ideal S4x4096x4 .f32) (t : Fin cfg0.N) (r : Fin 256) (g : Fin 4) :
    (show FVec Ideal S1x256x4 .f32 from ((cfg0.win 5).blk t).view.read (Elt Ideal) X) (ix3 0 r g) = X (ix3 (hd t) (row t r) g) := by
  blk_point [idx t]

theorem blkO (t : Fin cfg0.N) (r : Fin 256) (g : Fin 4) (d : Fin 128) (x : Fin 512) (hx : x.val = 128 * g.val + d.val) :
    (show FVec Ideal S256x512 .bf16 from iblk m c 4 t) (ix2 r x) = oArr (aQ m c) (aK m c) (aV m c) (ix2 (row t r) (qcol (hd t) g d)) :=
  (rdO (V m c main_v22) t r g d x hx).trans (congrFun (V_o m c) _)

theorem blkL (t : Fin cfg0.N) (r : Fin 256) (g : Fin 4) :
    (show FVec Ideal S1x256x4 .f32 from iblk m c 5 t) (ix3 0 r g) = lseArr (aQ m c) (aK m c) (ix3 (hd t) (row t r) g) :=
  (rdL (V m c main_v39) t r g).trans (congrFun (V_lse m c) _)

/-- The kernel's probability from blocks whose entries are known. -/
theorem p_of (t : Fin cfg0.N) (g : Fin 4) (k : Vec Ideal S4096x128 .bf16) (q : Vec Ideal S256x128 .bf16) (l : Vec Ideal S1x256x1 .f32)
    (hk : ∀ s d, k (ix2 s d) = aK m c (ix2 s (kcol (hd t) d))) (hq : ∀ r d, q (ix2 r d) = aQ m c (ix2 (row t r) (qcol (hd t) g d)))
    (hl : ∀ r, l (ix3 0 r 0) = lseArr (aQ m c) (aK m c) (ix3 (hd t) (row t r) g)) (r : Fin 256) (s : Fin 4096) :
    k0_pay6 k q l (ix2 r s) = pK (aQ m c) (aK m c) (lseArr (aQ m c) (aK m c)) (hd t) g (row t r) s := by
  rw [p_at, hl, pK]
  simp only [hq, hk]

theorem ds_of (t : Fin cfg0.N) (g : Fin 4) (k v : Vec Ideal S4096x128 .bf16) (q d o : Vec Ideal S256x128 .bf16) (l : Vec Ideal S1x256x1 .f32)
    (hk : ∀ s d, k (ix2 s d) = aK m c (ix2 s (kcol (hd t) d))) (hv : ∀ s d, v (ix2 s d) = aV m c (ix2 s (kcol (hd t) d)))
    (hq : ∀ r d, q (ix2 r d) = aQ m c (ix2 (row t r) (qcol (hd t) g d))) (hd' : ∀ r e, d (ix2 r e) = aD m c (ix2 (row t r) (qcol (hd t) g e)))
    (ho : ∀ r e, o (ix2 r e) = oArr (aQ m c) (aK m c) (aV m c) (ix2 (row t r) (qcol (hd t) g e)))
    (hl : ∀ r, l (ix3 0 r 0) = lseArr (aQ m c) (aK m c) (ix3 (hd t) (row t r) g)) (r : Fin 256) (s : Fin 4096) :
    k0_pay7 k v q d o l (ix2 r s) = dsK (aQ m c) (aK m c) (aV m c) (aD m c) (oArr (aQ m c) (aK m c) (aV m c)) (lseArr (aQ m c) (aK m c)) (hd t) g (row t r) s := by
  rw [ds_at, p_of m c t g k q l hk hq hl, dsK]
  simp only [hd', hv, ho]

/-- A load of 128 columns from `off`. -/
theorem ld_cols (X : FVec Ideal S256x512 .bf16) (off : ℕ) (inb) (r : Fin 256) (d : Fin 128) (h : off + d.val < 512) :
    View.ld (Val := Elt Ideal) (e' := .bf16) X (Rect.unit (s := S256x512) ![0, off] S256x128.size inb) (ix2 r d) = X (ix2 r ⟨off + d.val, h⟩) :=
  View.ld_unit_apply_of _ _ _ _ _ _ (fun a => by fin_cases a <;> simp)

/-- A load of column `g` of the saved logs. -/
theorem ld_lane (X : FVec Ideal S1x256x4 .f32) (g : Fin 4) (off : ℕ) (ho : off = g.val) (inb) (r : Fin 256) :
    View.ld (Val := Elt Ideal) (e' := .f32) X (Rect.unit (s := S1x256x4) ![0, 0, off] S1x256x1.size inb) (ix3 0 r 0) = X (ix3 0 r g) :=
  View.ld_unit_apply_of _ _ _ _ _ _ (fun a => by subst ho; fin_cases a <;> simp)

theorem qL (t : Fin cfg0.N) (g : Fin 4) (off : ℕ) (ho : off = 128 * g.val) (inb) (r : Fin 256) (d : Fin 128) :
    View.ld (iblk m c 0 t) (Rect.unit (s := S256x512) ![0, off] S256x128.size inb) (ix2 r d) = aQ m c (ix2 (row t r) (qcol (hd t) g d)) :=
  (ld_cols _ off inb r d (by omega)).trans (blkQ m c t r g d _ (by subst ho; rfl))

theorem dL (t : Fin cfg0.N) (g : Fin 4) (off : ℕ) (ho : off = 128 * g.val) (inb) (r : Fin 256) (d : Fin 128) :
    View.ld (iblk m c 3 t) (Rect.unit (s := S256x512) ![0, off] S256x128.size inb) (ix2 r d) = aD m c (ix2 (row t r) (qcol (hd t) g d)) :=
  (ld_cols _ off inb r d (by omega)).trans (blkD m c t r g d _ (by subst ho; rfl))

theorem oL (t : Fin cfg0.N) (g : Fin 4) (off : ℕ) (ho : off = 128 * g.val) (inb) (r : Fin 256) (d : Fin 128) :
    View.ld (iblk m c 4 t) (Rect.unit (s := S256x512) ![0, off] S256x128.size inb) (ix2 r d) = oArr (aQ m c) (aK m c) (aV m c) (ix2 (row t r) (qcol (hd t) g d)) :=
  (ld_cols _ off inb r d (by omega)).trans (blkO m c t r g d _ (by subst ho; rfl))

theorem lL (t : Fin cfg0.N) (g : Fin 4) (off : ℕ) (ho : off = g.val) (inb) (r : Fin 256) :
    View.ld (iblk m c 5 t) (Rect.unit (s := S1x256x4) ![0, 0, off] S1x256x1.size inb) (ix3 0 r 0) = lseArr (aQ m c) (aK m c) (ix3 (hd t) (row t r) g) :=
  (ld_lane _ g off ho inb r).trans (blkL m c t r g)

end Cert.KerAttn

end
-- ==== Proof.KerStack.lean ====
/- The stacks the gradient kernel's products over rows read: four tiles of 256 rows each, one per query head of the group. -/
module

public import proofs.«01_k».proof.Proof.KerPoint

@[expose] public section

set_option maxRecDepth 16384

noncomputable section

open Idealize.ShloMosaic Idealize.ShloMosaic.TcCoe Idealize.SL.Sem

namespace Cert.KerAttn

open Cert.KernelIdeal Cert.KernelIdeal.Gen Idealize.ShloMosaic.Pointwise
open Cert.RefAttn (qcol kcol)

variable (m : (ℓ : Loc nD τ sig) → Buf (Elt Ideal) ℓ) (c : Dev nD)

/-- The probabilities, and the scores' gradient, in the arguments' entries. -/
abbrev pA (t : Fin cfg0.N) (g : Fin 4) (r : Fin 256) (s : Fin 4096) : EReal :=
  pK (aQ m c) (aK m c) (lseArr (aQ m c) (aK m c)) (hd t) g (row t r) s
abbrev dsA (t : Fin cfg0.N) (g : Fin 4) (r : Fin 256) (s : Fin 4096) : EReal :=
  dsK (aQ m c) (aK m c) (aV m c) (aD m c) (oArr (aQ m c) (aK m c) (aV m c)) (lseArr (aQ m c) (aK m c)) (hd t) g (row t r) s

theorem pay9_at (k : Vec Ideal S4096x128 .bf16) (q : Vec Ideal S256x128 .bf16) (l : Vec Ideal S1x256x1 .f32) (r : Fin 256) (s : Fin 4096) :
    k0_pay9 k q l (ix2 r s) = k0_pay6 k q l (ix2 r s) := by pointwise [k0_pay9]
theorem pay17_at (k : Vec Ideal S4096x128 .bf16) (q : Vec Ideal S256x128 .bf16) (l : Vec Ideal S1x256x1 .f32) (r : Fin 256) (s : Fin 4096) :
    k0_pay17 (k0_pay16 k q l) (ix2 r s) = k0_pay6 k q l (ix2 r s) := by
  have e : k0_pay13 k q l = k0_pay6 k q l := rfl
  rw [← e]; pointwise [k0_pay17, k0_pay16]
theorem pay24_at (w : FVec Ideal S256x4096 .f32) (r : Fin 256) (s : Fin 4096) : k0_pay24 w (ix2 r s) = w (ix2 r s) := by pointwise [k0_pay24]
theorem pay32_at (w : FVec Ideal S256x4096 .f32) (r : Fin 256) (s : Fin 4096) : k0_pay32 w (ix2 r s) = w (ix2 r s) := by pointwise [k0_pay32]

/-- An entry of a stack is the entry of the tile its row falls in. -/
theorem tile_congr {n : ℕ} (x : Fin 1024) (s : Fin n) (f : Fin 4 → Fin 256 → Fin n → EReal) (g : Fin 4) (r : Fin 256) (s' : Fin n) (off : ℕ)
    (ho : off = 256 * g.val) (hx : 0 + x.val = off + r.val) (hs : 0 + s.val = s'.val) : f g r s' = f (gOf x) (rOf x) s := by
  obtain rfl : s = s' := Fin.ext (by omega)
  rw [show gOf x = g from Fin.ext (by show x.val / 256 = _; omega), show rOf x = r from Fin.ext (by show x.val % 256 = _; omega)]

/-- The stacked probabilities. -/
theorem readP (t : Fin cfg0.N) (v : View sig .tc .vmem S1024x4096 .bf16) (x : Fin 1024) (s : Fin 4096) :
    View.readCov (Val := Elt Ideal) v
      [⟨Rect.unit ![768, 0] S256x4096.size inb_S1024x4096_S256x4096_768_0, k0_pay32 (k0_pay28 (iblk m c 1 t) (View.ld (iblk m c 0 t) (Rect.unit ![0, 384] S256x128.size inb_S256x512_S256x128_0_384)) (View.ld (iblk m c 5 t) (Rect.unit ![0, 0, 3] S1x256x1.size inb_S1x256x4_S1x256x1_0_0_3)))⟩,
        ⟨Rect.unit ![512, 0] S256x4096.size inb_S1024x4096_S256x4096_512_0, k0_pay24 (k0_pay21 (iblk m c 1 t) (View.ld (iblk m c 0 t) (Rect.unit ![0, 256] S256x128.size inb_S256x512_S256x128_0_256)) (View.ld (iblk m c 5 t) (Rect.unit ![0, 0, 2] S1x256x1.size inb_S1x256x4_S1x256x1_0_0_2)))⟩,
        ⟨Rect.unit ![256, 0] S256x4096.size inb_S1024x4096_S256x4096_256_0, k0_pay17 (k0_pay16 (iblk m c 1 t) (View.ld (iblk m c 0 t) (Rect.unit ![0, 128] S256x128.size inb_S256x512_S256x128_0_128)) (View.ld (iblk m c 5 t) (Rect.unit ![0, 0, 1] S1x256x1.size inb_S1x256x4_S1x256x1_0_0_1)))⟩,
        ⟨Rect.unit ![0, 0] S256x4096.size inb_S1024x4096_S256x4096_0_0, k0_pay9 (iblk m c 1 t) (View.ld (iblk m c 0 t) (Rect.unit ![0, 0] S256x128.size inb_S256x512_S256x128_0_0)) (View.ld (iblk m c 5 t) (Rect.unit ![0, 0, 0] S1x256x1.size inb_S1x256x4_S1x256x1_0_0_0))⟩] (Rect.unit (s := S1024x4096) ![0, 0] S1024x4096.size inb_S1024x4096_S1024x4096_0_0).toLoadRect (ix2 x s)
      = pA m c t (gOf x) (rOf x) s := by
  rw [View.readCov_eq_canon']
  canon_tiles y hy
  all_goals (idx_vars y; simp only [Rect.idx_unit_val] at hy0 hy1)
  · exact ((pay32_at _ y0 y1).trans (p_of m c t 3 _ _ _ (blkK m c t) (qL m c t 3 384 rfl _) (lL m c t 3 3 rfl _) y0 y1)).trans (tile_congr x s (pA m c t) 3 y0 y1 768 rfl hy0 hy1)
  · exact ((pay24_at _ y0 y1).trans (p_of m c t 2 _ _ _ (blkK m c t) (qL m c t 2 256 rfl _) (lL m c t 2 2 rfl _) y0 y1)).trans (tile_congr x s (pA m c t) 2 y0 y1 512 rfl hy0 hy1)
  · exact ((pay17_at _ _ _ y0 y1).trans (p_of m c t 1 _ _ _ (blkK m c t) (qL m c t 1 128 rfl _) (lL m c t 1 1 rfl _) y0 y1)).trans (tile_congr x s (pA m c t) 1 y0 y1 256 rfl hy0 hy1)
  · exact ((pay9_at _ _ _ y0 y1).trans (p_of m c t 0 _ _ _ (blkK m c t) (qL m c t 0 0 rfl _) (lL m c t 0 0 rfl _) y0 y1)).trans (tile_congr x s (pA m c t) 0 y0 y1 0 rfl (hy0.trans (Nat.zero_add _).symm) hy1)

theorem pay10_at (w : FVec Ideal S256x4096 .bf16) (r : Fin 256) (s : Fin 4096) : k0_pay10 w (ix2 r s) = w (ix2 r s) := by pointwise [k0_pay10]
theorem pay18_at (w : FVec Ideal S256x4096 .bf16) (r : Fin 256) (s : Fin 4096) : k0_pay18 w (ix2 r s) = w (ix2 r s) := by pointwise [k0_pay18]
theorem pay25_at (w : FVec Ideal S256x4096 .bf16) (r : Fin 256) (s : Fin 4096) : k0_pay25 w (ix2 r s) = w (ix2 r s) := by pointwise [k0_pay25]
theorem pay33_at (w : FVec Ideal S256x4096 .bf16) (r : Fin 256) (s : Fin 4096) : k0_pay33 w (ix2 r s) = w (ix2 r s) := by pointwise [k0_pay33]
theorem pay11_at (w : FVec Ideal S256x128 .bf16) (r : Fin 256) (s : Fin 128) : k0_pay11 w (ix2 r s) = w (ix2 r s) := by pointwise [k0_pay11]
theorem pay12_at (w : FVec Ideal S256x128 .bf16) (r : Fin 256) (s : Fin 128) : k0_pay12 w (ix2 r s) = w (ix2 r s) := by pointwise [k0_pay12]
theorem pay19_at (w : FVec Ideal S256x128 .bf16) (r : Fin 256) (s : Fin 128) : k0_pay19 w (ix2 r s) = w (ix2 r s) := by pointwise [k0_pay19]
theorem pay20_at (w : FVec Ideal S256x128 .bf16) (r : Fin 256) (s : Fin 128) : k0_pay20 w (ix2 r s) = w (ix2 r s) := by pointwise [k0_pay20]
theorem pay26_at (w : FVec Ideal S256x128 .bf16) (r : Fin 256) (s : Fin 128) : k0_pay26 w (ix2 r s) = w (ix2 r s) := by pointwise [k0_pay26]
theorem pay27_at (w : FVec Ideal S256x128 .bf16) (r : Fin 256) (s : Fin 128) : k0_pay27 w (ix2 r s) = w (ix2 r s) := by pointwise [k0_pay27]
theorem pay34_at (w : FVec Ideal S256x128 .bf16) (r : Fin 256) (s : Fin 128) : k0_pay34 w (ix2 r s) = w (ix2 r s) := by pointwise [k0_pay34]
theorem pay35_at (w : FVec Ideal S256x128 .bf16) (r : Fin 256) (s : Fin 128) : k0_pay35 w (ix2 r s) = w (ix2 r s) := by pointwise [k0_pay35]

/-- The stacked gradients of the scores. -/
theorem readS (t : Fin cfg0.N) (v : View sig .tc .vmem S1024x4096 .bf16) (x : Fin 1024) (s : Fin 4096) :
    View.readCov (Val := Elt Ideal) v
      [⟨Rect.unit ![768, 0] S256x4096.size inb_S1024x4096_S256x4096_768_0, k0_pay33 (k0_pay29 (iblk m c 1 t) (iblk m c 2 t) (View.ld (iblk m c 0 t) (Rect.unit ![0, 384] S256x128.size inb_S256x512_S256x128_0_384)) (View.ld (iblk m c 3 t) (Rect.unit ![0, 384] S256x128.size inb_S256x512_S256x128_0_384)) (View.ld (iblk m c 4 t) (Rect.unit ![0, 384] S256x128.size inb_S256x512_S256x128_0_384)) (View.ld (iblk m c 5 t) (Rect.unit ![0, 0, 3] S1x256x1.size inb_S1x256x4_S1x256x1_0_0_3)))⟩,
        ⟨Rect.unit ![512, 0] S256x4096.size inb_S1024x4096_S256x4096_512_0, k0_pay25 (k0_pay22 (iblk m c 1 t) (iblk m c 2 t) (View.ld (iblk m c 0 t) (Rect.unit ![0, 256] S256x128.size inb_S256x512_S256x128_0_256)) (View.ld (iblk m c 3 t) (Rect.unit ![0, 256] S256x128.size inb_S256x512_S256x128_0_256)) (View.ld (iblk m c 4 t) (Rect.unit ![0, 256] S256x128.size inb_S256x512_S256x128_0_256)) (View.ld (iblk m c 5 t) (Rect.unit ![0, 0, 2] S1x256x1.size inb_S1x256x4_S1x256x1_0_0_2)))⟩,
        ⟨Rect.unit ![256, 0] S256x4096.size inb_S1024x4096_S256x4096_256_0, k0_pay18 (k0_pay14 (iblk m c 1 t) (iblk m c 2 t) (View.ld (iblk m c 0 t) (Rect.unit ![0, 128] S256x128.size inb_S256x512_S256x128_0_128)) (View.ld (iblk m c 3 t) (Rect.unit ![0, 128] S256x128.size inb_S256x512_S256x128_0_128)) (View.ld (iblk m c 4 t) (Rect.unit ![0, 128] S256x128.size inb_S256x512_S256x128_0_128)) (View.ld (iblk m c 5 t) (Rect.unit ![0, 0, 1] S1x256x1.size inb_S1x256x4_S1x256x1_0_0_1)))⟩,
        ⟨Rect.unit ![0, 0] S256x4096.size inb_S1024x4096_S256x4096_0_0, k0_pay10 (k0_pay7 (iblk m c 1 t) (iblk m c 2 t) (View.ld (iblk m c 0 t) (Rect.unit ![0, 0] S256x128.size inb_S256x512_S256x128_0_0)) (View.ld (iblk m c 3 t) (Rect.unit ![0, 0] S256x128.size inb_S256x512_S256x128_0_0)) (View.ld (iblk m c 4 t) (Rect.unit ![0, 0] S256x128.size inb_S256x512_S256x128_0_0)) (View.ld (iblk m c 5 t) (Rect.unit ![0, 0, 0] S1x256x1.size inb_S1x256x4_S1x256x1_0_0_0)))⟩] (Rect.unit (s := S1024x4096) ![0, 0] S1024x4096.size inb_S1024x4096_S1024x4096_0_0).toLoadRect (ix2 x s)
      = dsA m c t (gOf x) (rOf x) s := by
  rw [View.readCov_eq_canon']
  canon_tiles y hy
  all_goals (idx_vars y; simp only [Rect.idx_unit_val] at hy0 hy1)
  · exact ((pay33_at _ y0 y1).trans (ds_of m c t 3 _ _ _ _ _ _ (blkK m c t) (blkV m c t) (qL m c t 3 384 rfl _) (dL m c t 3 384 rfl _) (oL m c t 3 384 rfl _) (lL m c t 3 3 rfl _) y0 y1)).trans (tile_congr x s (dsA m c t) 3 y0 y1 768 rfl hy0 hy1)
  · exact ((pay25_at _ y0 y1).trans (ds_of m c t 2 _ _ _ _ _ _ (blkK m c t) (blkV m c t) (qL m c t 2 256 rfl _) (dL m c t 2 256 rfl _) (oL m c t 2 256 rfl _) (lL m c t 2 2 rfl _) y0 y1)).trans (tile_congr x s (dsA m c t) 2 y0 y1 512 rfl hy0 hy1)
  · exact ((pay18_at _ y0 y1).trans (ds_of m c t 1 _ _ _ _ _ _ (blkK m c t) (blkV m c t) (qL m c t 1 128 rfl _) (dL m c t 1 128 rfl _) (oL m c t 1 128 rfl _) (lL m c t 1 1 rfl _) y0 y1)).trans (tile_congr x s (dsA m c t) 1 y0 y1 256 rfl hy0 hy1)
  · exact ((pay10_at _ y0 y1).trans (ds_of m c t 0 _ _ _ _ _ _ (blkK m c t) (blkV m c t) (qL m c t 0 0 rfl _) (dL m c t 0 0 rfl _) (oL m c t 0 0 rfl _) (lL m c t 0 0 rfl _) y0 y1)).trans (tile_congr x s (dsA m c t) 0 y0 y1 0 rfl (hy0.trans (Nat.zero_add _).symm) hy1)

/-- The stacked rows of q and of the gradient of the output, in the arguments' entries. -/
abbrev qA (t : Fin cfg0.N) (g : Fin 4) (r : Fin 256) (d : Fin 128) : EReal := aQ m c (ix2 (row t r) (qcol (hd t) g d))
abbrev doA (t : Fin cfg0.N) (g : Fin 4) (r : Fin 256) (d : Fin 128) : EReal := aD m c (ix2 (row t r) (qcol (hd t) g d))

/-- The stacked rows of q. -/
theorem readQ (t : Fin cfg0.N) (v : View sig .tc .vmem S1024x128 .bf16) (x : Fin 1024) (s : Fin 128) :
    View.readCov (Val := Elt Ideal) v
      [⟨Rect.unit ![768, 0] S256x128.size inb_S1024x128_S256x128_768_0, k0_pay34 (View.ld (iblk m c 0 t) (Rect.unit ![0, 384] S256x128.size inb_S256x512_S256x128_0_384))⟩,
        ⟨Rect.unit ![512, 0] S256x128.size inb_S1024x128_S256x128_512_0, k0_pay26 (View.ld (iblk m c 0 t) (Rect.unit ![0, 256] S256x128.size inb_S256x512_S256x128_0_256))⟩,
        ⟨Rect.unit ![256, 0] S256x128.size inb_S1024x128_S256x128_256_0, k0_pay19 (View.ld (iblk m c 0 t) (Rect.unit ![0, 128] S256x128.size inb_S256x512_S256x128_0_128))⟩,
        ⟨Rect.unit ![0, 0] S256x128.size inb_S1024x128_S256x128_0_0, k0_pay11 (View.ld (iblk m c 0 t) (Rect.unit ![0, 0] S256x128.size inb_S256x512_S256x128_0_0))⟩] (Rect.unit (s := S1024x128) ![0, 0] S1024x128.size inb_S1024x128_S1024x128_0_0).toLoadRect (ix2 x s)
      = qA m c t (gOf x) (rOf x) s := by
  rw [View.readCov_eq_canon']
  canon_tiles y hy
  all_goals (idx_vars y; simp only [Rect.idx_unit_val] at hy0 hy1)
  · exact ((pay34_at _ y0 y1).trans (qL m c t 3 384 rfl _ y0 y1)).trans (tile_congr x s (qA m c t) 3 y0 y1 768 rfl hy0 hy1)
  · exact ((pay26_at _ y0 y1).trans (qL m c t 2 256 rfl _ y0 y1)).trans (tile_congr x s (qA m c t) 2 y0 y1 512 rfl hy0 hy1)
  · exact ((pay19_at _ y0 y1).trans (qL m c t 1 128 rfl _ y0 y1)).trans (tile_congr x s (qA m c t) 1 y0 y1 256 rfl hy0 hy1)
  · exact ((pay11_at _ y0 y1).trans (qL m c t 0 0 rfl _ y0 y1)).trans (tile_congr x s (qA m c t) 0 y0 y1 0 rfl (hy0.trans (Nat.zero_add _).symm) hy1)

/-- The stacked rows of the gradient of the output. -/
theorem readD (t : Fin cfg0.N) (v : View sig .tc .vmem S1024x128 .bf16) (x : Fin 1024) (s : Fin 128) :
    View.readCov (Val := Elt Ideal) v
      [⟨Rect.unit ![768, 0] S256x128.size inb_S1024x128_S256x128_768_0, k0_pay35 (View.ld (iblk m c 3 t) (Rect.unit ![0, 384] S256x128.size inb_S256x512_S256x128_0_384))⟩,
        ⟨Rect.unit ![512, 0] S256x128.size inb_S1024x128_S256x128_512_0, k0_pay27 (View.ld (iblk m c 3 t) (Rect.unit ![0, 256] S256x128.size inb_S256x512_S256x128_0_256))⟩,
        ⟨Rect.unit ![256, 0] S256x128.size inb_S1024x128_S256x128_256_0, k0_pay20 (View.ld (iblk m c 3 t) (Rect.unit ![0, 128] S256x128.size inb_S256x512_S256x128_0_128))⟩,
        ⟨Rect.unit ![0, 0] S256x128.size inb_S1024x128_S256x128_0_0, k0_pay12 (View.ld (iblk m c 3 t) (Rect.unit ![0, 0] S256x128.size inb_S256x512_S256x128_0_0))⟩] (Rect.unit (s := S1024x128) ![0, 0] S1024x128.size inb_S1024x128_S1024x128_0_0).toLoadRect (ix2 x s)
      = doA m c t (gOf x) (rOf x) s := by
  rw [View.readCov_eq_canon']
  canon_tiles y hy
  all_goals (idx_vars y; simp only [Rect.idx_unit_val] at hy0 hy1)
  · exact ((pay35_at _ y0 y1).trans (dL m c t 3 384 rfl _ y0 y1)).trans (tile_congr x s (doA m c t) 3 y0 y1 768 rfl hy0 hy1)
  · exact ((pay27_at _ y0 y1).trans (dL m c t 2 256 rfl _ y0 y1)).trans (tile_congr x s (doA m c t) 2 y0 y1 512 rfl hy0 hy1)
  · exact ((pay20_at _ y0 y1).trans (dL m c t 1 128 rfl _ y0 y1)).trans (tile_congr x s (doA m c t) 1 y0 y1 256 rfl hy0 hy1)
  · exact ((pay12_at _ y0 y1).trans (dL m c t 0 0 rfl _ y0 y1)).trans (tile_congr x s (doA m c t) 0 y0 y1 0 rfl (hy0.trans (Nat.zero_add _).symm) hy1)

end Cert.KerAttn

end
-- ==== Proof.KerAcc.lean ====
/- What one grid point adds to the two accumulators, and what it stores of q's gradient. -/
module

public import proofs.«01_k».proof.Proof.KerStack

@[expose] public section

set_option maxRecDepth 16384

noncomputable section

open Idealize.ShloMosaic Idealize.ShloMosaic.TcCoe Idealize.SL.Sem

namespace Cert.KerAttn

open Cert.KernelIdeal Cert.KernelIdeal.Gen Idealize.ShloMosaic.Pointwise
open Cert.RefAttn (qcol kcol)

variable (m : (ℓ : Loc nD τ sig) → Buf (Elt Ideal) ℓ) (c : Dev nD)

/-- What a point adds to v's accumulator. -/
def termV (t : Fin cfg0.N) (s : Fin 4096) (e : Fin 128) : EReal :=
  ∑ x : Fin 1024, pA m c t (gOf x) (rOf x) s * doA m c t (gOf x) (rOf x) e

/-- What a point adds to k's accumulator. -/
def termK (t : Fin cfg0.N) (s : Fin 4096) (e : Fin 128) : EReal :=
  ∑ x : Fin 1024, dsA m c t (gOf x) (rOf x) s * qA m c t (gOf x) (rOf x) e

theorem accV (t : Fin cfg0.N) (a : Vec Ideal S4096x128 .f32) (RP : Vec Ideal S1024x4096 .bf16) (RD : Vec Ideal S1024x128 .bf16)
    (hP : ∀ x s, RP (ix2 x s) = pA m c t (gOf x) (rOf x) s) (hD : ∀ x e, RD (ix2 x e) = doA m c t (gOf x) (rOf x) e) (s : Fin 4096) (e : Fin 128) :
    k0_pay36 a RP RD (ix2 s e) = a (ix2 s e) + termV m c t s e := by
  rw [acc_at, termV]; simp only [hP, hD]

theorem accK (t : Fin cfg0.N) (a : Vec Ideal S4096x128 .f32) (RS : Vec Ideal S1024x4096 .bf16) (RQ : Vec Ideal S1024x128 .bf16)
    (hS : ∀ x s, RS (ix2 x s) = dsA m c t (gOf x) (rOf x) s) (hQ : ∀ x e, RQ (ix2 x e) = qA m c t (gOf x) (rOf x) e) (s : Fin 4096) (e : Fin 128) :
    k0_pay1 (k0_pay37 a RS RQ) (ix2 s e) = a (ix2 s e) + termK m c t s e := by
  have h : k0_pay1 (k0_pay37 a RS RQ) (ix2 s e) = k0_pay37 a RS RQ (ix2 s e) := by
    generalize k0_pay37 a RS RQ = w
    pointwise [k0_pay1]
  rw [h, acc_at', termK]; simp only [hS, hQ]

/-- What was left in an accumulator is read back. -/
theorem read_acc4 (w : Vec Ideal S4096x128 .f32) (j : S4096x128.Idx) :
    View.read (Elt Ideal) (View.whole cc0_scratch4) ((Memref.isWhole_whole cc0_scratch4).unread w) j = w j :=
  congrFun (Memref.IsWhole.read_unread (Memref.isWhole_whole cc0_scratch4) w) j
theorem read_acc5 (w : Vec Ideal S4096x128 .f32) (j : S4096x128.Idx) :
    View.read (Elt Ideal) (View.whole cc0_scratch5) ((Memref.isWhole_whole cc0_scratch5).unread w) j = w j :=
  congrFun (Memref.IsWhole.read_unread (Memref.isWhole_whole cc0_scratch5) w) j

theorem dv_reset (t : Fin cfg0.N) (h0 : t.val % 16 = 0) (s : Fin 4096) (e : Fin 128) :
    (outsAt0 m c t.val t.isLt).2.2.2.2 (ix2 s e) = 0 + termV m c t s e := by
  rw [outsAt0_A m c t h0 (by omega)]
  frame_out
  refine (accV m c t _ _ _ (readP m c t _) (readD m c t _) s e).trans ?_
  rw [zero_at']

theorem dk_reset (t : Fin cfg0.N) (h0 : t.val % 16 = 0) (s : Fin 4096) (e : Fin 128) :
    (outsAt0 m c t.val t.isLt).2.2.2.1 (ix2 s e) = 0 + termK m c t s e := by
  rw [outsAt0_A m c t h0 (by omega)]
  frame_out
  refine (accK m c t _ _ _ (readS m c t _) (readQ m c t _) s e).trans ?_
  rw [zero_at]

theorem dv_step (t : Fin cfg0.N) (h0 : ¬t.val % 16 = 0) (s : Fin 4096) (e : Fin 128) :
    (outsAt0 m c t.val t.isLt).2.2.2.2 (ix2 s e)
      = (outsAt0 m c (t.val - 1) (Nat.lt_of_le_of_lt (Nat.sub_le _ _) t.isLt)).2.2.2.2 (ix2 s e) + termV m c t s e := by
  by_cases h1 : t.val % 16 = 15
  · rw [outsAt0_C m c t h0 h1]
    frame_out
    exact (accV m c t _ _ _ (readP m c t _) (readD m c t _) s e).trans (congrArg (· + _) (read_acc5 _ _))
  · rw [outsAt0_B m c t h0 h1]
    frame_out
    exact (accV m c t _ _ _ (readP m c t _) (readD m c t _) s e).trans (congrArg (· + _) (read_acc5 _ _))

theorem dk_step (t : Fin cfg0.N) (h0 : ¬t.val % 16 = 0) (s : Fin 4096) (e : Fin 128) :
    (outsAt0 m c t.val t.isLt).2.2.2.1 (ix2 s e)
      = (outsAt0 m c (t.val - 1) (Nat.lt_of_le_of_lt (Nat.sub_le _ _) t.isLt)).2.2.2.1 (ix2 s e) + termK m c t s e := by
  by_cases h1 : t.val % 16 = 15
  · rw [outsAt0_C m c t h0 h1]
    frame_out
    exact (accK m c t _ _ _ (readS m c t _) (readQ m c t _) s e).trans (congrArg (· + _) (read_acc4 _ _))
  · rw [outsAt0_B m c t h0 h1]
    frame_out
    exact (accK m c t _ _ _ (readS m c t _) (readQ m c t _) s e).trans (congrArg (· + _) (read_acc4 _ _))

/-- At the last point of a kv head the accumulators are stored. -/
theorem pay2_at (w : Vec Ideal S4096x128 .f32) (j : S4096x128.Idx) : k0_pay2 w j = w j := by
  idx_vars j
  pointwise [k0_pay2]
theorem pay3_at (w : Vec Ideal S4096x128 .f32) (j : S4096x128.Idx) : k0_pay3 w j = w j := by
  idx_vars j
  pointwise [k0_pay3]

theorem dk_out (t : Fin cfg0.N) (h1 : t.val % 16 = 15) (j : S4096x128.Idx) :
    (outsAt0 m c t.val t.isLt).2.1 j = (outsAt0 m c t.val t.isLt).2.2.2.1 j := by
  rw [outsAt0_C m c t (by omega) h1]
  frame_out
  exact pay2_at _ _

theorem dv_out (t : Fin cfg0.N) (h1 : t.val % 16 = 15) (j : S4096x128.Idx) :
    (outsAt0 m c t.val t.isLt).2.2.1 j = (outsAt0 m c t.val t.isLt).2.2.2.2 j := by
  rw [outsAt0_C m c t (by omega) h1]
  frame_out
  exact pay3_at _ _

/-- One tile of q's gradient. -/
theorem dq_of (t : Fin cfg0.N) (g : Fin 4) (k v : Vec Ideal S4096x128 .bf16) (q d o : Vec Ideal S256x128 .bf16) (l : Vec Ideal S1x256x1 .f32)
    (hk : ∀ s d, k (ix2 s d) = aK m c (ix2 s (kcol (hd t) d))) (h : ∀ r s, k0_pay7 k v q d o l (ix2 r s) = dsA m c t g r s) (r : Fin 256) (e : Fin 128) :
    k0_pay8 k v q d o l (ix2 r e) = ∑ s : Fin 4096, dsA m c t g r s * aK m c (ix2 s (kcol (hd t) e)) := by
  rw [dq_at]; simp only [h, hk]

theorem pay31_at (w : FVec Ideal S256x128 .f32) (r : Fin 256) (e : Fin 128) : k0_pay31 w (ix2 r e) = w (ix2 r e) := by pointwise [k0_pay31]

/-- A tile of q's gradient at column `128 g + e`. -/
theorem tile_col (f : Fin 4 → Fin 256 → Fin 128 → EReal) (r r' : Fin 256) (x : Fin 512) (g g' : Fin 4) (e e' : Fin 128) (off : ℕ) (ho : off = 128 * g'.val)
    (hx : 128 * g.val + e.val = off + e'.val) (hr : r.val = r'.val) : f g' r' e' = f g r e := by
  obtain rfl : r = r' := Fin.ext hr
  obtain rfl : g = g' := Fin.ext (by omega)
  obtain rfl : e = e' := Fin.ext (by omega)
  rfl

theorem dq_canon (t : Fin cfg0.N) (r : Fin 256) (g : Fin 4) (e : Fin 128) (x : Fin 512) (hx : x.val = 128 * g.val + e.val) :
    View.canon (Val := Elt Ideal) (s := S256x512) (e := .bf16)
      [⟨Rect.unit (s := S256x512) ![0, 384] S256x128.size inb_S256x512_S256x128_0_384, k0_pay31 (k0_pay30 (iblk m c 1 t) (iblk m c 2 t) (View.ld (iblk m c 0 t) (Rect.unit ![0, 384] S256x128.size inb_S256x512_S256x128_0_384)) (View.ld (iblk m c 3 t) (Rect.unit ![0, 384] S256x128.size inb_S256x512_S256x128_0_384)) (View.ld (iblk m c 4 t) (Rect.unit ![0, 384] S256x128.size inb_S256x512_S256x128_0_384)) (View.ld (iblk m c 5 t) (Rect.unit ![0, 0, 3] S1x256x1.size inb_S1x256x4_S1x256x1_0_0_3)))⟩,
        ⟨Rect.unit (s := S256x512) ![0, 256] S256x128.size inb_S256x512_S256x128_0_256, k0_pay23 (iblk m c 1 t) (iblk m c 2 t) (View.ld (iblk m c 0 t) (Rect.unit ![0, 256] S256x128.size inb_S256x512_S256x128_0_256)) (View.ld (iblk m c 3 t) (Rect.unit ![0, 256] S256x128.size inb_S256x512_S256x128_0_256)) (View.ld (iblk m c 4 t) (Rect.unit ![0, 256] S256x128.size inb_S256x512_S256x128_0_256)) (View.ld (iblk m c 5 t) (Rect.unit ![0, 0, 2] S1x256x1.size inb_S1x256x4_S1x256x1_0_0_2))⟩,
        ⟨Rect.unit (s := S256x512) ![0, 128] S256x128.size inb_S256x512_S256x128_0_128, k0_pay15 (iblk m c 1 t) (iblk m c 2 t) (View.ld (iblk m c 0 t) (Rect.unit ![0, 128] S256x128.size inb_S256x512_S256x128_0_128)) (View.ld (iblk m c 3 t) (Rect.unit ![0, 128] S256x128.size inb_S256x512_S256x128_0_128)) (View.ld (iblk m c 4 t) (Rect.unit ![0, 128] S256x128.size inb_S256x512_S256x128_0_128)) (View.ld (iblk m c 5 t) (Rect.unit ![0, 0, 1] S1x256x1.size inb_S1x256x4_S1x256x1_0_0_1))⟩,
        ⟨Rect.unit (s := S256x512) ![0, 0] S256x128.size inb_S256x512_S256x128_0_0, k0_pay8 (iblk m c 1 t) (iblk m c 2 t) (View.ld (iblk m c 0 t) (Rect.unit ![0, 0] S256x128.size inb_S256x512_S256x128_0_0)) (View.ld (iblk m c 3 t) (Rect.unit ![0, 0] S256x128.size inb_S256x512_S256x128_0_0)) (View.ld (iblk m c 4 t) (Rect.unit ![0, 0] S256x128.size inb_S256x512_S256x128_0_0)) (View.ld (iblk m c 5 t) (Rect.unit ![0, 0, 0] S1x256x1.size inb_S1x256x4_S1x256x1_0_0_0))⟩] (ix2 r x)
      = ∑ s : Fin 4096, dsA m c t g r s * aK m c (ix2 s (kcol (hd t) e)) := by
  canon_tiles y h
  all_goals (idx_vars y)
  · exact ((pay31_at _ y0 y1).trans <| (dq_of m c t 3 _ _ _ _ _ _ (blkK m c t) (ds_of m c t 3 _ _ _ _ _ _ (blkK m c t) (blkV m c t) (qL m c t 3 384 rfl _) (dL m c t 3 384 rfl _) (oL m c t 3 384 rfl _) (lL m c t 3 3 rfl _)) y0 y1)).trans
      (tile_col (fun g r e => ∑ s : Fin 4096, dsA m c t g r s * aK m c (ix2 s (kcol (hd t) e))) r y0 x g 3 e y1 384 rfl (hx.symm.trans (h1)) h0)
  · exact ((dq_of m c t 2 _ _ _ _ _ _ (blkK m c t) (ds_of m c t 2 _ _ _ _ _ _ (blkK m c t) (blkV m c t) (qL m c t 2 256 rfl _) (dL m c t 2 256 rfl _) (oL m c t 2 256 rfl _) (lL m c t 2 2 rfl _)) y0 y1)).trans
      (tile_col (fun g r e => ∑ s : Fin 4096, dsA m c t g r s * aK m c (ix2 s (kcol (hd t) e))) r y0 x g 2 e y1 256 rfl (hx.symm.trans (h1)) h0)
  · exact ((dq_of m c t 1 _ _ _ _ _ _ (blkK m c t) (ds_of m c t 1 _ _ _ _ _ _ (blkK m c t) (blkV m c t) (qL m c t 1 128 rfl _) (dL m c t 1 128 rfl _) (oL m c t 1 128 rfl _) (lL m c t 1 1 rfl _)) y0 y1)).trans
      (tile_col (fun g r e => ∑ s : Fin 4096, dsA m c t g r s * aK m c (ix2 s (kcol (hd t) e))) r y0 x g 1 e y1 128 rfl (hx.symm.trans (h1)) h0)
  · exact ((dq_of m c t 0 _ _ _ _ _ _ (blkK m c t) (ds_of m c t 0 _ _ _ _ _ _ (blkK m c t) (blkV m c t) (qL m c t 0 0 rfl _) (dL m c t 0 0 rfl _) (oL m c t 0 0 rfl _) (lL m c t 0 0 rfl _)) y0 y1)).trans
      (tile_col (fun g r e => ∑ s : Fin 4096, dsA m c t g r s * aK m c (ix2 s (kcol (hd t) e))) r y0 x g 0 e y1 0 rfl (hx.symm.trans (h1.trans (Nat.zero_add _).symm)) h0)

theorem dq_out (t : Fin cfg0.N) (r : Fin 256) (g : Fin 4) (e : Fin 128) (x : Fin 512) (hx : x.val = 128 * g.val + e.val) :
    (outsAt0 m c t.val t.isLt).1 (ix2 r x) = ∑ s : Fin 4096, dsA m c t g r s * aK m c (ix2 s (kcol (hd t) e)) := by
  by_cases h0 : t.val % 16 = 0
  · rw [outsAt0_A m c t h0 (by omega)]
    frame_out
    exact dq_canon m c t r g e x hx
  · by_cases h1 : t.val % 16 = 15
    · rw [outsAt0_C m c t h0 h1]
      frame_out
      exact dq_canon m c t r g e x hx
    · rw [outsAt0_B m c t h0 h1]
      frame_out
      exact dq_canon m c t r g e x hx

end Cert.KerAttn

end
-- ==== Proof.KerFinal.lean ====
/- The gradient kernel's three result arrays, entry by entry. -/
module

public import proofs.«01_k».proof.Proof.KerAcc
public import proofs.«01_k».proof.Proof.Gen.KernelIdeal.Value

@[expose] public section

set_option maxRecDepth 16384

noncomputable section

open Idealize.ShloMosaic Idealize.ShloMosaic.TcCoe Idealize.SL.Sem

namespace Cert.KerAttn

open Cert.KernelIdeal Cert.KernelIdeal.Gen Cert.KernelIdeal.Value Idealize.ShloMosaic.Pointwise
open Cert.RefAttn (qcol kcol)

variable (m : (ℓ : Loc nD τ sig) → Buf (Elt Ideal) ℓ) (c : Dev nD)

/-- The scores' gradient, and the probability, at whole-array indices. -/
abbrev dsW (h g : Fin 4) (i s : Fin 4096) : EReal :=
  dsK (aQ m c) (aK m c) (aV m c) (aD m c) (oArr (aQ m c) (aK m c) (aV m c)) (lseArr (aQ m c) (aK m c)) h g i s
abbrev pW (h g : Fin 4) (i s : Fin 4096) : EReal := pK (aQ m c) (aK m c) (lseArr (aQ m c) (aK m c)) h g i s

/-- The parts of a column of q and of k. -/
abbrev hQ (x : Fin 2048) : Fin 4 := ⟨x.val / 512, by omega⟩
abbrev gQ (x : Fin 2048) : Fin 4 := ⟨x.val % 512 / 128, by omega⟩
abbrev eQ (x : Fin 2048) : Fin 128 := ⟨x.val % 128, by omega⟩
abbrev hK (x : Fin 512) : Fin 4 := ⟨x.val / 128, by omega⟩
abbrev eK (x : Fin 512) : Fin 128 := ⟨x.val % 128, by omega⟩

/-- Row `256 n + r` of query head `g`, from the stacked row. -/
abbrev rowN (n : Fin 16) (x : Fin 1024) : Fin 4096 := ⟨256 * n.val + (rOf x).val, by have := (rOf x).isLt; omega⟩

def dqE (i : Fin 4096) (x : Fin 2048) : EReal := ∑ s : Fin 4096, dsW m c (hQ x) (gQ x) i s * aK m c (ix2 s (kcol (hQ x) (eQ x)))
def dkE (s : Fin 4096) (x : Fin 512) : EReal :=
  0 + ∑ n : Fin 16, ∑ y : Fin 1024, dsW m c (hK x) (gOf y) (rowN n y) s * aQ m c (ix2 (rowN n y) (qcol (hK x) (gOf y) (eK x)))
def dvE (s : Fin 4096) (x : Fin 512) : EReal :=
  0 + ∑ n : Fin 16, ∑ y : Fin 1024, pW m c (hK x) (gOf y) (rowN n y) s * aD m c (ix2 (rowN n y) (qcol (hK x) (gOf y) (eK x)))

/-- A sum over a kv head's points, the point's parts named. -/
theorem pt_hd (t : Fin cfg0.N) (h : t.val % 16 = 15) (n : Fin 16) (hn : 16 * (t.val / 16) + n.val < cfg0.N) :
    hd ⟨16 * (t.val / 16) + n.val, hn⟩ = hd t := Fin.ext (by show (16 * (t.val / 16) + n.val) / 16 = t.val / 16; omega)
theorem pt_row (t : Fin cfg0.N) (n : Fin 16) (hn : 16 * (t.val / 16) + n.val < cfg0.N) (x : Fin 1024) :
    row ⟨16 * (t.val / 16) + n.val, hn⟩ (rOf x) = rowN n x := Fin.ext (by show 256 * ((16 * (t.val / 16) + n.val) % 16) + _ = 256 * n.val + _; omega)

theorem dv_acc (t : Fin cfg0.N) (h : t.val % 16 = 15) (s : Fin 4096) (e : Fin 128) :
    (outsAt0 m c t.val t.isLt).2.2.2.2 (ix2 s e)
      = 0 + ∑ n : Fin 16, ∑ y : Fin 1024, pW m c (hd t) (gOf y) (rowN n y) s * aD m c (ix2 (rowN n y) (qcol (hd t) (gOf y) e)) := by
  refine (Pipeline.eq_sum_fin_of_reset_step_apply_of_flush (ι := Fin 4096 × Fin 128) (M := EReal) (N := cfg0.N) (fun n hn (p : Fin 4096 × Fin 128) => (outsAt0 m c n hn).2.2.2.2 (ix2 p.1 p.2)) 16
    (fun _ => 0) (fun t p => termV m c t p.1 p.2) (fun t h0 p => dv_reset m c t h0 _ _) (fun t h0 p => dv_step m c t h0 _ _) t h (s, e)).trans ?_
  refine congrArg (0 + ·) (Fin.sum_fin_congr fun n => ?_)
  simp only [termV, pA, doA, pt_row, pt_hd t h]

theorem dk_acc (t : Fin cfg0.N) (h : t.val % 16 = 15) (s : Fin 4096) (e : Fin 128) :
    (outsAt0 m c t.val t.isLt).2.2.2.1 (ix2 s e)
      = 0 + ∑ n : Fin 16, ∑ y : Fin 1024, dsW m c (hd t) (gOf y) (rowN n y) s * aQ m c (ix2 (rowN n y) (qcol (hd t) (gOf y) e)) := by
  refine (Pipeline.eq_sum_fin_of_reset_step_apply_of_flush (ι := Fin 4096 × Fin 128) (M := EReal) (N := cfg0.N) (fun n hn (p : Fin 4096 × Fin 128) => (outsAt0 m c n hn).2.2.2.1 (ix2 p.1 p.2)) 16
    (fun _ => 0) (fun t p => termK m c t p.1 p.2) (fun t h0 p => dk_reset m c t h0 _ _) (fun t h0 p => dk_step m c t h0 _ _) t h (s, e)).trans ?_
  refine congrArg (0 + ·) (Fin.sum_fin_congr fun n => ?_)
  simp only [termK, dsA, qA, pt_row, pt_hd t h]

def dqF : FVec Ideal S4096x2048 .bf16 := fun i => dqE m c (i 0) (i 1)
def dkF : FVec Ideal S4096x512 .bf16 := fun i => dkE m c (i 0) (i 1)
def dvF : FVec Ideal S4096x512 .bf16 := fun i => dvE m c (i 0) (i 1)

theorem dv_at (i : S4096x512.Idx) (s : Fin 4096) (h : Fin 4) (e : Fin 128) (h0 : (i 0 : Fin 4096) = s) (h1 : (i 1 : Fin 512).val = 128 * h.val + e.val) :
    dvF m c i = 0 + ∑ n : Fin 16, ∑ y : Fin 1024, pW m c h (gOf y) (rowN n y) s * aD m c (ix2 (rowN n y) (qcol h (gOf y) e)) := by
  have e1 : hK (i 1) = h := Fin.ext (by show (i 1 : Fin 512).val / 128 = _; omega)
  have e2 : eK (i 1) = e := Fin.ext (by show (i 1 : Fin 512).val % 128 = _; omega)
  show dvE m c (i 0) (i 1) = _
  unfold dvE
  rw [e1, e2, h0]

theorem dk_at (i : S4096x512.Idx) (s : Fin 4096) (h : Fin 4) (e : Fin 128) (h0 : (i 0 : Fin 4096) = s) (h1 : (i 1 : Fin 512).val = 128 * h.val + e.val) :
    dkF m c i = 0 + ∑ n : Fin 16, ∑ y : Fin 1024, dsW m c h (gOf y) (rowN n y) s * aQ m c (ix2 (rowN n y) (qcol h (gOf y) e)) := by
  have e1 : hK (i 1) = h := Fin.ext (by show (i 1 : Fin 512).val / 128 = _; omega)
  have e2 : eK (i 1) = e := Fin.ext (by show (i 1 : Fin 512).val % 128 = _; omega)
  show dkE m c (i 0) (i 1) = _
  unfold dkE
  rw [e1, e2, h0]

theorem dq_at' (i : S4096x2048.Idx) (r : Fin 4096) (h g : Fin 4) (e : Fin 128) (h0 : (i 0 : Fin 4096) = r) (h1 : (i 1 : Fin 2048).val = 512 * h.val + 128 * g.val + e.val) :
    dqF m c i = ∑ s : Fin 4096, dsW m c h g r s * aK m c (ix2 s (kcol h e)) := by
  have e1 : hQ (i 1) = h := Fin.ext (by show (i 1 : Fin 2048).val / 512 = _; omega)
  have e2 : eQ (i 1) = e := Fin.ext (by show (i 1 : Fin 2048).val % 128 = _; omega)
  have e3 : gQ (i 1) = g := Fin.ext (by show (i 1 : Fin 2048).val % 512 / 128 = _; omega)
  show dqE m c (i 0) (i 1) = _
  unfold dqE
  rw [e1, e2, e3, h0]

theorem final_dv : (dats m 0 c).arrAt 8 cfg0.N = dvF m c := by
  refine (dats m 0 c).arrAt_eq_of_covers 8 _ (by decide +kernel) fun t hf y => ?_
  have ht := (flush0_8 t).mp hf
  blk_simp
  rw [after0_8]
  revert y
  show ∀ y : S4096x128.Idx, _
  intro y
  idx_vars y
  have a0 : ((win0_8.blk t).view.emb (ix2 y0 y1) 0 : Fin 4096) = y0 := Fin.ext (by
    show win0_8.index t (0 : Fin 2) * 4096 + 1 * y0.val = y0.val
    simp [idx t])
  have a1 : ((win0_8.blk t).view.emb (ix2 y0 y1) 1 : Fin 512).val = 128 * (t.val / 16) + y1.val := by
    show win0_8.index t (1 : Fin 2) * 128 + 1 * y1.val = _
    simp [idx t]; omega
  refine (((dv_out m c t ht _).trans (dv_acc m c t ht y0 y1))).trans ((dv_at m c _ y0 (hd t) y1 a0 a1).symm)

theorem final_dk : (dats m 0 c).arrAt 7 cfg0.N = dkF m c := by
  refine (dats m 0 c).arrAt_eq_of_covers 7 _ (by decide +kernel) fun t hf y => ?_
  have ht := (flush0_7 t).mp hf
  blk_simp
  rw [after0_7]
  revert y
  show ∀ y : S4096x128.Idx, _
  intro y
  idx_vars y
  have a0 : ((win0_7.blk t).view.emb (ix2 y0 y1) 0 : Fin 4096) = y0 := Fin.ext (by
    show win0_7.index t (0 : Fin 2) * 4096 + 1 * y0.val = y0.val
    simp [idx t])
  have a1 : ((win0_7.blk t).view.emb (ix2 y0 y1) 1 : Fin 512).val = 128 * (t.val / 16) + y1.val := by
    show win0_7.index t (1 : Fin 2) * 128 + 1 * y1.val = _
    simp [idx t]; omega
  refine (((dk_out m c t ht _).trans (dk_acc m c t ht y0 y1))).trans ((dk_at m c _ y0 (hd t) y1 a0 a1).symm)

theorem final_dq : (dats m 0 c).arrAt 6 cfg0.N = dqF m c := by
  refine (dats m 0 c).arrAt_eq_of_covers 6 _ (by decide +kernel) fun t hf y => ?_
  blk_simp
  rw [after0_6]
  revert y
  show ∀ y : S256x512.Idx, _
  intro y
  idx_vars y
  have a0 : ((win0_6.blk t).view.emb (ix2 y0 y1) 0 : Fin 4096) = row t y0 := Fin.ext (by
    show win0_6.index t (0 : Fin 2) * 256 + 1 * y0.val = _
    simp [idx t]; omega)
  have a1 : ((win0_6.blk t).view.emb (ix2 y0 y1) 1 : Fin 2048).val = 512 * (t.val / 16) + y1.val := by
    show win0_6.index t (1 : Fin 2) * 512 + 1 * y1.val = _
    simp [idx t]; omega
  refine (dq_out m c t y0 ⟨y1.val / 128, by omega⟩ ⟨y1.val % 128, by omega⟩ y1 (by show _ = 128 * (y1.val / 128) + y1.val % 128; omega)).trans
    ((dq_at' m c _ (row t y0) (hd t) ⟨y1.val / 128, by omega⟩ ⟨y1.val % 128, by omega⟩ a0 (by rw [a1]; show _ = 512 * (t.val / 16) + 128 * (y1.val / 128) + y1.val % 128; omega)).symm)

end Cert.KerAttn

end
-- ==== Proof.KerEq.lean ====
/- On finite arguments the kernel's probabilities and scores' gradient are the reference's. -/
module

public import proofs.«01_k».proof.Proof.KerFinal
public import proofs.«01_k».proof.Proof.RefReads

@[expose] public section

set_option maxRecDepth 16384

noncomputable section

open Idealize.ShloMosaic Idealize.ShloMosaic.TcCoe Idealize.SL.Sem

namespace Cert.KerAttn

open Cert.KernelIdeal Cert.KernelIdeal.Gen Idealize.ShloMosaic.Pointwise
open Cert.RefAttn (sc mx ex sm pr dp ds qcol kcol)
open Cert.AttnMath (coe_sum)

/-- Every entry is a real number. -/
def Fin' {s : Shape} (x : FVec Ideal s .bf16) : Prop := ∀ i, ∃ r : ℝ, (x i : EReal) = r

variable (Q : FVec Ideal S4096x2048 .bf16) (K V : FVec Ideal S4096x512 .bf16) (D : FVec Ideal S4096x2048 .bf16)

/-- A sum of products of reals is a real. -/
theorem sum_mul_real {ι : Type} [Fintype ι] (f g : ι → EReal) (hf : ∀ i, ∃ r : ℝ, f i = r) (hg : ∀ i, ∃ r : ℝ, g i = r) : ∃ r : ℝ, ∑ i, f i * g i = r := by
  obtain ⟨f', rfl⟩ := AttnMath.exists_real f hf
  obtain ⟨g', rfl⟩ := AttnMath.exists_real g hg
  exact ⟨∑ i, f' i * g' i, by rw [coe_sum]; exact Finset.sum_congr rfl fun i _ => (EReal.coe_mul _ _).symm⟩

theorem sc_real (hQ : Fin' Q) (hK : Fin' K) (j : S4x4x4096x4096.Idx) : ∃ r : ℝ, (sc Q K j : EReal) = r := by
  idx_vars j
  rw [RefAttn.sc_at]
  exact sum_mul_real _ _ (fun d => hK _) (fun d => hQ _)

theorem dp_real (hV : Fin' V) (hD : Fin' D) (j : S4x4x4096x4096.Idx) : ∃ r : ℝ, (dp V D j : EReal) = r := by
  idx_vars j
  rw [RefAttn.dp_at]
  exact sum_mul_real _ _ (fun d => hD _) (fun d => hV _)

theorem exp_coe (x M : ℝ) : Ideal.exp ((x : EReal) - (M : EReal)) = ((Real.exp (x - M) : ℝ) : EReal) := by
  rw [← EReal.coe_sub]; rfl

/-- One row of the attention, in reals: the scores, the largest, the exponentials and their sum. -/
theorem row_coe (hQ : Fin' Q) (hK : Fin' K) (h g : Fin 4) (i : Fin 4096) : ∃ (S : Fin 4096 → ℝ) (M : ℝ), (∀ s, (sc Q K (ix4 h g i s) : EReal) = S s)
    ∧ (∀ s, (ex Q K (ix4 h g i s) : EReal) = ((Real.exp (S s - M) : ℝ) : EReal)) ∧ (sm Q K (ix4 h g i 0) : EReal) = ((∑ s, Real.exp (S s - M) : ℝ) : EReal) := by
  obtain ⟨S, hS⟩ := AttnMath.exists_real (fun s => (sc Q K (ix4 h g i s) : EReal)) fun s => sc_real Q K hQ hK _
  obtain ⟨M, hM⟩ := RefAttn.mx_real Q K (sc_real Q K hQ hK) (ix3 h g i)
  have hS' : ∀ s, (sc Q K (ix4 h g i s) : EReal) = S s := fun s => congrFun hS s
  have he : ∀ s, (ex Q K (ix4 h g i s) : EReal) = ((Real.exp (S s - M) : ℝ) : EReal) := fun s => by
    rw [RefAttn.ex_at, hS', hM, exp_coe]
  refine ⟨S, M, hS', he, ?_⟩
  rw [RefAttn.sm_at, coe_sum]
  exact Finset.sum_congr rfl fun s _ => he s

theorem sum_exp_pos (S : Fin 4096 → ℝ) (M : ℝ) : 0 < ∑ s, Real.exp (S s - M) :=
  Finset.sum_pos (fun _ _ => Real.exp_pos _) Finset.univ_nonempty

/-- The kernel's probability is the reference's. -/
theorem pK_eq (hQ : Fin' Q) (hK : Fin' K) (h g : Fin 4) (i s : Fin 4096) : pK Q K (lseArr Q K) h g i s = pr Q K (ix4 h g i s) := by
  obtain ⟨S, M, hS, he, hm⟩ := row_coe Q K hQ hK h g i
  obtain ⟨M', hM'⟩ := mxH_real Q K (sc_real Q K hQ hK) (ix3 h g i)
  have e0 : (∑ d : Fin 128, (Q (ix2 i (qcol h g d)) : EReal) * (K (ix2 s (kcol h d)) : EReal)) = sc Q K (ix4 h g i s) := by
    rw [RefAttn.sc_at]
    exact Finset.sum_congr rfl fun d _ => mul_comm _ _
  have e1 : ∀ s, (exH Q K (ix4 h g i s) : EReal) = Ideal.exp ((S s : EReal) - (M' : EReal)) := fun s => by
    rw [exH_at, hS, hM']
  rw [pK, e0, lse_at, hS, hM', RefAttn.pr_at, he, hm, AttnMath.div_coe _ _ (sum_exp_pos S M).ne', Finset.sum_congr rfl fun s _ => e1 s]
  exact AttnMath.exp_sub_lse S M' M s

/-- The kernel's gradient of the scores is the reference's. -/
theorem dsK_eq (hQ : Fin' Q) (hK : Fin' K) (hV : Fin' V) (hD : Fin' D) (h g : Fin 4) (i s : Fin 4096) :
    dsK Q K V D (oArr Q K V) (lseArr Q K) h g i s = ds Q K V D (ix4 h g i s) := by
  obtain ⟨S, M, hS, he, hm⟩ := row_coe Q K hQ hK h g i
  have hL := (sum_exp_pos S M).ne'
  set L := ∑ s, Real.exp (S s - M) with hLd
  obtain ⟨P, hP⟩ := AttnMath.exists_real (fun s => (dp V D (ix4 h g i s) : EReal)) fun s => dp_real V D hV hD _
  have hP' : ∀ s, (dp V D (ix4 h g i s) : EReal) = P s := fun s => congrFun hP s
  obtain ⟨D', hD'⟩ := AttnMath.exists_real (fun e : Fin 128 => (D (ix2 i (qcol h g e)) : EReal)) fun e => hD _
  obtain ⟨V', hV'⟩ := AttnMath.exists_real (fun p : Fin 4096 × Fin 128 => (V (ix2 p.1 (kcol h p.2)) : EReal)) fun e => hV _
  have hD1 : ∀ e, (D (ix2 i (qcol h g e)) : EReal) = D' e := fun e => congrFun hD' e
  have hV1 : ∀ s e, (V (ix2 s (kcol h e)) : EReal) = V' (s, e) := fun s e => congrFun hV' (s, e)
  have hp : ∀ s, (pr Q K (ix4 h g i s) : EReal) = ((Real.exp (S s - M) / L : ℝ) : EReal) := fun s => by
    rw [RefAttn.pr_at, he, hm, AttnMath.div_coe _ _ hL]
  have hdp : ∀ s, P s = ∑ e, D' e * V' (s, e) := fun s => by
    have := hP' s
    rw [RefAttn.dp_at] at this
    simp only [hD1, hV1, ← EReal.coe_mul, ← coe_sum] at this
    exact (EReal.coe_eq_coe_iff.1 this).symm
  have hdd : (∑ e : Fin 128, (D (ix2 i (qcol h g e)) : EReal) * (oArr Q K V (ix2 i (qcol h g e)) : EReal)) = ((∑ s, Real.exp (S s - M) / L * P s : ℝ) : EReal) := by
    simp only [o_at, hD1, hV1, hp, ← EReal.coe_mul, ← coe_sum]
    rw [AttnMath.delta_eq (fun s => Real.exp (S s - M) / L) (fun s e => V' (s, e)) D']
    simp only [hdp]
  rw [dsK, pK_eq Q K hQ hK, hdd, ← RefAttn.dp_at, hp, hP', RefAttn.ds_at, hP', hm, AttnMath.div_coe _ _ hL]
  have h1 : Ideal.div 1 ((L * L : ℝ) : EReal) = ((1 / (L * L) : ℝ) : EReal) := by
    rw [← EReal.coe_one]
    exact AttnMath.div_coe _ _ (mul_ne_zero hL hL)
  simp only [h1, hP', he, ← EReal.coe_mul, ← coe_sum, ← EReal.coe_neg, ← EReal.coe_add, ← EReal.coe_sub]
  refine congrArg _ ?_
  have h2 : ∑ s', P s' * (1 / (L * L)) * Real.exp (S s' - M) = (∑ s', Real.exp (S s' - M) / L * P s') / L := by
    rw [Finset.sum_div]
    refine Finset.sum_congr rfl fun s' _ => ?_
    field_simp
  rw [h2]
  field_simp
  ring

end Cert.KerAttn

end
-- ==== Proof.KerAlg.lean ====
/- The gradient kernel's result arrays are the reference's on finite arguments, and what the precondition says of the
   arguments. -/
module

public import proofs.«01_k».proof.Proof.KerEq
public import proofs.«01_k».proof.Pre_finite
public import Idealize.ShloMosaic.Lib.ReduceAll

@[expose] public section

set_option maxRecDepth 16384

noncomputable section

open Idealize.ShloMosaic Idealize.ShloMosaic.TcCoe Idealize.SL.Sem

namespace Cert.KerAttn

open Cert.KernelIdeal Cert.KernelIdeal.Gen Idealize.ShloMosaic.Pointwise
open Cert.RefAttn (pr ds dqOf dkOf dvOf qcol kcol)

variable (m : (ℓ : Loc nD τ sig) → Buf (Elt Ideal) ℓ) (c : Dev nD)

/-- Stacked rows of all points are the pairs of a query head and a row. -/
theorem sum_stack (F : Fin 4 → Fin 4096 → EReal) : ∑ n : Fin 16, ∑ y : Fin 1024, F (gOf y) (rowN n y) = ∑ g : Fin 4, ∑ i : Fin 4096, F g i := by
  have h1 : ∀ n : Fin 16, ∑ y : Fin 1024, F (gOf y) (rowN n y) = ∑ g : Fin 4, ∑ r : Fin 256, F g ⟨n.val * 256 + r.val, by omega⟩ := fun n => by
    refine Fin.sum_divmod_congr (S := 256) (f := fun g r => F g ⟨n.val * 256 + r.val, by omega⟩) fun y ha hs => ?_
    exact congrArg (F _) (Fin.ext (by show 256 * n.val + y.val % 256 = n.val * 256 + y.val % 256; omega))
  rw [Finset.sum_congr rfl fun n _ => h1 n, Finset.sum_comm]
  refine Finset.sum_congr rfl fun g _ => ?_
  exact Fin.sum_mul_add_congr (f := fun i => F g i) fun n k hl => rfl

theorem dqF_eq (fQ : Fin' (aQ m c)) (fK : Fin' (aK m c)) (fV : Fin' (aV m c)) (fD : Fin' (aD m c)) :
    dqF m c = dqOf (ds (aQ m c) (aK m c) (aV m c) (aD m c)) (aK m c) := by
  funext i
  idx_vars i
  have e : i1 = qcol (hQ i1) (gQ i1) (eQ i1) := Fin.ext (by show i1.val = 512 * (i1.val / 512) + 128 * (i1.val % 512 / 128) + i1.val % 128; omega)
  rw [dq_at' m c (ix2 i0 i1) i0 (hQ i1) (gQ i1) (eQ i1) rfl (congrArg Fin.val e)]
  conv => rhs; rw [e]
  rw [RefAttn.dqOf_at]
  exact Finset.sum_congr rfl fun s _ => congrArg (· * _) (dsK_eq _ _ _ _ fQ fK fV fD _ _ _ _)

theorem dkF_eq (fQ : Fin' (aQ m c)) (fK : Fin' (aK m c)) (fV : Fin' (aV m c)) (fD : Fin' (aD m c)) :
    dkF m c = dkOf (ds (aQ m c) (aK m c) (aV m c) (aD m c)) (aQ m c) := by
  funext i
  idx_vars i
  have e : i1 = kcol (hK i1) (eK i1) := Fin.ext (by show i1.val = 128 * (i1.val / 128) + i1.val % 128; omega)
  rw [dk_at m c (ix2 i0 i1) i0 (hK i1) (eK i1) rfl (congrArg Fin.val e)]
  conv => rhs; rw [e]
  rw [RefAttn.dkOf_at, zero_add,
    sum_stack fun g r => dsW m c (hK i1) g r i0 * aQ m c (ix2 r (qcol (hK i1) g (eK i1)))]
  exact (Finset.sum_congr rfl fun g _ => Finset.sum_congr rfl fun r _ => congrArg (· * _) (dsK_eq _ _ _ _ fQ fK fV fD _ _ _ _)).trans Finset.sum_comm

theorem dvF_eq (fQ : Fin' (aQ m c)) (fK : Fin' (aK m c)) :
    dvF m c = dvOf (pr (aQ m c) (aK m c)) (aD m c) := by
  funext i
  idx_vars i
  have e : i1 = kcol (hK i1) (eK i1) := Fin.ext (by show i1.val = 128 * (i1.val / 128) + i1.val % 128; omega)
  rw [dv_at m c (ix2 i0 i1) i0 (hK i1) (eK i1) rfl (congrArg Fin.val e)]
  conv => rhs; rw [e]
  rw [RefAttn.dvOf_at, zero_add,
    sum_stack fun g r => pW m c (hK i1) g r i0 * aD m c (ix2 r (qcol (hK i1) g (eK i1)))]
  exact Finset.sum_congr rfl fun g _ => Finset.sum_congr rfl fun r _ => (congrArg (· * _) (pK_eq _ _ fQ fK _ _ _ _)).trans (mul_comm _ _)

/-- An entry whose absolute value compares below infinity is a real. -/
theorem real_of_lt (x : EReal) (h : Ideal.cmp .olt (max x (-x)) (Ideal.ofBits .bf16 0x7F80#16) = 1#1) : ∃ r : ℝ, x = r := by
  have e : Ideal.ofBits .bf16 0x7F80#16 = (⊤ : EReal) := by simp [Ideal.ofBits, Ideal.ieee]
  rw [e] at h
  have hl : max x (-x) < (⊤ : EReal) := by
    by_contra hn
    simp [Ideal.cmp, hn] at h
  induction x with
  | bot => simp at hl
  | top => simp at hl
  | coe r => exact ⟨r, rfl⟩

/-- An array whose entries' absolute values all compare below infinity is an array of reals. -/
theorem real_of_all {s t : Shape} {axes : List (Fin s.rank)} [Subsingleton t.Idx] (x : FVec Ideal s .bf16) (z : Shape) (b : Fin z.rank → Fin s.rank) (hb) (u : Shape)
    (one : u.Idx → BitVec 1) (h : s.ReducesTo axes t) (hu : 0 < u.numel) (j : t.Idx)
    (e : Host.reduce IntOp.andi (cmpf .olt (Host.absf x) (broadcastInDim s b hb (constant z .bf16 0x7F80#16))) one h hu j = 1#1) : Fin' x :=
  fun i => real_of_lt _ (Host.reduce_andi_all _ one h hu j e i)

/-- `and` of two bits is one only when both are. -/
theorem andi_one {s : Shape} (x y : IVec s 1) (i : s.Idx) (h : andi x y i = 1#1) : x i = 1#1 ∧ y i = 1#1 := by
  have h' : x i &&& y i = 1#1 := h
  revert h'
  generalize x i = a; generalize y i = b
  revert a b
  decide

theorem pre_facts : Cert.Pre_finite.Facts where
  bcast_S_S4096x2048 := by decide
  reducesTo_S4096x2048_S_d0_1 := by decide
  h_S_ := by decide
  bcast_S_S4096x512 := by decide
  reducesTo_S4096x512_S_d0_1 := by decide

instance : Subsingleton Cert.Pre_finite.S_.Idx := ⟨fun a b => funext fun k => k.elim0⟩

/-- The precondition says that every argument's entries are real. -/
theorem pre_real [Cert.Pre_finite.Facts] (Q : FVec Ideal S4096x2048 .bf16) (K V : FVec Ideal S4096x512 .bf16) (D : FVec Ideal S4096x2048 .bf16)
    (h : Cert.Pre_finite.fn (F := Ideal) Q K V D = fun _ => 1#1) : Fin' Q ∧ Fin' K ∧ Fin' V ∧ Fin' D := by
  have h0 := congrFun h fun k => k.elim0
  dsimp only [Cert.Pre_finite.fn, Cert.Pre_finite.fn_part1] at h0
  obtain ⟨h1, hD⟩ := andi_one _ _ _ h0
  obtain ⟨h2, hV⟩ := andi_one _ _ _ h1
  obtain ⟨hQ, hK⟩ := andi_one _ _ _ h2
  exact ⟨real_of_all Q _ _ _ _ _ _ _ _ hQ, real_of_all K _ _ _ _ _ _ _ _ hK, real_of_all V _ _ _ _ _ _ _ _ hV, real_of_all D _ _ _ _ _ _ _ _ hD⟩

end Cert.KerAttn

end
-- ==== Proof.Products.lean ====
/- Products of two matrices over the extended reals, in the three forms that the step uses, and how a sum over a long
   contraction is taken piece by piece. -/
module

public import Idealize.ShloMosaic.Lib.Pipeline.ValueKit
public import Idealize.ShloMosaic.Lib.Pointwise
public import Idealize.ShloMosaic.PureOps.Ideal

@[expose] public section

noncomputable section

open Idealize.ShloMosaic Idealize.ShloMosaic.Pointwise

namespace Cert.Products

/-- An `a` by `b` array of extended reals. -/
abbrev Mat (a b : ℕ) : Type := (⟨2, ![a, b]⟩ : Shape).Idx → EReal

/-- `A · B`. -/
def nn {a b k : ℕ} (A : Mat a k) (B : Mat k b) : Mat a b := fun i => ∑ l : Fin k, A (ix2 (i 0) l) * B (ix2 l (i 1))
/-- `A · Bᵀ`. -/
def nt {a b k : ℕ} (A : Mat a k) (B : Mat b k) : Mat a b := fun i => ∑ l : Fin k, A (ix2 (i 0) l) * B (ix2 (i 1) l)
/-- `Aᵀ · B`. -/
def tn {a b k : ℕ} (A : Mat k a) (B : Mat k b) : Mat a b := fun i => ∑ l : Fin k, A (ix2 l (i 0)) * B (ix2 l (i 1))

/-- An entry of each, its two coordinates named. -/
theorem nn_at {a b k : ℕ} (A : Mat a k) (B : Mat k b) (i : (⟨2, ![a, b]⟩ : Shape).Idx) (r : Fin a) (x : Fin b) (hr : i 0 = r) (hx : i 1 = x) :
    nn A B i = ∑ l : Fin k, A (ix2 r l) * B (ix2 l x) := by subst hr; subst hx; rfl
theorem nt_at {a b k : ℕ} (A : Mat a k) (B : Mat b k) (i : (⟨2, ![a, b]⟩ : Shape).Idx) (r : Fin a) (x : Fin b) (hr : i 0 = r) (hx : i 1 = x) :
    nt A B i = ∑ l : Fin k, A (ix2 r l) * B (ix2 x l) := by subst hr; subst hx; rfl
theorem tn_at {a b k : ℕ} (A : Mat k a) (B : Mat k b) (i : (⟨2, ![a, b]⟩ : Shape).Idx) (r : Fin a) (x : Fin b) (hr : i 0 = r) (hx : i 1 = x) :
    tn A B i = ∑ l : Fin k, A (ix2 l r) * B (ix2 l x) := by subst hr; subst hx; rfl

/-- An index is the pair of its coordinates. -/
theorem ix2_of {a b : ℕ} (i : (⟨2, ![a, b]⟩ : Shape).Idx) (r : Fin a) (x : Fin b) (hr : i 0 = r) (hx : i 1 = x) : i = ix2 r x := by
  subst hr; subst hx
  funext d
  fin_cases d <;> rfl

end Cert.Products

end
-- ==== Proof.Gate.lean ====
/- The gates, as the references compute them. -/
module

public import proofs.«01_k».proof.Proof.Products
public import Idealize.ShloMosaic.Lib.KernelVsHost
public import proofs.«01_k».proof.Proof.Gen.Reference17Ideal.Run
public import Idealize.ShloMosaic.Lib.Claim

@[expose] public section

set_option maxRecDepth 16384

noncomputable section

open Idealize.ShloMosaic Idealize.ShloMosaic.TcCoe Idealize.SL.Sem

namespace Cert.Gate

open Cert.Reference17Ideal Cert.Reference17Ideal.Gen Idealize.ShloMosaic.Pointwise

abbrev Arr : Shape := ⟨2, ![4096, 2048]⟩
abbrev Two : Shape := ⟨2, ![4096, 4096]⟩
abbrev Proj : Shape := ⟨2, ![4096, 13312]⟩
abbrev Bias : Shape := ⟨2, ![1, 4096]⟩
abbrev Half : Shape := ⟨2, ![1, 2048]⟩

/-- Column `j` of the first and of the second gate: of the two gates side by side, and of the projection. -/
abbrev colA (j : Fin 2048) : Fin 4096 := ⟨j.val, by omega⟩
abbrev colB (j : Fin 2048) : Fin 4096 := ⟨2048 + j.val, by omega⟩
abbrev zA (j : Fin 2048) : Fin 13312 := ⟨9216 + j.val, by omega⟩
abbrev zB (j : Fin 2048) : Fin 13312 := ⟨11264 + j.val, by omega⟩

variable (Z : FVec Ideal Proj .bf16) (B : FVec Ideal Bias .f32)

/-- The two gates. -/
def sA (r : Fin 4096) (j : Fin 2048) : EReal := Ideal.logistic (Z (ix2 r (zA j)) + B (ix2 0 (colA j)))
def sB (r : Fin 4096) (j : Fin 2048) : EReal := Ideal.logistic (Z (ix2 r (zB j)) + B (ix2 0 (colB j)))

/-- Two arrays side by side, and each read back. -/
def side {φ : FTy} (a b : FVec Ideal Arr φ) : FVec Ideal Two φ := concatenate S4096x4096 1 [⟨S4096x2048, a⟩, ⟨S4096x2048, b⟩] concatenates_S4096x2048_S4096x2048_S4096x4096_d1
theorem side_A {φ : FTy} (a b : FVec Ideal Arr φ) (r : Fin 4096) (j : Fin 2048) : side a b (ix2 r (colA j)) = a (ix2 r j) := by
  pointwise [side]
theorem side_B {φ : FTy} (a b : FVec Ideal Arr φ) (r : Fin 4096) (j : Fin 2048) : side a b (ix2 r (colB j)) = b (ix2 r j) := by
  pointwise [side]

theorem left_at {φ : FTy} (x : FVec Ideal Two φ) (r : Fin 4096) (j : Fin 2048) : extractStridedSlice S4096x2048 ![0, 0] x slices_S4096x4096_S4096x2048_0_0 (ix2 r j) = x (ix2 r (colA j)) := by
  pointwise []
theorem right_at {φ : FTy} (x : FVec Ideal Two φ) (r : Fin 4096) (j : Fin 2048) : extractStridedSlice S4096x2048 ![0, 2048] x slices_S4096x4096_S4096x2048_0_2048 (ix2 r j) = x (ix2 r (colB j)) := by
  pointwise []

abbrev ones : FVec Ideal Two .f32 := broadcastInDim S4096x4096 ![] bcast_S_S4096x4096 (constant S_ .f32 0x3F800000#32)

/-- The references' text of the gates. -/
def preT : FVec Ideal Two .f32 :=
  side (extf .f32 (extractStridedSlice S4096x2048 ![0, 9216] Z slices_S4096x13312_S4096x2048_0_9216) bitsLt_bf16_f32) (extf .f32 (extractStridedSlice S4096x2048 ![0, 11264] Z slices_S4096x13312_S4096x2048_0_11264) bitsLt_bf16_f32)
def sigT (x : FVec Ideal Two .f32) : FVec Ideal Two .f32 := Host.divf ones (addf ones (Host.exp (Host.negf (addf x (broadcastInDim S4096x4096 ![0, 1] bcast_S1x4096_S4096x4096_0_1 B)))))
def gT : FVec Ideal Two .f32 := sigT B (preT Z)

theorem sigT_at (x : FVec Ideal Two .f32) (r j : Fin 4096) : (sigT B x (ix2 r j) : EReal) = Ideal.logistic (x (ix2 r j) + B (ix2 0 j)) := by
  pointwise [sigT]
  rfl

theorem preA_at (r : Fin 4096) (j : Fin 2048) : preT Z (ix2 r (colA j)) = Z (ix2 r (zA j)) := (side_A _ _ r j).trans (by pointwise [])
theorem preB_at (r : Fin 4096) (j : Fin 2048) : preT Z (ix2 r (colB j)) = Z (ix2 r (zB j)) := (side_B _ _ r j).trans (by pointwise [])

theorem gA_at (r : Fin 4096) (j : Fin 2048) : gT Z B (ix2 r (colA j)) = sA Z B r j := (sigT_at B _ r _).trans (by rw [preA_at]; rfl)
theorem gB_at (r : Fin 4096) (j : Fin 2048) : gT Z B (ix2 r (colB j)) = sB Z B r j := (sigT_at B _ r _).trans (by rw [preB_at]; rfl)

end Cert.Gate

end
-- ==== Proof.GateBwd.lean ====
/- The gates' gradient. -/
module

public import proofs.«01_k».proof.Proof.Gate
public import proofs.«01_k».proof.Proof.Gen.Kernel18.Frame
public import proofs.«01_k».proof.Proof.Gen.Kernel18Ideal.Value
public import proofs.«01_k».proof.Proof.Gen.Reference18Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.GateBwd

open Cert.Kernel18Ideal Cert.Kernel18Ideal.Gen Cert.Kernel18Ideal.Value Idealize.ShloMosaic.Pointwise

open Cert.Gate (Arr Two Proj Bias Half colA colB zA zB sA sB)

variable (m : (ℓ : Loc nD τ sig) → Buf (Elt Ideal) ℓ) (c : Dev nD)

abbrev D : FVec Ideal Arr .bf16 := m ((c : Thread nD τ).loc main_arg0)
abbrev Ya : FVec Ideal Arr .bf16 := m ((c : Thread nD τ).loc main_arg1)
abbrev Yb : FVec Ideal Arr .bf16 := m ((c : Thread nD τ).loc main_arg2)
abbrev Z : FVec Ideal Proj .bf16 := m ((c : Thread nD τ).loc main_arg3)
abbrev B : FVec Ideal Bias .f32 := m ((c : Thread nD τ).loc main_arg4)

/-- The block each window stages at each point. -/
theorem idx : ∀ t : Fin cfg0.N, win0_0.index t = ![t.val % 8, t.val / 8] ∧ win0_1.index t = ![t.val % 8, t.val / 8] ∧ win0_2.index t = ![t.val % 8, t.val / 8]
    ∧ win0_3.index t = ![t.val % 8, 9 + t.val / 8] ∧ win0_4.index t = ![t.val % 8, 11 + t.val / 8] ∧ win0_5.index t = ![0, t.val / 8] ∧ win0_6.index t = ![0, 2 + t.val / 8]
    ∧ win0_7.index t = ![t.val % 8, t.val / 8] ∧ win0_8.index t = ![t.val % 8, t.val / 8] ∧ win0_9.index t = ![t.val % 8, t.val / 8] ∧ win0_10.index t = ![t.val % 8, t.val / 8]
    ∧ win0_11.index t = ![0, t.val / 8] ∧ win0_12.index t = ![0, t.val / 8] :=
  (by decide +kernel : ∀ t : Fin grid0.N, _)

theorem lt_N (t : Fin cfg0.N) : t.val < 16 := lt_of_lt_of_eq t.isLt N_0

/-- The row and the column of the whole array that a point's block has at `(r, x)`. -/
abbrev row (t : Fin cfg0.N) (r : Fin 512) : Fin 4096 := ⟨512 * (t.val % 8) + r.val, by omega⟩
abbrev col (t : Fin cfg0.N) (x : Fin 1024) : Fin 2048 := ⟨1024 * (t.val / 8) + x.val, by have := lt_N t; omega⟩

theorem blkD (t : Fin cfg0.N) (r : Fin 512) (x : Fin 1024) : (show FVec Ideal S512x1024 .bf16 from iblk m c 0 t) (ix2 r x) = D m c (ix2 (row t r) (col t x)) := by
  blk_point [iblk, V, idx t]
theorem blkYa (t : Fin cfg0.N) (r : Fin 512) (x : Fin 1024) : (show FVec Ideal S512x1024 .bf16 from iblk m c 1 t) (ix2 r x) = Ya m c (ix2 (row t r) (col t x)) := by
  blk_point [iblk, V, idx t]
theorem blkYb (t : Fin cfg0.N) (r : Fin 512) (x : Fin 1024) : (show FVec Ideal S512x1024 .bf16 from iblk m c 2 t) (ix2 r x) = Yb m c (ix2 (row t r) (col t x)) := by
  blk_point [iblk, V, idx t]
theorem blkGa (t : Fin cfg0.N) (r : Fin 512) (x : Fin 1024) : (show FVec Ideal S512x1024 .bf16 from iblk m c 3 t) (ix2 r x) = Z m c (ix2 (row t r) (zA (col t x))) := by
  blk_point [iblk, V, idx t]
theorem blkGb (t : Fin cfg0.N) (r : Fin 512) (x : Fin 1024) : (show FVec Ideal S512x1024 .bf16 from iblk m c 4 t) (ix2 r x) = Z m c (ix2 (row t r) (zB (col t x))) := by
  blk_point [iblk, V, idx t]
theorem blkBa (t : Fin cfg0.N) (z : Fin 1) (x : Fin 1024) : (show FVec Ideal S1x1024 .f32 from iblk m c 5 t) (ix2 z x) = B m c (ix2 0 (colA (col t x))) := by
  blk_point [iblk, V, idx t]
theorem blkBb (t : Fin cfg0.N) (z : Fin 1) (x : Fin 1024) : (show FVec Ideal S1x1024 .f32 from iblk m c 6 t) (ix2 z x) = B m c (ix2 0 (colB (col t x))) := by
  blk_point [iblk, V, idx t]

/-- A gate's gradient: of what came in times the branch, through the gate. -/
abbrev thru (d y s : EReal) : EReal := d * y * (s * (1 - s))

section spec
variable (D Ya Yb : FVec Ideal Arr .bf16) (Z : FVec Ideal Proj .bf16) (B : FVec Ideal Bias .f32)
def uA (r : Fin 4096) (j : Fin 2048) : EReal := thru (D (ix2 r j)) (Ya (ix2 r j)) (sA Z B r j)
def uB (r : Fin 4096) (j : Fin 2048) : EReal := thru (D (ix2 r j)) (Yb (ix2 r j)) (sB Z B r j)
def dYa : FVec Ideal Arr .bf16 := fun i => (D (ix2 (i 0) (i 1)) * sA Z B (i 0) (i 1) : EReal)
def dYb : FVec Ideal Arr .bf16 := fun i => (D (ix2 (i 0) (i 1)) * sB Z B (i 0) (i 1) : EReal)
def dGa : FVec Ideal Arr .bf16 := fun i => uA D Ya Z B (i 0) (i 1)
def dGb : FVec Ideal Arr .bf16 := fun i => uB D Yb Z B (i 0) (i 1)
def dBa : FVec Ideal Half .f32 := fun i => (∑ r : Fin 4096, uA D Ya Z B r (i 1) : EReal)
def dBb : FVec Ideal Half .f32 := fun i => (∑ r : Fin 4096, uB D Yb Z B r (i 1) : EReal)
end spec

section pays
variable (d y g : Vec Ideal S512x1024 .bf16) (b : Vec Ideal S1x1024 .f32) (v : FVec Ideal S512x1024 .f32) (w : Vec Ideal S8x1024 .f32)

theorem pay11_at (r : Fin 512) (x : Fin 1024) : k0_pay11 d g b (ix2 r x) = d (ix2 r x) * Ideal.logistic (g (ix2 r x) + b (ix2 0 x)) := by
  pointwise [k0_pay11, k0_pay8, k0_pay9]
theorem pay12_at (r : Fin 512) (x : Fin 1024) : k0_pay12 d g b (ix2 r x) = d (ix2 r x) * Ideal.logistic (g (ix2 r x) + b (ix2 0 x)) := by
  pointwise [k0_pay12, k0_pay8, k0_pay10]
theorem pay13_at (r : Fin 512) (x : Fin 1024) : k0_pay13 d g b y (ix2 r x) = thru (d (ix2 r x)) (y (ix2 r x)) (Ideal.logistic (g (ix2 r x) + b (ix2 0 x))) := by
  rw [thru, ← mul_assoc]
  pointwise [k0_pay13, k0_pay8, k0_pay9]
theorem pay14_at (r : Fin 512) (x : Fin 1024) : k0_pay14 d g b y (ix2 r x) = thru (d (ix2 r x)) (y (ix2 r x)) (Ideal.logistic (g (ix2 r x) + b (ix2 0 x))) := by
  rw [thru, ← mul_assoc]
  pointwise [k0_pay14, k0_pay8, k0_pay10]
theorem pay1_at (j : S512x1024.Idx) : k0_pay1 v j = v j := by
  idx_vars j
  pointwise [k0_pay1]
theorem pay15_at (j : S512x1024.Idx) : k0_pay15 d g b y j = k0_pay13 d g b y j := by
  generalize h : k0_pay13 d g b y = v
  idx_vars j
  unfold k0_pay15
  rw [h]
  pointwise []
theorem pay2_at (j : S8x1024.Idx) : k0_pay2 (F := Ideal) j = 0 := by
  idx_vars j
  pointwise [k0_pay2]
theorem pay3_at (j : S8x1024.Idx) : k0_pay3 (F := Ideal) j = 0 := by
  idx_vars j
  pointwise [k0_pay3]
theorem pay4_at (q : Fin 8) (x : Fin 1024) : k0_pay4 v w (ix2 q x) = w (ix2 q x) + ∑ p : Fin 64, v (ix2 (⟨p.val * 8 + q.val, by omega⟩ : Fin 512) x) := by
  pointwise [k0_pay4]
theorem pay5_at (q : Fin 8) (x : Fin 1024) : k0_pay5 v w (ix2 q x) = w (ix2 q x) + ∑ p : Fin 64, v (ix2 (⟨p.val * 8 + q.val, by omega⟩ : Fin 512) x) := by
  pointwise [k0_pay5]
theorem pay6_at (z : Fin 1) (x : Fin 1024) : k0_pay6 w (ix2 z x) = ∑ q : Fin 8, w (ix2 q x) := by
  pointwise [k0_pay6]
theorem pay7_at (z : Fin 1) (x : Fin 1024) : k0_pay7 w (ix2 z x) = ∑ q : Fin 8, w (ix2 q x) := by
  pointwise [k0_pay7]
end pays

/-- A sum over the rows, in the order in which they are added up. -/
theorem sum_rows (f : Fin 4096 → EReal) :
    ∑ q : Fin 8, ∑ n : Fin 8, ∑ p : Fin 64, f ⟨512 * n.val + (p.val * 8 + q.val), by omega⟩ = ∑ r : Fin 4096, f r := by
  rw [Fin.sum_univ_tiles 8 512 rfl f, Finset.sum_comm]
  refine Fin.sum_fin_congr fun n => ?_
  rw [Fin.sum_univ_tiles 64 8 rfl, Finset.sum_comm]
  refine Fin.sum_fin_congr fun p => Fin.sum_fin_congr fun q => congrArg f (Fin.ext ?_)
  show 512 * n.val + (p.val * 8 + q.val) = n.val * 512 + (p.val * 8 + q.val)
  omega

/-- What a point's block holds of each result. -/
theorem p11 (t : Fin cfg0.N) (r : Fin 512) (x : Fin 1024) :
    k0_pay11 (F := Ideal) (iblk m c 0 t) (iblk m c 3 t) (iblk m c 5 t) (ix2 r x) = dYa (D m c) (Z m c) (B m c) (ix2 (row t r) (col t x)) :=
  (pay11_at _ _ _ r x).trans (by simp only [blkD, blkGa, blkBa]; rfl)
theorem p12 (t : Fin cfg0.N) (r : Fin 512) (x : Fin 1024) :
    k0_pay12 (F := Ideal) (iblk m c 0 t) (iblk m c 4 t) (iblk m c 6 t) (ix2 r x) = dYb (D m c) (Z m c) (B m c) (ix2 (row t r) (col t x)) :=
  (pay12_at _ _ _ r x).trans (by simp only [blkD, blkGb, blkBb]; rfl)
theorem p13 (t : Fin cfg0.N) (r : Fin 512) (x : Fin 1024) :
    k0_pay13 (F := Ideal) (iblk m c 0 t) (iblk m c 3 t) (iblk m c 5 t) (iblk m c 1 t) (ix2 r x) = uA (D m c) (Ya m c) (Z m c) (B m c) (row t r) (col t x) :=
  (pay13_at _ _ _ _ r x).trans (by simp only [blkD, blkYa, blkGa, blkBa]; rfl)
theorem p14 (t : Fin cfg0.N) (r : Fin 512) (x : Fin 1024) :
    k0_pay14 (F := Ideal) (iblk m c 0 t) (iblk m c 4 t) (iblk m c 6 t) (iblk m c 2 t) (ix2 r x) = uB (D m c) (Yb m c) (Z m c) (B m c) (row t r) (col t x) :=
  (pay14_at _ _ _ _ r x).trans (by simp only [blkD, blkYb, blkGb, blkBb]; rfl)
theorem p15 (t : Fin cfg0.N) (r : Fin 512) (x : Fin 1024) :
    k0_pay15 (F := Ideal) (iblk m c 0 t) (iblk m c 3 t) (iblk m c 5 t) (iblk m c 1 t) (ix2 r x) = dGa (D m c) (Ya m c) (Z m c) (B m c) (ix2 (row t r) (col t x)) :=
  (pay15_at _ _ _ _ _).trans (p13 m c t r x)
theorem p1 (t : Fin cfg0.N) (r : Fin 512) (x : Fin 1024) :
    k0_pay1 (k0_pay14 (F := Ideal) (iblk m c 0 t) (iblk m c 4 t) (iblk m c 6 t) (iblk m c 2 t)) (ix2 r x) = dGb (D m c) (Yb m c) (Z m c) (B m c) (ix2 (row t r) (col t x)) :=
  (pay1_at _ _).trans (p14 m c t r x)

theorem dya_pt (t : Fin cfg0.N) (r : Fin 512) (x : Fin 1024) : (outsAt0 m c t.val t.isLt).1 (ix2 r x) = dYa (D m c) (Z m c) (B m c) (ix2 (row t r) (col t x)) := by
  by_cases h0 : t.val % 8 = 0
  · rw [outsAt0_A m c t h0 (by omega)]
    frame_out
    exact p11 m c t r x
  · by_cases h1 : t.val % 8 = 7
    · rw [outsAt0_C m c t h0 h1]
      frame_out
      exact p11 m c t r x
    · rw [outsAt0_B m c t h0 h1]
      frame_out
      exact p11 m c t r x
theorem dyb_pt (t : Fin cfg0.N) (r : Fin 512) (x : Fin 1024) : (outsAt0 m c t.val t.isLt).2.1 (ix2 r x) = dYb (D m c) (Z m c) (B m c) (ix2 (row t r) (col t x)) := by
  by_cases h0 : t.val % 8 = 0
  · rw [outsAt0_A m c t h0 (by omega)]
    frame_out
    exact p12 m c t r x
  · by_cases h1 : t.val % 8 = 7
    · rw [outsAt0_C m c t h0 h1]
      frame_out
      exact p12 m c t r x
    · rw [outsAt0_B m c t h0 h1]
      frame_out
      exact p12 m c t r x
theorem dga_pt (t : Fin cfg0.N) (r : Fin 512) (x : Fin 1024) : (outsAt0 m c t.val t.isLt).2.2.1 (ix2 r x) = dGa (D m c) (Ya m c) (Z m c) (B m c) (ix2 (row t r) (col t x)) := by
  by_cases h0 : t.val % 8 = 0
  · rw [outsAt0_A m c t h0 (by omega)]
    frame_out
    exact p15 m c t r x
  · by_cases h1 : t.val % 8 = 7
    · rw [outsAt0_C m c t h0 h1]
      frame_out
      exact p15 m c t r x
    · rw [outsAt0_B m c t h0 h1]
      frame_out
      exact p15 m c t r x
theorem dgb_pt (t : Fin cfg0.N) (r : Fin 512) (x : Fin 1024) : (outsAt0 m c t.val t.isLt).2.2.2.1 (ix2 r x) = dGb (D m c) (Yb m c) (Z m c) (B m c) (ix2 (row t r) (col t x)) := by
  by_cases h0 : t.val % 8 = 0
  · rw [outsAt0_A m c t h0 (by omega)]
    frame_out
    exact p1 m c t r x
  · by_cases h1 : t.val % 8 = 7
    · rw [outsAt0_C m c t h0 h1]
      frame_out
      exact p1 m c t r x
    · rw [outsAt0_B m c t h0 h1]
      frame_out
      exact p1 m c t r x

/-- What was left in an accumulator is read back. -/
theorem read_acc0 (w : Vec Ideal S8x1024 .f32) (j : S8x1024.Idx) :
    View.read (Elt Ideal) (View.whole cc0_scratch0) ((Memref.isWhole_whole cc0_scratch0).unread w) j = w j :=
  congrFun (Memref.IsWhole.read_unread (Memref.isWhole_whole cc0_scratch0) w) j
theorem read_acc1 (w : Vec Ideal S8x1024 .f32) (j : S8x1024.Idx) :
    View.read (Elt Ideal) (View.whole cc0_scratch1) ((Memref.isWhole_whole cc0_scratch1).unread w) j = w j :=
  congrFun (Memref.IsWhole.read_unread (Memref.isWhole_whole cc0_scratch1) w) j

/-- What a point adds to an accumulator: every eighth row of its block. -/
def term (u : Fin 4096 → Fin 2048 → EReal) (t : Fin cfg0.N) (q : Fin 8) (x : Fin 1024) : EReal :=
  ∑ p : Fin 64, u (row t ⟨p.val * 8 + q.val, by omega⟩) (col t x)

/-- The eight rows of a full accumulator add up to the sum over all rows. -/
theorem full_sum (u : Fin 4096 → Fin 2048 → EReal) (t : Fin cfg0.N) (x : Fin 1024) (hn : ∀ n : Fin 8, 8 * (t.val / 8) + n.val < cfg0.N) :
    ∑ q : Fin 8, (0 + ∑ n : Fin 8, term u ⟨8 * (t.val / 8) + n.val, hn n⟩ q x) = ∑ r : Fin 4096, u r (col t x) := by
  rw [← sum_rows]
  refine Fin.sum_fin_congr fun q => ?_
  rw [zero_add]
  refine Fin.sum_fin_congr fun n => Fin.sum_fin_congr fun p => congrArg₂ u (Fin.ext ?_) (Fin.ext ?_)
  · show 512 * ((8 * (t.val / 8) + n.val) % 8) + (p.val * 8 + q.val) = 512 * n.val + (p.val * 8 + q.val)
    omega
  · show 1024 * ((8 * (t.val / 8) + n.val) / 8) + _ = 1024 * (t.val / 8) + _
    omega

theorem add_a (t : Fin cfg0.N) (w : Vec Ideal S8x1024 .f32) (q : Fin 8) (x : Fin 1024) :
    k0_pay4 (k0_pay13 (F := Ideal) (iblk m c 0 t) (iblk m c 3 t) (iblk m c 5 t) (iblk m c 1 t)) w (ix2 q x)
      = w (ix2 q x) + term (uA (D m c) (Ya m c) (Z m c) (B m c)) t q x :=
  (pay4_at _ w q x).trans (congrArg (_ + ·) (Fin.sum_fin_congr fun p => p13 m c t _ x))
theorem add_b (t : Fin cfg0.N) (w : Vec Ideal S8x1024 .f32) (q : Fin 8) (x : Fin 1024) :
    k0_pay5 (k0_pay14 (F := Ideal) (iblk m c 0 t) (iblk m c 4 t) (iblk m c 6 t) (iblk m c 2 t)) w (ix2 q x)
      = w (ix2 q x) + term (uB (D m c) (Yb m c) (Z m c) (B m c)) t q x :=
  (pay5_at _ w q x).trans (congrArg (_ + ·) (Fin.sum_fin_congr fun p => p14 m c t _ x))

theorem reset_a (t : Fin cfg0.N) (h0 : t.val % 8 = 0) (q : Fin 8) (x : Fin 1024) :
    (outsAt0 m c t.val t.isLt).2.2.2.2.2.2.1 (ix2 q x) = 0 + term (uA (D m c) (Ya m c) (Z m c) (B m c)) t q x := by
  rw [outsAt0_A m c t h0 (by omega)]
  frame_out
  exact (add_a m c t _ q x).trans (congrArg (· + _) (pay2_at _))
theorem step_a (t : Fin cfg0.N) (h0 : ¬t.val % 8 = 0) (q : Fin 8) (x : Fin 1024) :
    (outsAt0 m c t.val t.isLt).2.2.2.2.2.2.1 (ix2 q x)
      = (outsAt0 m c (t.val - 1) (Nat.lt_of_le_of_lt (Nat.sub_le _ _) t.isLt)).2.2.2.2.2.2.1 (ix2 q x) + term (uA (D m c) (Ya m c) (Z m c) (B m c)) t q x := by
  by_cases h1 : t.val % 8 = 7
  · rw [outsAt0_C m c t h0 h1]
    frame_out
    exact (add_a m c t _ q x).trans (congrArg (· + _) (read_acc0 _ _))
  · rw [outsAt0_B m c t h0 h1]
    frame_out
    exact (add_a m c t _ q x).trans (congrArg (· + _) (read_acc0 _ _))
theorem out_a (t : Fin cfg0.N) (h1 : t.val % 8 = 7) (z : Fin 1) (x : Fin 1024) :
    (outsAt0 m c t.val t.isLt).2.2.2.2.1 (ix2 z x) = ∑ r : Fin 4096, uA (D m c) (Ya m c) (Z m c) (B m c) r (col t x) := by
  refine Eq.trans ?_ (full_sum (uA (D m c) (Ya m c) (Z m c) (B m c)) t x (fun n => by have := lt_N t; have := N_0; omega))
  refine Eq.trans ?_ (Fin.sum_fin_congr fun q => Pipeline.eq_sum_fin_of_reset_step_apply_of_flush (ι := Fin 8 × Fin 1024) (M := EReal) (N := cfg0.N)
    (fun n hn (p : Fin 8 × Fin 1024) => (outsAt0 m c n hn).2.2.2.2.2.2.1 (ix2 p.1 p.2)) 8
    (fun _ => 0) (fun t p => term (uA (D m c) (Ya m c) (Z m c) (B m c)) t p.1 p.2) (fun t h0 p => reset_a m c t h0 _ _) (fun t h0 p => step_a m c t h0 _ _) t h1 (q, x))
  show _ = ∑ q : Fin 8, (outsAt0 m c t.val t.isLt).2.2.2.2.2.2.1 (ix2 q x)
  rw [outsAt0_C m c t (by omega) h1]
  frame_out
  exact pay6_at _ z x

theorem reset_b (t : Fin cfg0.N) (h0 : t.val % 8 = 0) (q : Fin 8) (x : Fin 1024) :
    (outsAt0 m c t.val t.isLt).2.2.2.2.2.2.2 (ix2 q x) = 0 + term (uB (D m c) (Yb m c) (Z m c) (B m c)) t q x := by
  rw [outsAt0_A m c t h0 (by omega)]
  frame_out
  exact (add_b m c t _ q x).trans (congrArg (· + _) (pay3_at _))
theorem step_b (t : Fin cfg0.N) (h0 : ¬t.val % 8 = 0) (q : Fin 8) (x : Fin 1024) :
    (outsAt0 m c t.val t.isLt).2.2.2.2.2.2.2 (ix2 q x)
      = (outsAt0 m c (t.val - 1) (Nat.lt_of_le_of_lt (Nat.sub_le _ _) t.isLt)).2.2.2.2.2.2.2 (ix2 q x) + term (uB (D m c) (Yb m c) (Z m c) (B m c)) t q x := by
  by_cases h1 : t.val % 8 = 7
  · rw [outsAt0_C m c t h0 h1]
    frame_out
    exact (add_b m c t _ q x).trans (congrArg (· + _) (read_acc1 _ _))
  · rw [outsAt0_B m c t h0 h1]
    frame_out
    exact (add_b m c t _ q x).trans (congrArg (· + _) (read_acc1 _ _))
theorem out_b (t : Fin cfg0.N) (h1 : t.val % 8 = 7) (z : Fin 1) (x : Fin 1024) :
    (outsAt0 m c t.val t.isLt).2.2.2.2.2.1 (ix2 z x) = ∑ r : Fin 4096, uB (D m c) (Yb m c) (Z m c) (B m c) r (col t x) := by
  refine Eq.trans ?_ (full_sum (uB (D m c) (Yb m c) (Z m c) (B m c)) t x (fun n => by have := lt_N t; have := N_0; omega))
  refine Eq.trans ?_ (Fin.sum_fin_congr fun q => Pipeline.eq_sum_fin_of_reset_step_apply_of_flush (ι := Fin 8 × Fin 1024) (M := EReal) (N := cfg0.N)
    (fun n hn (p : Fin 8 × Fin 1024) => (outsAt0 m c n hn).2.2.2.2.2.2.2 (ix2 p.1 p.2)) 8
    (fun _ => 0) (fun t p => term (uB (D m c) (Yb m c) (Z m c) (B m c)) t p.1 p.2) (fun t h0 p => reset_b m c t h0 _ _) (fun t h0 p => step_b m c t h0 _ _) t h1 (q, x))
  show _ = ∑ q : Fin 8, (outsAt0 m c t.val t.isLt).2.2.2.2.2.2.2 (ix2 q x)
  rw [outsAt0_C m c t (by omega) h1]
  frame_out
  exact pay7_at _ z x

theorem at_eq {S : Shape} {α : Type} (f : S.Idx → α) (i j : S.Idx) (h : ∀ a, i a = j a) : f i = f j := congrArg f (funext h)

theorem final7 : (dats m 0 c).arrAt 7 cfg0.N = dYa (D m c) (Z m c) (B m c) := by
  refine (dats m 0 c).arrAt_eq_of_covers 7 _ (by decide +kernel) fun t hf y => ?_
  blk_simp
  rw [after0_7]
  revert y
  show ∀ y : S512x1024.Idx, _
  intro y
  idx_vars y
  refine (dya_pt m c t y0 y1).trans (at_eq (dYa (D m c) (Z m c) (B m c)) (ix2 (row t y0) (col t y1)) _ fun a => ?_)
  fin_cases a
  · exact Fin.ext (by show _ = win0_7.index t (0 : Fin 2) * 512 + 1 * y0.val; simp [idx t]; omega)
  · exact Fin.ext (by show _ = win0_7.index t (1 : Fin 2) * 1024 + 1 * y1.val; simp [idx t]; omega)
theorem final8 : (dats m 0 c).arrAt 8 cfg0.N = dYb (D m c) (Z m c) (B m c) := by
  refine (dats m 0 c).arrAt_eq_of_covers 8 _ (by decide +kernel) fun t hf y => ?_
  blk_simp
  rw [after0_8]
  revert y
  show ∀ y : S512x1024.Idx, _
  intro y
  idx_vars y
  refine (dyb_pt m c t y0 y1).trans (at_eq (dYb (D m c) (Z m c) (B m c)) (ix2 (row t y0) (col t y1)) _ fun a => ?_)
  fin_cases a
  · exact Fin.ext (by show _ = win0_8.index t (0 : Fin 2) * 512 + 1 * y0.val; simp [idx t]; omega)
  · exact Fin.ext (by show _ = win0_8.index t (1 : Fin 2) * 1024 + 1 * y1.val; simp [idx t]; omega)
theorem final9 : (dats m 0 c).arrAt 9 cfg0.N = dGa (D m c) (Ya m c) (Z m c) (B m c) := by
  refine (dats m 0 c).arrAt_eq_of_covers 9 _ (by decide +kernel) fun t hf y => ?_
  blk_simp
  rw [after0_9]
  revert y
  show ∀ y : S512x1024.Idx, _
  intro y
  idx_vars y
  refine (dga_pt m c t y0 y1).trans (at_eq (dGa (D m c) (Ya m c) (Z m c) (B m c)) (ix2 (row t y0) (col t y1)) _ fun a => ?_)
  fin_cases a
  · exact Fin.ext (by show _ = win0_9.index t (0 : Fin 2) * 512 + 1 * y0.val; simp [idx t]; omega)
  · exact Fin.ext (by show _ = win0_9.index t (1 : Fin 2) * 1024 + 1 * y1.val; simp [idx t]; omega)
theorem final10 : (dats m 0 c).arrAt 10 cfg0.N = dGb (D m c) (Yb m c) (Z m c) (B m c) := by
  refine (dats m 0 c).arrAt_eq_of_covers 10 _ (by decide +kernel) fun t hf y => ?_
  blk_simp
  rw [after0_10]
  revert y
  show ∀ y : S512x1024.Idx, _
  intro y
  idx_vars y
  refine (dgb_pt m c t y0 y1).trans (at_eq (dGb (D m c) (Yb m c) (Z m c) (B m c)) (ix2 (row t y0) (col t y1)) _ fun a => ?_)
  fin_cases a
  · exact Fin.ext (by show _ = win0_10.index t (0 : Fin 2) * 512 + 1 * y0.val; simp [idx t]; omega)
  · exact Fin.ext (by show _ = win0_10.index t (1 : Fin 2) * 1024 + 1 * y1.val; simp [idx t]; omega)
theorem final11 : (dats m 0 c).arrAt 11 cfg0.N = dBa (D m c) (Ya m c) (Z m c) (B m c) := by
  refine (dats m 0 c).arrAt_eq_of_covers 11 _ (by decide +kernel) fun t hf y => ?_
  have ht := (flush0_11 t).mp hf
  blk_simp
  rw [after0_11]
  revert y
  show ∀ y : S1x1024.Idx, _
  intro y
  idx_vars y
  refine (out_a m c t ht y0 y1).trans (at_eq (dBa (D m c) (Ya m c) (Z m c) (B m c)) (ix2 (0 : Fin 1) (col t y1)) _ fun a => ?_)
  fin_cases a
  · exact Subsingleton.elim (α := Fin 1) _ _
  · exact Fin.ext (by show _ = win0_11.index t (1 : Fin 2) * 1024 + 1 * y1.val; simp [idx t]; omega)
theorem final12 : (dats m 0 c).arrAt 12 cfg0.N = dBb (D m c) (Yb m c) (Z m c) (B m c) := by
  refine (dats m 0 c).arrAt_eq_of_covers 12 _ (by decide +kernel) fun t hf y => ?_
  have ht := (flush0_12 t).mp hf
  blk_simp
  rw [after0_12]
  revert y
  show ∀ y : S1x1024.Idx, _
  intro y
  idx_vars y
  refine (out_b m c t ht y0 y1).trans (at_eq (dBb (D m c) (Yb m c) (Z m c) (B m c)) (ix2 (0 : Fin 1) (col t y1)) _ fun a => ?_)
  fin_cases a
  · exact Subsingleton.elim (α := Fin 1) _ _
  · exact Fin.ext (by show _ = win0_12.index t (1 : Fin 2) * 1024 + 1 * y1.val; simp [idx t]; omega)

section reference
open Cert.Reference18Ideal.Gen
open Cert.Gate (gT ones side)

variable (D Ya Yb : FVec Ideal Arr .bf16) (Z : FVec Ideal Proj .bf16) (B : FVec Ideal Bias .f32)

/-- The reference's text of the two gates' gradient, side by side. -/
def prodT : FVec Ideal Two .f32 :=
  mulf (side (mulf (extf .f32 D Cert.Reference18Ideal.Gen.bitsLt_bf16_f32) (extf .f32 Ya Cert.Reference18Ideal.Gen.bitsLt_bf16_f32)) (mulf (extf .f32 D Cert.Reference18Ideal.Gen.bitsLt_bf16_f32) (extf .f32 Yb Cert.Reference18Ideal.Gen.bitsLt_bf16_f32)))
    (mulf (gT Z B) (subf ones (gT Z B)))

theorem prod_at (a g : FVec Ideal Two .f32) (i : Two.Idx) : (mulf a (mulf g (subf ones g)) i : EReal) = a i * (g i * (1 - g i)) := by
  idx_vars i
  pointwise []

theorem prodA (r : Fin 4096) (j : Fin 2048) : prodT D Ya Yb Z B (ix2 r (colA j)) = uA D Ya Z B r j := by
  refine (prod_at _ _ _).trans ?_
  rw [Gate.gA_at, Gate.side_A]
  rfl
theorem prodB (r : Fin 4096) (j : Fin 2048) : prodT D Ya Yb Z B (ix2 r (colB j)) = uB D Yb Z B r j := by
  refine (prod_at _ _ _).trans ?_
  rw [Gate.gB_at, Gate.side_B]
  rfl

/-- The sum over the rows, as the reference writes it. -/
def rowT (x : FVec Ideal Two .f32) : FVec Ideal Bias .f32 :=
  shapeCast Bias (Host.reduceAdd x (constant Cert.Reference18Ideal.S_ .f32 0x00000000#32) reducesTo_S4096x4096_S4096_d0 h_S_) shapeCasts_S4096_S1x4096
theorem rowT_at (x : FVec Ideal Two .f32) (z : Fin 1) (j : Fin 4096) : rowT x (ix2 z j) = ∑ r : Fin 4096, x (ix2 r j) := by
  pointwise [rowT]

theorem halfA (x : FVec Ideal Bias .f32) (z : Fin 1) (j : Fin 2048) : extractStridedSlice Half ![0, 0] x slices_S1x4096_S1x2048_0_0 (ix2 z j) = x (ix2 0 (colA j)) := by
  pointwise []
theorem halfB (x : FVec Ideal Bias .f32) (z : Fin 1) (j : Fin 2048) : extractStridedSlice Half ![0, 2048] x slices_S1x4096_S1x2048_0_2048 (ix2 z j) = x (ix2 0 (colB j)) := by
  pointwise []

theorem ref_ya : truncf .bf16 (mulf (extractStridedSlice Arr ![0, 0] (gT Z B) slices_S4096x4096_S4096x2048_0_0) (extf .f32 D Cert.Reference18Ideal.Gen.bitsLt_bf16_f32)) Cert.Reference18Ideal.Gen.bitsLt_bf16_f32 = dYa D Z B := by
  funext i
  idx_vars i
  exact (congrArg (fun a : EReal => a * D (ix2 i0 i1)) ((Gate.left_at _ i0 i1).trans (Gate.gA_at Z B i0 i1))).trans (mul_comm _ _)
theorem ref_yb : truncf .bf16 (mulf (extractStridedSlice Arr ![0, 2048] (gT Z B) slices_S4096x4096_S4096x2048_0_2048) (extf .f32 D Cert.Reference18Ideal.Gen.bitsLt_bf16_f32)) Cert.Reference18Ideal.Gen.bitsLt_bf16_f32 = dYb D Z B := by
  funext i
  idx_vars i
  exact (congrArg (fun a : EReal => a * D (ix2 i0 i1)) ((Gate.right_at _ i0 i1).trans (Gate.gB_at Z B i0 i1))).trans (mul_comm _ _)
theorem ref_ga : truncf .bf16 (extractStridedSlice Arr ![0, 0] (prodT D Ya Yb Z B) slices_S4096x4096_S4096x2048_0_0) Cert.Reference18Ideal.Gen.bitsLt_bf16_f32 = dGa D Ya Z B := by
  funext i
  idx_vars i
  exact (Gate.left_at (prodT D Ya Yb Z B) i0 i1).trans (prodA D Ya Yb Z B i0 i1)
theorem ref_gb : truncf .bf16 (extractStridedSlice Arr ![0, 2048] (prodT D Ya Yb Z B) slices_S4096x4096_S4096x2048_0_2048) Cert.Reference18Ideal.Gen.bitsLt_bf16_f32 = dGb D Yb Z B := by
  funext i
  idx_vars i
  exact (Gate.right_at (prodT D Ya Yb Z B) i0 i1).trans (prodB D Ya Yb Z B i0 i1)
theorem ref_ba : extractStridedSlice Half ![0, 0] (rowT (prodT D Ya Yb Z B)) slices_S1x4096_S1x2048_0_0 = dBa D Ya Z B := by
  funext i
  idx_vars i
  exact (halfA _ i0 i1).trans ((rowT_at _ 0 _).trans (Fin.sum_fin_congr fun r => prodA D Ya Yb Z B r i1))
theorem ref_bb : extractStridedSlice Half ![0, 2048] (rowT (prodT D Ya Yb Z B)) slices_S1x4096_S1x2048_0_2048 = dBb D Yb Z B := by
  funext i
  idx_vars i
  exact (halfB _ i0 i1).trans ((rowT_at _ 0 _).trans (Fin.sum_fin_congr fun r => prodB D Ya Yb Z B r i1))

end reference

theorem frame : Cert.quiescent_Kernel18 := fun m ρ _ => Cert.Kernel18.Gen.frame (F := Bits) m ρ
theorem frame_ideal : Cert.quiescent_Kernel18Ideal := fun m ρ _ => Cert.Kernel18Ideal.Gen.frame (F := Ideal) m ρ
theorem frame_reference : Cert.quiescent_Reference18Ideal := fun m ρ _ =>
  (θ_run Cert.Reference18Ideal.defs _ _).mono (fun r h => ⟨fun c => (h c).2.2.2.2.2.2, sem_eq_zero_of_no_sems (by decide) r.2⟩) (Cert.Reference18Ideal.Value.run m ρ)

theorem algebraic : Cert.algebraic_Kernel18Ideal_Reference18Ideal := by
  intro m ρ m' ρ' _ hagree
  refine ⟨fun c => dYa (D m c) (Z m c) (B m c), fun c => dYb (D m c) (Z m c) (B m c), fun c => dGa (D m c) (Ya m c) (Z m c) (B m c), fun c => dGb (D m c) (Yb m c) (Z m c) (B m c), fun c => dBa (D m c) (Ya m c) (Z m c) (B m c), fun c => dBb (D m c) (Yb m c) (Z m c) (B m c), ?_, ?_⟩
  · exact (θ_run _ _ _).mono (fun r h c => ⟨(h c).1.trans (final7 m c), (h c).2.1.trans (final8 m c), (h c).2.2.1.trans (final9 m c), (h c).2.2.2.1.trans (final10 m c), (h c).2.2.2.2.1.trans (final11 m c), (h c).2.2.2.2.2.1.trans (final12 m c), (h c).2.2.2.2.2.2⟩) (run_blocks m ρ)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference18Ideal.Value.run m' ρ')
    all_goals obtain ⟨a0, a1, a2, a3, a4⟩ := hagree c
    · rw [a0, a3, a4]
      exact ref_ya (D m c) (Z m c) (B m c)
    · rw [a0, a3, a4]
      exact ref_yb (D m c) (Z m c) (B m c)
    · rw [a0, a1, a2, a3, a4]
      exact ref_ga (D m c) (Ya m c) (Yb m c) (Z m c) (B m c)
    · rw [a0, a1, a2, a3, a4]
      exact ref_gb (D m c) (Ya m c) (Yb m c) (Z m c) (B m c)
    · rw [a0, a1, a2, a3, a4]
      exact ref_ba (D m c) (Ya m c) (Yb m c) (Z m c) (B m c)
    · rw [a0, a1, a2, a3, a4]
      exact ref_bb (D m c) (Ya m c) (Yb m c) (Z m c) (B m c)

end Cert.GateBwd

end
-- ==== Proof.GateFwd.lean ====
/- The gates' forward call. -/
module

public import proofs.«01_k».proof.Proof.Gate
public import proofs.«01_k».proof.Proof.Gen.Kernel17.Frame
public import proofs.«01_k».proof.Proof.Gen.Kernel17Ideal.Value
public import proofs.«01_k».proof.Proof.Gen.Reference17Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.GateFwd

open Cert.Kernel17Ideal Cert.Kernel17Ideal.Gen Cert.Kernel17Ideal.Value Idealize.ShloMosaic.Pointwise

open Cert.Gate (Arr Two Proj Bias colA colB zA zB sA sB)

variable (m : (ℓ : Loc nD τ sig) → Buf (Elt Ideal) ℓ) (c : Dev nD)

abbrev Ya : FVec Ideal Arr .bf16 := m ((c : Thread nD τ).loc main_arg0)
abbrev Yb : FVec Ideal Arr .bf16 := m ((c : Thread nD τ).loc main_arg1)
abbrev Z : FVec Ideal Proj .bf16 := m ((c : Thread nD τ).loc main_arg2)
abbrev B : FVec Ideal Bias .f32 := m ((c : Thread nD τ).loc main_arg3)

/-- The block each window stages at each point. -/
theorem idx : ∀ t : Fin cfg0.N, win0_0.index t = ![t.val / 2, t.val % 2] ∧ win0_1.index t = ![t.val / 2, t.val % 2] ∧ win0_2.index t = ![t.val / 2, 9 + t.val % 2]
    ∧ win0_3.index t = ![t.val / 2, 11 + t.val % 2] ∧ win0_4.index t = ![0, t.val % 2] ∧ win0_5.index t = ![0, 2 + t.val % 2] ∧ win0_6.index t = ![t.val / 2, t.val % 2] :=
  (by decide +kernel : ∀ t : Fin grid0.N, _)

theorem lt_N (t : Fin cfg0.N) : t.val < 16 := lt_of_lt_of_eq t.isLt N_0

/-- The row and the column of the whole array that a point's block has at `(r, x)`. -/
abbrev row (t : Fin cfg0.N) (r : Fin 512) : Fin 4096 := ⟨512 * (t.val / 2) + r.val, by have := lt_N t; omega⟩
abbrev col (t : Fin cfg0.N) (x : Fin 1024) : Fin 2048 := ⟨1024 * (t.val % 2) + x.val, by omega⟩

theorem blkYa (t : Fin cfg0.N) (r : Fin 512) (x : Fin 1024) : (show FVec Ideal S512x1024 .bf16 from iblk m c 0 t) (ix2 r x) = Ya m c (ix2 (row t r) (col t x)) := by
  blk_point [iblk, V, idx t]
theorem blkYb (t : Fin cfg0.N) (r : Fin 512) (x : Fin 1024) : (show FVec Ideal S512x1024 .bf16 from iblk m c 1 t) (ix2 r x) = Yb m c (ix2 (row t r) (col t x)) := by
  blk_point [iblk, V, idx t]
theorem blkGa (t : Fin cfg0.N) (r : Fin 512) (x : Fin 1024) : (show FVec Ideal S512x1024 .bf16 from iblk m c 2 t) (ix2 r x) = Z m c (ix2 (row t r) (zA (col t x))) := by
  blk_point [iblk, V, idx t]
theorem blkGb (t : Fin cfg0.N) (r : Fin 512) (x : Fin 1024) : (show FVec Ideal S512x1024 .bf16 from iblk m c 3 t) (ix2 r x) = Z m c (ix2 (row t r) (zB (col t x))) := by
  blk_point [iblk, V, idx t]
theorem blkBa (t : Fin cfg0.N) (z : Fin 1) (x : Fin 1024) : (show FVec Ideal S1x1024 .f32 from iblk m c 4 t) (ix2 z x) = B m c (ix2 0 (colA (col t x))) := by
  blk_point [iblk, V, idx t]
theorem blkBb (t : Fin cfg0.N) (z : Fin 1) (x : Fin 1024) : (show FVec Ideal S1x1024 .f32 from iblk m c 5 t) (ix2 z x) = B m c (ix2 0 (colB (col t x))) := by
  blk_point [iblk, V, idx t]

theorem hz : (![0, 0] : Fin 2 → Nat) = fun _ => 0 := funext fun a => by fin_cases a <;> rfl

theorem out_at (ya yb ga gb : Vec Ideal S512x1024 .bf16) (ba bb : Vec Ideal S1x1024 .f32) (r : Fin 512) (x : Fin 1024) :
    (out0_6 ya yb ga gb ba bb (ix2 r x) : EReal) = Ideal.logistic (ga (ix2 r x) + ba (ix2 0 x)) * ya (ix2 r x) + Ideal.logistic (gb (ix2 r x) + bb (ix2 0 x)) * yb (ix2 r x) := by
  unfold out0_6
  rw [View.canon_unit_zero hz]
  unfold r0_0 r0_1
  simp only [View.ld_unit_zero (S := S512x1024) hz, View.ld_unit_zero (S := S1x1024) hz]
  pointwise [k0_pay1]

/-- The gated sum of the two branches. -/
def gated (Ya Yb : FVec Ideal Arr .bf16) (Z : FVec Ideal Proj .bf16) (B : FVec Ideal Bias .f32) : FVec Ideal Arr .bf16 := fun i =>
  (sA Z B (i 0) (i 1) * Ya (ix2 (i 0) (i 1)) + sB Z B (i 0) (i 1) * Yb (ix2 (i 0) (i 1)) : EReal)

theorem at_eq {S : Shape} {α : Type} (f : S.Idx → α) (i j : S.Idx) (h : ∀ a, i a = j a) : f i = f j := congrArg f (funext h)

theorem final : (dats m 0 c).arrAt 6 cfg0.N = gated (Ya m c) (Yb m c) (Z m c) (B m c) := by
  refine (dats m 0 c).arrAt_eq_of_covers 6 _ (by decide +kernel) fun t hf y => ?_
  blk_simp
  rw [after0_6]
  revert y
  show ∀ y : S512x1024.Idx, _
  intro y
  idx_vars y
  refine (out_at _ _ _ _ _ _ y0 y1).trans (Eq.trans ?_ (at_eq (gated (Ya m c) (Yb m c) (Z m c) (B m c)) (ix2 (row t y0) (col t y1)) _ fun a => ?_))
  · simp only [blkYa, blkYb, blkGa, blkGb, blkBa, blkBb]
    rfl
  · fin_cases a
    · exact Fin.ext (by show _ = win0_6.index t (0 : Fin 2) * 512 + 1 * y0.val; simp [idx t]; omega)
    · exact Fin.ext (by show _ = win0_6.index t (1 : Fin 2) * 1024 + 1 * y1.val; simp [idx t]; omega)

open Cert.Reference17Ideal.Gen in
/-- The reference's text. -/
theorem ref_eq (Ya Yb : FVec Ideal Arr .bf16) (Z : FVec Ideal Proj .bf16) (B : FVec Ideal Bias .f32) :
    truncf .bf16 (addf (mulf (extractStridedSlice Arr ![0, 0] (Gate.gT Z B) slices_S4096x4096_S4096x2048_0_0) (extf .f32 Ya Cert.Reference17Ideal.Gen.bitsLt_bf16_f32))
      (mulf (extractStridedSlice Arr ![0, 2048] (Gate.gT Z B) slices_S4096x4096_S4096x2048_0_2048) (extf .f32 Yb Cert.Reference17Ideal.Gen.bitsLt_bf16_f32))) Cert.Reference17Ideal.Gen.bitsLt_bf16_f32 = gated Ya Yb Z B := by
  funext i
  idx_vars i
  exact congrArg₂ (fun a b : EReal => a * Ya (ix2 i0 i1) + b * Yb (ix2 i0 i1)) ((Gate.left_at _ i0 i1).trans (Gate.gA_at Z B i0 i1)) ((Gate.right_at _ i0 i1).trans (Gate.gB_at Z B i0 i1))

theorem frame : Cert.quiescent_Kernel17 := fun m ρ _ => Cert.Kernel17.Gen.frame (F := Bits) m ρ
theorem frame_ideal : Cert.quiescent_Kernel17Ideal := fun m ρ _ => Cert.Kernel17Ideal.Gen.frame (F := Ideal) m ρ
theorem frame_reference : Cert.quiescent_Reference17Ideal := fun m ρ _ =>
  (θ_run Cert.Reference17Ideal.defs _ _).mono (fun r h => ⟨fun c => (h c).2, sem_eq_zero_of_no_sems (by decide) r.2⟩) (Cert.Reference17Ideal.Value.run m ρ)

theorem algebraic : Cert.algebraic_Kernel17Ideal_Reference17Ideal := by
  intro m ρ m' ρ' _ hagree
  refine ⟨fun c => gated (Ya m c) (Yb m c) (Z m c) (B m c), ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference17Ideal.Value.run m' ρ')
    obtain ⟨a0, a1, a2, a3⟩ := hagree c
    rw [a0, a1, a2, a3]
    exact ref_eq (Ya m c) (Yb m c) (Z m c) (B m c)

end Cert.GateFwd

end
-- ==== Proof.Conv.lean ====
/- A row's two neighbours, as the short convolution's kernels and references read them. -/
module

public import proofs.«01_k».proof.Proof.Products
public import Idealize.ShloMosaic.Lib.KernelVsHost
public import Idealize.ShloMosaic.Lib.Claim

@[expose] public section

set_option maxRecDepth 16384

noncomputable section

open Idealize.ShloMosaic Idealize.ShloMosaic.TcCoe

namespace Cert.Conv

open Idealize.ShloMosaic.Pointwise

/-- A column's entry one row above, and one row below; zero outside. -/
def prv (u : Fin 4096 → EReal) (t : Fin 4096) : EReal := if h : t.val = 0 then 0 else u ⟨t.val - 1, by omega⟩
def nxt (u : Fin 4096 → EReal) (t : Fin 4096) : EReal := if h : t.val = 4095 then 0 else u ⟨t.val + 1, by omega⟩

abbrev Blk : Shape := ⟨2, ![4096, 256]⟩
abbrev Arr : Shape := ⟨2, ![4096, 2048]⟩
abbrev Row : Shape := ⟨2, ![1, 2048]⟩
abbrev Pad : Shape := ⟨2, ![4098, 2048]⟩
abbrev Sca : Shape := ⟨0, ![]⟩

/-- The kernels' reading of the row above: a rotation by one, its first row replaced by zero. -/
def rotP (u : FVec Ideal Blk .f32) (hi : Blk.Iotas .tc 32 [0]) (hr : Blk.Rotates 0 none) : FVec Ideal Blk .f32 :=
  select (cmpi .eq (iota .tc Blk 32 [0] hi) (broadcast Blk 0#32)) (broadcast Blk (Scalar.ofBits .f32 0x00000000#32)) (dynamicRotate 0 1#32 none u hr)
/-- The kernels' reading of the row below: a rotation by one less than the height, its last row replaced by zero. -/
def rotN (u : FVec Ideal Blk .f32) (hi : Blk.Iotas .tc 32 [0]) (hr : Blk.Rotates 0 none) : FVec Ideal Blk .f32 :=
  select (cmpi .eq (iota .tc Blk 32 [0] hi) (broadcast Blk 4095#32)) (broadcast Blk (Scalar.ofBits .f32 0x00000000#32)) (dynamicRotate 0 4095#32 none u hr)

theorem ofNat_eq_iff (n k : Nat) (hn : n < 4096) (hk : k < 4096) : (BitVec.ofNat 32 n = BitVec.ofNat 32 k) ↔ n = k := by
  constructor
  · intro h
    have := congrArg BitVec.toNat h
    simp only [BitVec.toNat_ofNat] at this
    omega
  · rintro rfl; rfl

theorem select_row (k : Nat) (hk : k < 4096) (hi : Blk.Iotas .tc 32 [0]) (x y : FVec Ideal Blk .f32) (r : Fin 4096) (c : Fin 256) :
    select (cmpi .eq (iota .tc Blk 32 [0] hi) (broadcast Blk (BitVec.ofNat 32 k))) x y (ix2 r c) = if r.val = k then x (ix2 r c) else y (ix2 r c) := by
  have e : iota .tc Blk 32 [0] hi (ix2 r c) = BitVec.ofNat 32 r.val := by
    simp [iota, ix2]
  have q : IntOp.cmpi .eq (BitVec.ofNat 32 r.val) (BitVec.ofNat 32 k) = if r.val = k then 1#1 else 0#1 := by
    show BitVec.ofBool (BitVec.ofNat 32 r.val == BitVec.ofNat 32 k) = _
    by_cases h : r.val = k
    · rw [h]; simp
    · rw [if_neg h, beq_eq_false_iff_ne.2 fun q => h ((ofNat_eq_iff _ _ r.isLt hk).1 q)]; rfl
  show Scalar.select (IntOp.cmpi .eq (iota .tc Blk 32 [0] hi (ix2 r c)) (BitVec.ofNat 32 k)) (x (ix2 r c)) (y (ix2 r c)) = _
  rw [e, q]
  by_cases h : r.val = k
  · rw [if_pos h, if_pos h]; rfl
  · rw [if_neg h, if_neg h]; rfl

theorem rotP_at (u : FVec Ideal Blk .f32) (hi : Blk.Iotas .tc 32 [0]) (hr : Blk.Rotates 0 none) (r : Fin 4096) (c : Fin 256) :
    rotP u hi hr (ix2 r c) = prv (fun k => u (ix2 k c)) r := by
  refine (select_row 0 (by norm_num) hi _ _ r c).trans ?_
  unfold prv
  split
  · exact Ideal.ofBits_zero_f32
  · exact dynamicRotate_apply 0 1#32 u hr _ _ (fun b => by fin_cases b <;> simp <;> omega)

theorem rotN_at (u : FVec Ideal Blk .f32) (hi : Blk.Iotas .tc 32 [0]) (hr : Blk.Rotates 0 none) (r : Fin 4096) (c : Fin 256) :
    rotN u hi hr (ix2 r c) = nxt (fun k => u (ix2 k c)) r := by
  refine (select_row 4095 (by norm_num) hi _ _ r c).trans ?_
  unfold nxt
  split
  · exact Ideal.ofBits_zero_f32
  · exact dynamicRotate_apply 0 4095#32 u hr _ _ (fun b => by fin_cases b <;> simp <;> omega)

/-- The references' array with one row of zeros above and one below. -/
def edged (u : FVec Ideal Arr .f32) (hb : Sca.BroadcastsInDim Row (![] : Fin 0 → Fin Row.rank)) (hc : Shape.Concatenates [Row, Arr, Row] Pad 0) : FVec Ideal Pad .f32 :=
  concatenate Pad 0 [⟨Row, broadcastInDim Row ![] hb (constant Sca .f32 0x00000000#32)⟩, ⟨Arr, u⟩, ⟨Row, broadcastInDim Row ![] hb (constant Sca .f32 0x00000000#32)⟩] hc

theorem edged_prv (u : FVec Ideal Arr .f32) (hb) (hc) (hs : Pad.Slices ![0, 0] Arr) (r : Fin 4096) (c : Fin 2048) :
    extractStridedSlice Arr ![0, 0] (edged u hb hc) hs (ix2 r c) = prv (fun k => u (ix2 k c)) r := by
  pointwise [edged, prv]
  by_cases h : r.val = 0
  · rw [dif_pos (by omega), dif_pos h]
  · rw [dif_neg (by omega), dif_pos (by omega), dif_neg h]
theorem edged_nxt (u : FVec Ideal Arr .f32) (hb) (hc) (hs : Pad.Slices ![2, 0] Arr) (r : Fin 4096) (c : Fin 2048) :
    extractStridedSlice Arr ![2, 0] (edged u hb hc) hs (ix2 r c) = nxt (fun k => u (ix2 k c)) r := by
  pointwise [edged, nxt]
  by_cases h : r.val = 4095
  · rw [dif_neg (by omega), dif_neg (by omega), dif_pos h]
  · rw [dif_neg (by omega), dif_pos (by omega), dif_neg h]
    exact congrArg u (congrArg (fun k => ix2 k c) (Fin.ext (by show 2 + r.val - 1 = r.val + 1; omega)))
theorem edged_mid (u : FVec Ideal Arr .f32) (hb) (hc) (hs : Pad.Slices ![1, 0] Arr) (r : Fin 4096) (c : Fin 2048) :
    extractStridedSlice Arr ![1, 0] (edged u hb hc) hs (ix2 r c) = u (ix2 r c) := by
  pointwise [edged]

/-- Three taps of a column, with the weights `a`, `b`, `c`. -/
def conv3 (a b c : EReal) (u : Fin 4096 → EReal) (r : Fin 4096) : EReal := (a * prv u r + b * u r) + c * nxt u r

abbrev Wts : Shape := ⟨2, ![3, 2048]⟩
abbrev WBlk : Shape := ⟨2, ![3, 256]⟩
abbrev WRow : Shape := ⟨2, ![1, 256]⟩
abbrev Proj : Shape := ⟨2, ![4096, 13312]⟩
abbrev Vec1 : Shape := ⟨1, ![2048]⟩

/-- The kernels' weighted sum of three arrays, and the references'. -/
def convB (w : FVec Ideal WBlk .f32) (p u n : FVec Ideal Blk .f32) (h0 : WBlk.Slices ![0, 0] WRow) (h1 : WBlk.Slices ![1, 0] WRow) (h2 : WBlk.Slices ![2, 0] WRow) (hb : WRow.Broadcasts Blk) : FVec Ideal Blk .f32 :=
  addf (addf (mulf (broadcastTo Blk (extractStridedSlice WRow ![0, 0] w h0) hb) p) (mulf (broadcastTo Blk (extractStridedSlice WRow ![1, 0] w h1) hb) u)) (mulf (broadcastTo Blk (extractStridedSlice WRow ![2, 0] w h2) hb) n)

theorem convB_at (w : FVec Ideal WBlk .f32) (p u n : FVec Ideal Blk .f32) (h0 h1 h2 hb) (r : Fin 4096) (x : Fin 256) :
    convB w p u n h0 h1 h2 hb (ix2 r x) = (w (ix2 0 x) * p (ix2 r x) + w (ix2 1 x) * u (ix2 r x)) + w (ix2 2 x) * n (ix2 r x) := by
  pointwise [convB]

/-- A row of the weights, spread over all rows, as the references write it. -/
def wRow (k : Nat) (W : FVec Ideal Wts .f32) (hs : Wts.Slices ![k, 0] Row) (hc : Row.ShapeCasts Vec1) (hb : Vec1.BroadcastsInDim Row (![1] : Fin 1 → Fin Row.rank)) (hb2 : Row.BroadcastsInDim Arr (![0, 1] : Fin 2 → Fin Arr.rank)) : FVec Ideal Arr .f32 :=
  broadcastInDim Arr ![0, 1] hb2 (broadcastInDim Row ![1] hb (shapeCast Vec1 (extractStridedSlice Row ![k, 0] W hs) hc))

theorem wRow0 (W : FVec Ideal Wts .f32) (hs hc hb hb2) (r : Fin 4096) (x : Fin 2048) : wRow 0 W hs hc hb hb2 (ix2 r x) = W (ix2 0 x) := by
  pointwise [wRow]
theorem wRow1 (W : FVec Ideal Wts .f32) (hs hc hb hb2) (r : Fin 4096) (x : Fin 2048) : wRow 1 W hs hc hb hb2 (ix2 r x) = W (ix2 1 x) := by
  pointwise [wRow]
theorem wRow2 (W : FVec Ideal Wts .f32) (hs hc hb hb2) (r : Fin 4096) (x : Fin 2048) : wRow 2 W hs hc hb hb2 (ix2 r x) = W (ix2 2 x) := by
  pointwise [wRow]

/-- The columns of the projection that hold the two gates and the input of the convolution's column `j`. -/
abbrev zB (j : Fin 2048) : Fin 13312 := ⟨j.val, by omega⟩
abbrev zC (j : Fin 2048) : Fin 13312 := ⟨2048 + j.val, by omega⟩
abbrev zI (j : Fin 2048) : Fin 13312 := ⟨4096 + j.val, by omega⟩

theorem zB_at (Z : FVec Ideal Proj .bf16) (hs : Proj.Slices ![0, 0] Arr) (r : Fin 4096) (x : Fin 2048) : extractStridedSlice Arr ![0, 0] Z hs (ix2 r x) = Z (ix2 r (zB x)) := by
  pointwise
theorem zC_at (Z : FVec Ideal Proj .bf16) (hs : Proj.Slices ![0, 2048] Arr) (r : Fin 4096) (x : Fin 2048) : extractStridedSlice Arr ![0, 2048] Z hs (ix2 r x) = Z (ix2 r (zC x)) := by
  pointwise
theorem zI_at (Z : FVec Ideal Proj .bf16) (hs : Proj.Slices ![0, 4096] Arr) (r : Fin 4096) (x : Fin 2048) : extractStridedSlice Arr ![0, 4096] Z hs (ix2 r x) = Z (ix2 r (zI x)) := by
  pointwise

/-- What the convolution is applied to. -/
def uCol (Z : FVec Ideal Proj .bf16) (j : Fin 2048) (r : Fin 4096) : EReal := Z (ix2 r (zC j)) * Z (ix2 r (zI j))

/-- The references' text of what the convolution is applied to, and of the convolution. -/
def uT (Z : FVec Ideal Proj .bf16) (h : FTy.bits .bf16 < FTy.bits .f32) (s1 : Proj.Slices ![0, 2048] Arr) (s2 : Proj.Slices ![0, 4096] Arr) : FVec Ideal Arr .f32 :=
  mulf (extf .f32 (extractStridedSlice Arr ![0, 2048] Z s1) h) (extf .f32 (extractStridedSlice Arr ![0, 4096] Z s2) h)

theorem u_at (Z : FVec Ideal Proj .bf16) (h : FTy.bits .bf16 < FTy.bits .f32) (s1 : Proj.Slices ![0, 2048] Arr) (s2 : Proj.Slices ![0, 4096] Arr) (r : Fin 4096) (j : Fin 2048) :
    uT Z h s1 s2 (ix2 r j) = uCol Z j r :=
  congrArg₂ (fun a b : EReal => a * b) (zC_at Z s1 r j) (zI_at Z s2 r j)

def convT (Z : FVec Ideal Proj .bf16) (W : FVec Ideal Wts .f32) (h : FTy.bits .bf16 < FTy.bits .f32)
    (s1 : Proj.Slices ![0, 2048] Arr) (s2 : Proj.Slices ![0, 4096] Arr) (w0 : Wts.Slices ![0, 0] Row) (w1 : Wts.Slices ![1, 0] Row) (w2 : Wts.Slices ![2, 0] Row)
    (e0 : Pad.Slices ![0, 0] Arr) (e1 : Pad.Slices ![1, 0] Arr) (e2 : Pad.Slices ![2, 0] Arr) (hb : Sca.BroadcastsInDim Row (![] : Fin 0 → Fin Row.rank)) (hc : Shape.Concatenates [Row, Arr, Row] Pad 0)
    (hk : Row.ShapeCasts Vec1) (h1 : Vec1.BroadcastsInDim Row (![1] : Fin 1 → Fin Row.rank)) (h2 : Row.BroadcastsInDim Arr (![0, 1] : Fin 2 → Fin Arr.rank)) : FVec Ideal Arr .f32 :=
  addf (addf (mulf (wRow 0 W w0 hk h1 h2) (extractStridedSlice Arr ![0, 0] (edged (uT Z h s1 s2) hb hc) e0))
    (mulf (wRow 1 W w1 hk h1 h2) (extractStridedSlice Arr ![1, 0] (edged (uT Z h s1 s2) hb hc) e1)))
    (mulf (wRow 2 W w2 hk h1 h2) (extractStridedSlice Arr ![2, 0] (edged (uT Z h s1 s2) hb hc) e2))

theorem convT_at (Z : FVec Ideal Proj .bf16) (W : FVec Ideal Wts .f32) (h : FTy.bits .bf16 < FTy.bits .f32)
    (s1 : Proj.Slices ![0, 2048] Arr) (s2 : Proj.Slices ![0, 4096] Arr) (w0 : Wts.Slices ![0, 0] Row) (w1 : Wts.Slices ![1, 0] Row) (w2 : Wts.Slices ![2, 0] Row)
    (e0 : Pad.Slices ![0, 0] Arr) (e1 : Pad.Slices ![1, 0] Arr) (e2 : Pad.Slices ![2, 0] Arr) (hb : Sca.BroadcastsInDim Row (![] : Fin 0 → Fin Row.rank)) (hc : Shape.Concatenates [Row, Arr, Row] Pad 0)
    (hk : Row.ShapeCasts Vec1) (h1 : Vec1.BroadcastsInDim Row (![1] : Fin 1 → Fin Row.rank)) (h2 : Row.BroadcastsInDim Arr (![0, 1] : Fin 2 → Fin Arr.rank)) (r : Fin 4096) (j : Fin 2048) :
    convT Z W h s1 s2 w0 w1 w2 e0 e1 e2 hb hc hk h1 h2 (ix2 r j) = conv3 (W (ix2 0 j)) (W (ix2 1 j)) (W (ix2 2 j)) (uCol Z j) r := by
  have ec := funext fun k => u_at Z h s1 s2 k j
  exact congrArg₂ (fun a b : EReal => a + b) (congrArg₂ (fun a b : EReal => a + b)
    (congrArg₂ (fun a b : EReal => a * b) (wRow0 W _ _ _ _ r j) ((edged_prv _ hb hc e0 r j).trans (congrArg (prv · r) ec)))
    (congrArg₂ (fun a b : EReal => a * b) (wRow1 W _ _ _ _ r j) ((edged_mid _ hb hc e1 r j).trans (congrFun ec r))))
    (congrArg₂ (fun a b : EReal => a * b) (wRow2 W _ _ _ _ r j) ((edged_nxt _ hb hc e2 r j).trans (congrArg (nxt · r) ec)))

end Cert.Conv
end
-- ==== Proof.ConvBwd.lean ====
/- The short convolution's gradient. -/
module

public import proofs.«01_k».proof.Proof.Conv
public import proofs.«01_k».proof.Proof.Gen.Kernel16.Frame
public import proofs.«01_k».proof.Proof.Gen.Kernel16Ideal.Value
public import proofs.«01_k».proof.Proof.Gen.Reference16Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.ConvBwd

open Cert.Conv Idealize.ShloMosaic.Pointwise

/-- The cotangent of the convolution's result, column `j`. -/
def dCol (T : FVec Ideal Arr .bf16) (Z : FVec Ideal Proj .bf16) (j : Fin 2048) (r : Fin 4096) : EReal := T (ix2 r j) * Z (ix2 r (zB j))
/-- The convolution's transpose: its taps the other way round. -/
def turn3 (a b c : EReal) (d : Fin 4096 → EReal) (r : Fin 4096) : EReal := (a * nxt d r + b * d r) + c * prv d r
/-- The rows that tap `k` reads. -/
def tap (k : Fin 3) (u : Fin 4096 → EReal) (r : Fin 4096) : EReal := if k.val = 0 then prv u r else if k.val = 1 then u r else nxt u r

/-- The four gradients. -/
def gB (T : FVec Ideal Arr .bf16) (Z : FVec Ideal Proj .bf16) (W : FVec Ideal Wts .f32) : FVec Ideal Arr .bf16 := fun i =>
  (T (ix2 (i 0) (i 1)) * conv3 (W (ix2 0 (i 1))) (W (ix2 1 (i 1))) (W (ix2 2 (i 1))) (uCol Z (i 1)) (i 0) : EReal)
def gC (T : FVec Ideal Arr .bf16) (Z : FVec Ideal Proj .bf16) (W : FVec Ideal Wts .f32) : FVec Ideal Arr .bf16 := fun i =>
  (turn3 (W (ix2 0 (i 1))) (W (ix2 1 (i 1))) (W (ix2 2 (i 1))) (dCol T Z (i 1)) (i 0) * Z (ix2 (i 0) (zI (i 1))) : EReal)
def gI (T : FVec Ideal Arr .bf16) (Z : FVec Ideal Proj .bf16) (W : FVec Ideal Wts .f32) : FVec Ideal Arr .bf16 := fun i =>
  (turn3 (W (ix2 0 (i 1))) (W (ix2 1 (i 1))) (W (ix2 2 (i 1))) (dCol T Z (i 1)) (i 0) * Z (ix2 (i 0) (zC (i 1))) : EReal)
def gW (T : FVec Ideal Arr .bf16) (Z : FVec Ideal Proj .bf16) : FVec Ideal Wts .f32 := fun i =>
  (∑ r : Fin 4096, dCol T Z (i 1) r * tap (i 0) (uCol Z (i 1)) r : EReal)

theorem prv_mul (w : EReal) (d : Fin 4096 → EReal) (r : Fin 4096) : prv (fun k => w * d k) r = w * prv d r := by
  unfold prv; split
  · exact (mul_zero w).symm
  · rfl
theorem nxt_mul (w : EReal) (d : Fin 4096 → EReal) (r : Fin 4096) : nxt (fun k => w * d k) r = w * nxt d r := by
  unfold nxt; split
  · exact (mul_zero w).symm
  · rfl

section Reference

open Cert.Reference16Ideal Cert.Reference16Ideal.Gen

variable (T : FVec Ideal Arr .bf16) (Z : FVec Ideal Proj .bf16) (W : FVec Ideal Wts .f32)

/-- The reference's text of the convolution's cotangent. -/
def dT : FVec Ideal Arr .f32 := mulf (extf .f32 (extractStridedSlice Arr ![0, 0] Z slices_S4096x13312_S4096x2048_0_0) bitsLt_bf16_f32) (extf .f32 T bitsLt_bf16_f32)
theorem dT_at (r : Fin 4096) (j : Fin 2048) : dT T Z (ix2 r j) = dCol T Z j r :=
  (congrArg (fun a : EReal => a * T (ix2 r j)) (zB_at Z slices_S4096x13312_S4096x2048_0_0 r j)).trans (mul_comm _ _)

/-- An array placed in the taller one, at each of its three offsets, read back from row 1. -/
abbrev low (x : FVec Ideal Arr .f32) : FVec Ideal Pad .f32 := pad S4098x2048 ![2, 0] ![0, 0] ![0, 0] x (constant S_ .f32 0x00000000#32) pads_S4096x2048_S4098x2048_200_000 h_S_
abbrev mid (x : FVec Ideal Arr .f32) : FVec Ideal Pad .f32 := pad S4098x2048 ![1, 0] ![1, 0] ![0, 0] x (constant S_ .f32 0x00000000#32) pads_S4096x2048_S4098x2048_110_000 h_S_
abbrev top (x : FVec Ideal Arr .f32) : FVec Ideal Pad .f32 := pad S4098x2048 ![0, 0] ![2, 0] ![0, 0] x (constant S_ .f32 0x00000000#32) pads_S4096x2048_S4098x2048_020_000 h_S_

theorem low_at (x : FVec Ideal Arr .f32) (r : Fin 4096) (j : Fin 2048) :
    extractStridedSlice Arr ![1, 0] (low x) slices_S4098x2048_S4096x2048_1_0 (ix2 r j) = prv (fun k => x (ix2 k j)) r := by
  pointwise [low, prv]
  by_cases h : r.val = 0
  · rw [dif_neg (by omega), dif_pos h]
  · rw [dif_pos (by omega), dif_neg h]
    exact congrArg x (congrArg (fun k => ix2 k j) (Fin.ext (by show 1 + r.val - 2 = r.val - 1; omega)))
theorem mid_at (x : FVec Ideal Arr .f32) (r : Fin 4096) (j : Fin 2048) :
    extractStridedSlice Arr ![1, 0] (mid x) slices_S4098x2048_S4096x2048_1_0 (ix2 r j) = x (ix2 r j) := by
  pointwise [mid]
theorem top_at (x : FVec Ideal Arr .f32) (r : Fin 4096) (j : Fin 2048) :
    extractStridedSlice Arr ![1, 0] (top x) slices_S4098x2048_S4096x2048_1_0 (ix2 r j) = nxt (fun k => x (ix2 k j)) r := by
  pointwise [top, nxt]
  by_cases h : r.val = 4095
  · rw [dif_neg (by omega), dif_pos h]
  · rw [dif_pos (by omega), dif_neg h]
    exact congrArg x (congrArg (fun k => ix2 k j) (Fin.ext (Nat.add_comm 1 r.val)))

/-- The reference's text of the convolution's transpose. -/
def duT : FVec Ideal Arr .f32 :=
  extractStridedSlice Arr ![1, 0] (addf (addf
    (low (mulf (wRow 2 W slices_S3x2048_S1x2048_2_0 shapeCasts_S1x2048_S2048 bcast_S2048_S1x2048_1 bcast_S1x2048_S4096x2048_0_1) (dT T Z)))
    (mid (mulf (wRow 1 W slices_S3x2048_S1x2048_1_0 shapeCasts_S1x2048_S2048 bcast_S2048_S1x2048_1 bcast_S1x2048_S4096x2048_0_1) (dT T Z))))
    (top (mulf (wRow 0 W slices_S3x2048_S1x2048_0_0 shapeCasts_S1x2048_S2048 bcast_S2048_S1x2048_1 bcast_S1x2048_S4096x2048_0_1) (dT T Z)))) slices_S4098x2048_S4096x2048_1_0

theorem duT_at (r : Fin 4096) (j : Fin 2048) : duT T Z W (ix2 r j) = turn3 (W (ix2 0 j)) (W (ix2 1 j)) (W (ix2 2 j)) (dCol T Z j) r := by
  refine (congrArg₂ (fun a b : EReal => a + b) (congrArg₂ (fun a b : EReal => a + b) ((low_at _ r j).trans ?_) ((mid_at _ r j).trans ?_)) ((top_at _ r j).trans ?_)).trans
    (show (W (ix2 2 j) * prv (dCol T Z j) r + W (ix2 1 j) * dCol T Z j r) + W (ix2 0 j) * nxt (dCol T Z j) r = _ from ?_)
  · exact (congrArg (prv · r) (funext fun k => congrArg₂ (fun a b : EReal => a * b) (wRow2 W _ _ _ _ k j) (dT_at T Z k j))).trans (prv_mul _ _ r)
  · exact congrArg₂ (fun a b : EReal => a * b) (wRow1 W _ _ _ _ r j) (dT_at T Z r j)
  · exact (congrArg (nxt · r) (funext fun k => congrArg₂ (fun a b : EReal => a * b) (wRow0 W _ _ _ _ k j) (dT_at T Z k j))).trans (nxt_mul _ _ r)
  · unfold turn3
    rw [add_comm, add_assoc, add_comm (W (ix2 2 j) * _), ← add_assoc]

/-- The reference's text of one row of the weights' gradient. -/
def sumRow (d y : FVec Ideal Arr .f32) : FVec Ideal Row .f32 :=
  broadcastInDim S1x2048 ![1] bcast_S2048_S1x2048_1 (Host.reduceAdd (shapeCast S1x2048 (Host.reduceAdd (mulf d y) (constant S_ .f32 0x00000000#32) reducesTo_S4096x2048_S2048_d0 h_S_) shapeCasts_S2048_S1x2048)
    (constant S_ .f32 0x00000000#32) reducesTo_S1x2048_S2048_d0 h_S_)

theorem sumRow_at (d y : FVec Ideal Arr .f32) (z : Fin 1) (j : Fin 2048) : sumRow d y (ix2 z j) = ∑ r : Fin 4096, (d (ix2 r j) * y (ix2 r j) : EReal) := by
  pointwise [sumRow]
  simp

/-- The weights' gradient, its three rows added up. -/
def sumW (a b c : FVec Ideal Row .f32) : FVec Ideal Wts .f32 :=
  addf (addf (pad S3x2048 ![2, 0] ![0, 0] ![0, 0] c (constant S_ .f32 0x00000000#32) pads_S1x2048_S3x2048_200_000 h_S_)
    (pad S3x2048 ![1, 0] ![1, 0] ![0, 0] b (constant S_ .f32 0x00000000#32) pads_S1x2048_S3x2048_110_000 h_S_))
    (pad S3x2048 ![0, 0] ![2, 0] ![0, 0] a (constant S_ .f32 0x00000000#32) pads_S1x2048_S3x2048_020_000 h_S_)

theorem sumW_at (a b c : FVec Ideal Row .f32) (k : Fin 3) (j : Fin 2048) :
    sumW a b c (ix2 k j) = (if k.val = 0 then a (ix2 0 j) else if k.val = 1 then b (ix2 0 j) else c (ix2 0 j) : EReal) := by
  pointwise [sumW]
  fin_cases k <;> simp

/-- The reference's text of each result. -/
theorem refB_eq : truncf .bf16 (mulf (extf .f32 T bitsLt_bf16_f32) (convT Z W bitsLt_bf16_f32 slices_S4096x13312_S4096x2048_0_2048 slices_S4096x13312_S4096x2048_0_4096 slices_S3x2048_S1x2048_0_0 slices_S3x2048_S1x2048_1_0 slices_S3x2048_S1x2048_2_0
      slices_S4098x2048_S4096x2048_0_0 slices_S4098x2048_S4096x2048_1_0 slices_S4098x2048_S4096x2048_2_0 bcast_S_S1x2048 concatenates_S1x2048_S4096x2048_S1x2048_S4098x2048_d0
      shapeCasts_S1x2048_S2048 bcast_S2048_S1x2048_1 bcast_S1x2048_S4096x2048_0_1)) bitsLt_bf16_f32 = gB T Z W := by
  funext i
  idx_vars i
  exact congrArg (fun b : EReal => T (ix2 i0 i1) * b) (convT_at Z W _ slices_S4096x13312_S4096x2048_0_2048 slices_S4096x13312_S4096x2048_0_4096 slices_S3x2048_S1x2048_0_0 slices_S3x2048_S1x2048_1_0 slices_S3x2048_S1x2048_2_0
      slices_S4098x2048_S4096x2048_0_0 slices_S4098x2048_S4096x2048_1_0 slices_S4098x2048_S4096x2048_2_0 bcast_S_S1x2048 concatenates_S1x2048_S4096x2048_S1x2048_S4098x2048_d0
      shapeCasts_S1x2048_S2048 bcast_S2048_S1x2048_1 bcast_S1x2048_S4096x2048_0_1 i0 i1)

theorem refC_eq : truncf .bf16 (mulf (duT T Z W) (extf .f32 (extractStridedSlice Arr ![0, 4096] Z slices_S4096x13312_S4096x2048_0_4096) bitsLt_bf16_f32)) bitsLt_bf16_f32 = gC T Z W := by
  funext i
  idx_vars i
  exact congrArg₂ (fun a b : EReal => a * b) (duT_at T Z W i0 i1) (zI_at Z slices_S4096x13312_S4096x2048_0_4096 i0 i1)

theorem refI_eq : truncf .bf16 (mulf (extf .f32 (extractStridedSlice Arr ![0, 2048] Z slices_S4096x13312_S4096x2048_0_2048) bitsLt_bf16_f32) (duT T Z W)) bitsLt_bf16_f32 = gI T Z W := by
  funext i
  idx_vars i
  exact (congrArg₂ (fun a b : EReal => a * b) (zC_at Z slices_S4096x13312_S4096x2048_0_2048 i0 i1) (duT_at T Z W i0 i1)).trans (mul_comm _ _)

/-- What the convolution is applied to, and its array with the edges. -/
abbrev uR : FVec Ideal Arr .f32 := uT Z bitsLt_bf16_f32 slices_S4096x13312_S4096x2048_0_2048 slices_S4096x13312_S4096x2048_0_4096
abbrev eR : FVec Ideal Pad .f32 := edged (uR Z) bcast_S_S1x2048 concatenates_S1x2048_S4096x2048_S1x2048_S4098x2048_d0

theorem refW_eq : sumW (sumRow (dT T Z) (extractStridedSlice Arr ![0, 0] (eR Z) slices_S4098x2048_S4096x2048_0_0)) (sumRow (dT T Z) (extractStridedSlice Arr ![1, 0] (eR Z) slices_S4098x2048_S4096x2048_1_0))
    (sumRow (dT T Z) (extractStridedSlice Arr ![2, 0] (eR Z) slices_S4098x2048_S4096x2048_2_0)) = gW T Z := by
  funext i
  idx_vars i
  have ec : (fun k => uR Z (ix2 k i1)) = uCol Z i1 := funext fun k => u_at Z _ _ _ k i1
  rw [sumW_at, sumRow_at, sumRow_at, sumRow_at]
  show _ = ∑ r : Fin 4096, (dCol T Z i1 r * tap i0 (uCol Z i1) r : EReal)
  unfold tap
  split
  · exact Finset.sum_congr rfl fun r _ => congrArg₂ (fun a b : EReal => a * b) (dT_at T Z r i1) ((edged_prv _ _ _ _ r i1).trans (congrArg (prv · r) ec))
  · split
    · exact Finset.sum_congr rfl fun r _ => congrArg₂ (fun a b : EReal => a * b) (dT_at T Z r i1) ((edged_mid _ _ _ _ r i1).trans (congrFun ec r))
    · exact Finset.sum_congr rfl fun r _ => congrArg₂ (fun a b : EReal => a * b) (dT_at T Z r i1) ((edged_nxt _ _ _ _ r i1).trans (congrArg (nxt · r) ec))

end Reference

open Cert.Kernel16Ideal Cert.Kernel16Ideal.Gen Cert.Kernel16Ideal.Value

section Kernel

variable (m : (ℓ : Loc nD τ sig) → Buf (Elt Ideal) ℓ) (c : Dev nD)

abbrev T : FVec Ideal Arr .bf16 := m ((c : Thread nD τ).loc main_arg0)
abbrev Z : FVec Ideal Proj .bf16 := m ((c : Thread nD τ).loc main_arg1)
abbrev W : FVec Ideal Wts .f32 := m ((c : Thread nD τ).loc main_arg2)

/-- The block each window stages at each point. -/
theorem idx : ∀ t : Fin cfg0.N, win0_0.index t = ![0, t.val] ∧ win0_1.index t = ![0, t.val] ∧ win0_2.index t = ![0, 8 + t.val] ∧ win0_3.index t = ![0, 16 + t.val]
    ∧ win0_4.index t = ![0, t.val] ∧ win0_5.index t = ![0, t.val] ∧ win0_6.index t = ![0, t.val] ∧ win0_7.index t = ![0, t.val] ∧ win0_8.index t = ![0, t.val] :=
  (by decide +kernel : ∀ t : Fin grid0.N, _)

theorem N_eq : cfg0.N = 8 := N_0

/-- The column of the whole array that a point's block has at `x`. -/
abbrev col (t : Fin cfg0.N) (x : Fin 256) : Fin 2048 := ⟨256 * t.val + x.val, by have : t.val < 8 := lt_of_lt_of_eq t.isLt N_eq; omega⟩

theorem blkT (t : Fin cfg0.N) (r : Fin 4096) (x : Fin 256) : (show FVec Ideal Blk .bf16 from iblk m c 0 t) (ix2 r x) = T m c (ix2 r (col t x)) := by
  blk_point [iblk, V, idx t]
theorem blkB (t : Fin cfg0.N) (r : Fin 4096) (x : Fin 256) : (show FVec Ideal Blk .bf16 from iblk m c 1 t) (ix2 r x) = Z m c (ix2 r (zB (col t x))) := by
  blk_point [iblk, V, idx t]
theorem blkC (t : Fin cfg0.N) (r : Fin 4096) (x : Fin 256) : (show FVec Ideal Blk .bf16 from iblk m c 2 t) (ix2 r x) = Z m c (ix2 r (zC (col t x))) := by
  blk_point [iblk, V, idx t]
theorem blkI (t : Fin cfg0.N) (r : Fin 4096) (x : Fin 256) : (show FVec Ideal Blk .bf16 from iblk m c 3 t) (ix2 r x) = Z m c (ix2 r (zI (col t x))) := by
  blk_point [iblk, V, idx t]
theorem blkW (t : Fin cfg0.N) (k : Fin 3) (x : Fin 256) : (show FVec Ideal WBlk .f32 from iblk m c 4 t) (ix2 k x) = W m c (ix2 k (col t x)) := by
  blk_point [iblk, V, idx t]

end Kernel

theorem hz : (![0, 0] : Fin 2 → Nat) = fun _ => 0 := funext fun a => by fin_cases a <;> rfl

/- What the kernel computes, at a point's blocks. -/
section Body

variable (dt cb cc ci : Vec Ideal Blk .bf16) (w : Vec Ideal WBlk .f32)

abbrev uK (x : Fin 256) : Fin 4096 → EReal := fun k => cc (ix2 k x) * ci (ix2 k x)
abbrev dK (x : Fin 256) : Fin 4096 → EReal := fun k => dt (ix2 k x) * cb (ix2 k x)

theorem prev_at (r : Fin 4096) (x : Fin 256) : (k0_pay4 cc ci (ix2 r x) : EReal) = prv (uK cc ci x) r := rotP_at (k0_pay3 cc ci) iota_S4096x256_d0_w32 rotates_S4096x256_d0 r x
theorem next_at (r : Fin 4096) (x : Fin 256) : (k0_pay5 cc ci (ix2 r x) : EReal) = nxt (uK cc ci x) r := rotN_at (k0_pay3 cc ci) iota_S4096x256_d0_w32 rotates_S4096x256_d0 r x

theorem payB_at (r : Fin 4096) (x : Fin 256) :
    (k0_pay7 cc ci w dt (ix2 r x) : EReal) = dt (ix2 r x) * conv3 (w (ix2 0 x)) (w (ix2 1 x)) (w (ix2 2 x)) (uK cc ci x) r := by
  have e : k0_pay7 cc ci w dt = truncf .bf16 (mulf (extf .f32 dt bitsLt_bf16_f32) (convB w (k0_pay4 cc ci) (k0_pay3 cc ci) (k0_pay5 cc ci)
      slices_S3x256_o0_0_S1x256 slices_S3x256_o1_0_S1x256 slices_S3x256_o2_0_S1x256 broadcasts_S1x256_S4096x256)) bitsLt_bf16_f32 := rfl
  rw [e]
  refine congrArg (fun q => (dt (ix2 r x) * q : EReal)) ((convB_at _ _ _ _ _ _ _ _ r x).trans ?_)
  rw [prev_at, next_at]
  rfl

theorem du_at (r : Fin 4096) (x : Fin 256) :
    (k0_pay10 w (k0_pay8 dt cb) (iota .tc S4096x256 32 [0] iota_S4096x256_d0_w32) k0_pay9 (ix2 r x) : EReal) = turn3 (w (ix2 0 x)) (w (ix2 1 x)) (w (ix2 2 x)) (dK dt cb x) r := by
  have e : k0_pay10 w (k0_pay8 dt cb) (iota .tc S4096x256 32 [0] iota_S4096x256_d0_w32) k0_pay9 = convB w (rotN (k0_pay8 dt cb) iota_S4096x256_d0_w32 rotates_S4096x256_d0) (k0_pay8 dt cb) (rotP (k0_pay8 dt cb) iota_S4096x256_d0_w32 rotates_S4096x256_d0)
      slices_S3x256_o0_0_S1x256 slices_S3x256_o1_0_S1x256 slices_S3x256_o2_0_S1x256 broadcasts_S1x256_S4096x256 := rfl
  rw [e, convB_at, rotN_at, rotP_at]
  rfl

theorem outB_at (r : Fin 4096) (x : Fin 256) : (out0_5 dt cb cc ci w (ix2 r x) : EReal) = dt (ix2 r x) * conv3 (w (ix2 0 x)) (w (ix2 1 x)) (w (ix2 2 x)) (uK cc ci x) r := by
  unfold out0_5
  rw [View.canon_unit_zero hz]
  unfold r0_0 r0_1
  simp only [View.ld_unit_zero (S := S4096x256) hz, View.ld_unit_zero (S := S3x256) hz]
  exact payB_at dt cc ci w r x
theorem outC_at (r : Fin 4096) (x : Fin 256) : (out0_6 dt cb cc ci w (ix2 r x) : EReal) = turn3 (w (ix2 0 x)) (w (ix2 1 x)) (w (ix2 2 x)) (dK dt cb x) r * ci (ix2 r x) := by
  unfold out0_6 k0_pay18 k0_pay17 k0_pay16
  rw [View.canon_unit_zero hz]
  unfold r0_0 r0_1
  simp only [View.ld_unit_zero (S := S4096x256) hz, View.ld_unit_zero (S := S3x256) hz]
  exact congrArg (fun q => (q * ci (ix2 r x) : EReal)) (du_at dt cb w r x)
theorem outI_at (r : Fin 4096) (x : Fin 256) : (out0_7 dt cb cc ci w (ix2 r x) : EReal) = turn3 (w (ix2 0 x)) (w (ix2 1 x)) (w (ix2 2 x)) (dK dt cb x) r * cc (ix2 r x) := by
  unfold out0_7 k0_pay18 k0_pay17 k0_pay16
  rw [View.canon_unit_zero hz]
  unfold r0_0 r0_1
  simp only [View.ld_unit_zero (S := S4096x256) hz, View.ld_unit_zero (S := S3x256) hz]
  exact congrArg (fun q => (q * cc (ix2 r x) : EReal)) (du_at dt cb w r x)

theorem sum13_at (p d : FVec Ideal Blk .f32) (z : Fin 1) (x : Fin 256) : (k0_pay13 p d (ix2 z x) : EReal) = ∑ r : Fin 4096, d (ix2 r x) * p (ix2 r x) := by
  pointwise [k0_pay13]
theorem sum14_at (p d : FVec Ideal Blk .f32) (z : Fin 1) (x : Fin 256) : (k0_pay14 p d (ix2 z x) : EReal) = ∑ r : Fin 4096, d (ix2 r x) * p (ix2 r x) := sum13_at p d z x
theorem sum15_at (p d : FVec Ideal Blk .f32) (z : Fin 1) (x : Fin 256) : (k0_pay15 p d (ix2 z x) : EReal) = ∑ r : Fin 4096, d (ix2 r x) * p (ix2 r x) := sum13_at p d z x

theorem outW_at (k : Fin 3) (x : Fin 256) : (out0_8 dt cb cc ci w (ix2 k x) : EReal) = ∑ r : Fin 4096, dK dt cb x r * tap k (uK cc ci x) r := by
  unfold out0_8 k0_pay17 r0_0 r0_2 r0_3 r0_4
  simp only [View.ld_unit_zero (S := S4096x256) hz]
  canon_tiles y hy
  all_goals idx_vars y
  all_goals obtain rfl : x = y1 := Fin.ext hy1
  · obtain rfl : k = 2 := Fin.ext (by omega)
    exact (sum15_at _ _ y0 x).trans (Finset.sum_congr rfl fun r _ => congrArg (fun q : EReal => dK dt cb x r * q) (next_at cc ci r x))
  · obtain rfl : k = 1 := Fin.ext (by omega)
    exact (sum14_at _ _ y0 x).trans rfl
  · obtain rfl : k = 0 := Fin.ext (by omega)
    exact (sum13_at _ _ y0 x).trans (Finset.sum_congr rfl fun r _ => congrArg (fun q : EReal => dK dt cb x r * q) (prev_at cc ci r x))

end Body

section Run

variable (m : (ℓ : Loc nD τ sig) → Buf (Elt Ideal) ℓ) (c : Dev nD)

theorem at_eq {S : Shape} {α : Type} (f : S.Idx → α) (i j : S.Idx) (h : ∀ a, i a = j a) : f i = f j := congrArg f (funext h)

theorem uK_eq (t : Fin cfg0.N) (x : Fin 256) : uK (iblk m c 2 t) (iblk m c 3 t) x = uCol (Z m c) (col t x) :=
  funext fun r => congrArg₂ (fun a b : EReal => a * b) (blkC m c t r x) (blkI m c t r x)
theorem dK_eq (t : Fin cfg0.N) (x : Fin 256) : dK (iblk m c 0 t) (iblk m c 1 t) x = dCol (T m c) (Z m c) (col t x) :=
  funext fun r => congrArg₂ (fun a b : EReal => a * b) (blkT m c t r x) (blkB m c t r x)

theorem finalB : (dats m 0 c).arrAt 5 cfg0.N = gB (T m c) (Z m c) (W m c) := by
  refine (dats m 0 c).arrAt_eq_of_covers 5 _ (by decide +kernel) fun t hf y => ?_
  blk_simp
  rw [after0_5]
  revert y
  show ∀ y : S4096x256.Idx, _
  intro y
  idx_vars y
  refine (outB_at _ _ _ _ _ y0 y1).trans (Eq.trans ?_ (at_eq (gB (T m c) (Z m c) (W m c)) (ix2 y0 (col t y1)) _ fun a => ?_))
  · simp only [uK_eq, blkT, blkW]
    rfl
  · fin_cases a
    · exact Fin.ext (by show _ = win0_5.index t (0 : Fin 2) * 4096 + 1 * y0.val; simp [idx t])
    · exact Fin.ext (by show _ = win0_5.index t (1 : Fin 2) * 256 + 1 * y1.val; simp [idx t]; omega)

theorem finalC : (dats m 0 c).arrAt 6 cfg0.N = gC (T m c) (Z m c) (W m c) := by
  refine (dats m 0 c).arrAt_eq_of_covers 6 _ (by decide +kernel) fun t hf y => ?_
  blk_simp
  rw [after0_6]
  revert y
  show ∀ y : S4096x256.Idx, _
  intro y
  idx_vars y
  refine (outC_at _ _ _ _ _ y0 y1).trans (Eq.trans ?_ (at_eq (gC (T m c) (Z m c) (W m c)) (ix2 y0 (col t y1)) _ fun a => ?_))
  · simp only [dK_eq, blkI, blkW]
    rfl
  · fin_cases a
    · exact Fin.ext (by show _ = win0_6.index t (0 : Fin 2) * 4096 + 1 * y0.val; simp [idx t])
    · exact Fin.ext (by show _ = win0_6.index t (1 : Fin 2) * 256 + 1 * y1.val; simp [idx t]; omega)

theorem finalI : (dats m 0 c).arrAt 7 cfg0.N = gI (T m c) (Z m c) (W m c) := by
  refine (dats m 0 c).arrAt_eq_of_covers 7 _ (by decide +kernel) fun t hf y => ?_
  blk_simp
  rw [after0_7]
  revert y
  show ∀ y : S4096x256.Idx, _
  intro y
  idx_vars y
  refine (outI_at _ _ _ _ _ y0 y1).trans (Eq.trans ?_ (at_eq (gI (T m c) (Z m c) (W m c)) (ix2 y0 (col t y1)) _ fun a => ?_))
  · simp only [dK_eq, blkC, blkW]
    rfl
  · fin_cases a
    · exact Fin.ext (by show _ = win0_7.index t (0 : Fin 2) * 4096 + 1 * y0.val; simp [idx t])
    · exact Fin.ext (by show _ = win0_7.index t (1 : Fin 2) * 256 + 1 * y1.val; simp [idx t]; omega)

theorem finalW : (dats m 0 c).arrAt 8 cfg0.N = gW (T m c) (Z m c) := by
  refine (dats m 0 c).arrAt_eq_of_covers 8 _ (by decide +kernel) fun t hf y => ?_
  blk_simp
  rw [after0_8]
  revert y
  show ∀ y : S3x256.Idx, _
  intro y
  idx_vars y
  refine (outW_at _ _ _ _ _ y0 y1).trans (Eq.trans ?_ (at_eq (gW (T m c) (Z m c)) (ix2 y0 (col t y1)) _ fun a => ?_))
  · rw [dK_eq, uK_eq]
    rfl
  · fin_cases a
    · exact Fin.ext (by show _ = win0_8.index t (0 : Fin 2) * 3 + 1 * y0.val; simp [idx t])
    · exact Fin.ext (by show _ = win0_8.index t (1 : Fin 2) * 256 + 1 * y1.val; simp [idx t]; omega)

end Run

theorem frame : Cert.quiescent_Kernel16 := fun m ρ _ => Cert.Kernel16.Gen.frame (F := Bits) m ρ
theorem frame_ideal : Cert.quiescent_Kernel16Ideal := fun m ρ _ => Cert.Kernel16Ideal.Gen.frame (F := Ideal) m ρ
theorem frame_reference : Cert.quiescent_Reference16Ideal := fun m ρ _ =>
  (θ_run Cert.Reference16Ideal.defs _ _).mono (fun r h => ⟨fun c => (h c).2.2.2.2, sem_eq_zero_of_no_sems (by decide) r.2⟩) (Cert.Reference16Ideal.Value.run m ρ)

theorem algebraic : Cert.algebraic_Kernel16Ideal_Reference16Ideal := by
  intro m ρ m' ρ' _ hagree
  refine ⟨fun c => gB (T m c) (Z m c) (W m c), fun c => gC (T m c) (Z m c) (W m c), fun c => gI (T m c) (Z m c) (W m c), fun c => gW (T m c) (Z m c), ?_, ?_⟩
  · exact (θ_run _ _ _).mono (fun r h c => ⟨(h c).1.trans (finalB m c), (h c).2.1.trans (finalC m c), (h c).2.2.1.trans (finalI m c), (h c).2.2.2.1.trans (finalW m c), (h c).2.2.2.2⟩) (run_blocks m ρ)
  · refine (θ_run _ _ _).mono (fun r h c => ⟨(h c).1.trans ?_, (h c).2.1.trans ?_, (h c).2.2.1.trans ?_, (h c).2.2.2.1.trans ?_, (h c).2.2.2.2⟩) (Cert.Reference16Ideal.Value.run m' ρ')
    all_goals obtain ⟨a0, a1, a2⟩ := hagree c
    · rw [a0, a1, a2]
      exact refB_eq (T m c) (Z m c) (W m c)
    · rw [a0, a1, a2]
      exact refC_eq (T m c) (Z m c) (W m c)
    · rw [a0, a1, a2]
      exact refI_eq (T m c) (Z m c) (W m c)
    · unfold Cert.Reference16Ideal.Value.res_main_v65
      rw [a0, a1]
      exact refW_eq (T m c) (Z m c)

end Cert.ConvBwd

end
-- ==== Proof.ConvFwd.lean ====
/- The short convolution's forward call. -/
module

public import proofs.«01_k».proof.Proof.Conv
public import proofs.«01_k».proof.Proof.Gen.Kernel15.Frame
public import proofs.«01_k».proof.Proof.Gen.Kernel15Ideal.Value
public import proofs.«01_k».proof.Proof.Gen.Reference15Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.ConvFwd

open Cert.Kernel15Ideal Cert.Kernel15Ideal.Gen Cert.Kernel15Ideal.Value Idealize.ShloMosaic.Pointwise

open Cert.Conv

variable (m : (ℓ : Loc nD τ sig) → Buf (Elt Ideal) ℓ) (c : Dev nD)

abbrev Z : FVec Ideal Proj .bf16 := m ((c : Thread nD τ).loc main_arg0)
abbrev W : FVec Ideal Wts .f32 := m ((c : Thread nD τ).loc main_arg1)

/-- The block each window stages at each point. -/
theorem idx : ∀ t : Fin cfg0.N, win0_0.index t = ![0, t.val] ∧ win0_1.index t = ![0, 8 + t.val] ∧ win0_2.index t = ![0, 16 + t.val]
    ∧ win0_3.index t = ![0, t.val] ∧ win0_4.index t = ![0, t.val] :=
  (by decide +kernel : ∀ t : Fin grid0.N, _)

theorem N_eq : cfg0.N = 8 := N_0

/-- The column of the whole array that a point's block has at `x`. -/
abbrev col (t : Fin cfg0.N) (x : Fin 256) : Fin 2048 := ⟨256 * t.val + x.val, by have : t.val < 8 := lt_of_lt_of_eq t.isLt N_eq; omega⟩

theorem blkB (t : Fin cfg0.N) (r : Fin 4096) (x : Fin 256) : (show FVec Ideal Blk .bf16 from iblk m c 0 t) (ix2 r x) = Z m c (ix2 r (zB (col t x))) := by
  blk_point [iblk, V, idx t]
theorem blkC (t : Fin cfg0.N) (r : Fin 4096) (x : Fin 256) : (show FVec Ideal Blk .bf16 from iblk m c 1 t) (ix2 r x) = Z m c (ix2 r (zC (col t x))) := by
  blk_point [iblk, V, idx t]
theorem blkI (t : Fin cfg0.N) (r : Fin 4096) (x : Fin 256) : (show FVec Ideal Blk .bf16 from iblk m c 2 t) (ix2 r x) = Z m c (ix2 r (zI (col t x))) := by
  blk_point [iblk, V, idx t]
theorem blkW (t : Fin cfg0.N) (k : Fin 3) (x : Fin 256) : (show FVec Ideal WBlk .f32 from iblk m c 3 t) (ix2 k x) = W m c (ix2 k (col t x)) := by
  blk_point [iblk, V, idx t]

theorem hz : (![0, 0] : Fin 2 → Nat) = fun _ => 0 := funext fun a => by fin_cases a <;> rfl

theorem pay_at (cc ci : FVec Ideal Blk .bf16) (w : FVec Ideal WBlk .f32) (cb : FVec Ideal Blk .bf16) (r : Fin 4096) (x : Fin 256) :
    (k0_pay1 cc ci w cb : FVec Ideal Blk .bf16) (ix2 r x) = (cb (ix2 r x) * conv3 (w (ix2 0 x)) (w (ix2 1 x)) (w (ix2 2 x)) (fun k => cc (ix2 k x) * ci (ix2 k x)) r : EReal) := by
  have e : k0_pay1 cc ci w cb = truncf .bf16 (mulf (extf .f32 cb bitsLt_bf16_f32) (convB w (rotP (mulf (extf .f32 cc bitsLt_bf16_f32) (extf .f32 ci bitsLt_bf16_f32)) iota_S4096x256_d0_w32 rotates_S4096x256_d0)
      (mulf (extf .f32 cc bitsLt_bf16_f32) (extf .f32 ci bitsLt_bf16_f32)) (rotN (mulf (extf .f32 cc bitsLt_bf16_f32) (extf .f32 ci bitsLt_bf16_f32)) iota_S4096x256_d0_w32 rotates_S4096x256_d0)
      slices_S3x256_o0_0_S1x256 slices_S3x256_o1_0_S1x256 slices_S3x256_o2_0_S1x256 broadcasts_S1x256_S4096x256)) bitsLt_bf16_f32 := rfl
  rw [e]
  refine congrArg (fun q => (cb (ix2 r x) * q : EReal)) ((convB_at _ _ _ _ _ _ _ _ r x).trans ?_)
  rw [rotP_at, rotN_at]
  rfl

theorem out_at (cb cc ci : Vec Ideal Blk .bf16) (w : Vec Ideal WBlk .f32) (r : Fin 4096) (x : Fin 256) :
    (out0_4 cb cc ci w : FVec Ideal Blk .bf16) (ix2 r x) = (cb (ix2 r x) * conv3 (w (ix2 0 x)) (w (ix2 1 x)) (w (ix2 2 x)) (fun k => cc (ix2 k x) * ci (ix2 k x)) r : EReal) := by
  unfold out0_4
  rw [View.canon_unit_zero hz]
  unfold r0_0 r0_1
  simp only [View.ld_unit_zero (S := S4096x256) hz, View.ld_unit_zero (S := S3x256) hz]
  exact pay_at cc ci w cb r x

/-- The gated convolution of the whole array. -/
def gated (Z : FVec Ideal Proj .bf16) (W : FVec Ideal Wts .f32) : FVec Ideal Arr .bf16 := fun i =>
  (Z (ix2 (i 0) (zB (i 1))) * conv3 (W (ix2 0 (i 1))) (W (ix2 1 (i 1))) (W (ix2 2 (i 1))) (uCol Z (i 1)) (i 0) : EReal)

theorem gated_at (Z : FVec Ideal Proj .bf16) (W : FVec Ideal Wts .f32) (i : Arr.Idx) (r : Fin 4096) (j : Fin 2048) (h0 : (i 0 : Fin 4096) = r) (h1 : (i 1 : Fin 2048) = j) :
    gated Z W i = (Z (ix2 r (zB j)) * conv3 (W (ix2 0 j)) (W (ix2 1 j)) (W (ix2 2 j)) (uCol Z j) r : EReal) := by
  unfold gated
  rw [h0, h1]

theorem final : (dats m 0 c).arrAt 4 cfg0.N = gated (Z m c) (W m c) := by
  refine (dats m 0 c).arrAt_eq_of_covers 4 _ (by decide +kernel) fun t hf y => ?_
  blk_simp
  rw [after0_4]
  revert y
  show ∀ y : S4096x256.Idx, _
  intro y
  idx_vars y
  refine (out_at _ _ _ _ y0 y1).trans ((gated_at (Z m c) (W m c) _ y0 (col t y1) (Fin.ext ?_) (Fin.ext ?_)).trans ?_).symm
  · show win0_4.index t (0 : Fin 2) * 4096 + 1 * y0.val = _
    simp [idx t]
  · show win0_4.index t (1 : Fin 2) * 256 + 1 * y1.val = _
    simp [idx t]; omega
  · simp only [blkB, blkC, blkI, blkW]
    rfl

open Cert.Reference15Ideal.Gen in
/-- The reference's text. -/
theorem ref_eq (Z : FVec Ideal Proj .bf16) (W : FVec Ideal Wts .f32) : truncf .bf16 (mulf (extf .f32 (extractStridedSlice Arr ![0, 0] Z slices_S4096x13312_S4096x2048_0_0) Cert.Reference15Ideal.Gen.bitsLt_bf16_f32)
    (convT Z W Cert.Reference15Ideal.Gen.bitsLt_bf16_f32 slices_S4096x13312_S4096x2048_0_2048 slices_S4096x13312_S4096x2048_0_4096 slices_S3x2048_S1x2048_0_0 slices_S3x2048_S1x2048_1_0 slices_S3x2048_S1x2048_2_0
      slices_S4098x2048_S4096x2048_0_0 slices_S4098x2048_S4096x2048_1_0 slices_S4098x2048_S4096x2048_2_0 bcast_S_S1x2048 concatenates_S1x2048_S4096x2048_S1x2048_S4098x2048_d0
      shapeCasts_S1x2048_S2048 bcast_S2048_S1x2048_1 bcast_S1x2048_S4096x2048_0_1)) Cert.Reference15Ideal.Gen.bitsLt_bf16_f32 = gated Z W := by
  funext i
  idx_vars i
  exact congrArg₂ (fun a b : EReal => a * b) (zB_at Z slices_S4096x13312_S4096x2048_0_0 i0 i1) (convT_at Z W _ slices_S4096x13312_S4096x2048_0_2048 slices_S4096x13312_S4096x2048_0_4096 slices_S3x2048_S1x2048_0_0 slices_S3x2048_S1x2048_1_0 slices_S3x2048_S1x2048_2_0
      slices_S4098x2048_S4096x2048_0_0 slices_S4098x2048_S4096x2048_1_0 slices_S4098x2048_S4096x2048_2_0 bcast_S_S1x2048 concatenates_S1x2048_S4096x2048_S1x2048_S4098x2048_d0
      shapeCasts_S1x2048_S2048 bcast_S2048_S1x2048_1 bcast_S1x2048_S4096x2048_0_1 i0 i1)

theorem frame : Cert.quiescent_Kernel15 := fun m ρ _ => Cert.Kernel15.Gen.frame (F := Bits) m ρ
theorem frame_ideal : Cert.quiescent_Kernel15Ideal := fun m ρ _ => Cert.Kernel15Ideal.Gen.frame (F := Ideal) m ρ
theorem frame_reference : Cert.quiescent_Reference15Ideal := fun m ρ _ =>
  (θ_run Cert.Reference15Ideal.defs _ _).mono (fun r h => ⟨fun c => (h c).2, sem_eq_zero_of_no_sems (by decide) r.2⟩) (Cert.Reference15Ideal.Value.run m ρ)

theorem algebraic : Cert.algebraic_Kernel15Ideal_Reference15Ideal := by
  intro m ρ m' ρ' _ hagree
  refine ⟨fun c => gated (Z m c) (W m c), ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference15Ideal.Value.run m' ρ')
    obtain ⟨a0, a1⟩ := hagree c
    rw [a0, a1]
    exact ref_eq (Z m c) (W m c)

end Cert.ConvFwd

end
-- ==== Proof.AttnFwd.lean ====
/- The attention's forward pass on finite arguments: each query row's softmax-weighted mean of the values, and the log of
   the row's sum of exponentials. -/
module

public import proofs.«01_k».proof.Proof.KerAlg
public import proofs.«01_k».proof.Pre_finite_qkv
public import proofs.«01_k».proof.Proof.Gen.Kernel14.Frame
public import proofs.«01_k».proof.Proof.Gen.Kernel14Ideal.Value
public import proofs.«01_k».proof.Proof.Gen.Reference14Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.AttnFwd

open Cert.Kernel14Ideal Cert.Kernel14Ideal.Gen Cert.Kernel14Ideal.Value Idealize.ShloMosaic.Pointwise
open Cert.RefAttn (qcol kcol)
open Cert.AttnMath (coe_sum)

/-- A query row's score against a key row, over the reals. -/
def sR (q : (⟨2, ![4096, 2048]⟩ : Shape).Idx → ℝ) (k : (⟨2, ![4096, 512]⟩ : Shape).Idx → ℝ) (h g : Fin 4) (i s : Fin 4096) : ℝ :=
  ∑ d : Fin 128, q (ix2 i (qcol h g d)) * k (ix2 s (kcol h d))

/-- The softmax-weighted mean of values `v` with scores `S`, and the log of the sum of the scores' exponentials. -/
def mean (S v : Fin 4096 → ℝ) : ℝ := (∑ s, Real.exp (S s) * v s) / ∑ s, Real.exp (S s)
def lse (S : Fin 4096 → ℝ) : ℝ := Real.log (∑ s, Real.exp (S s))

theorem exp_pos_sum (S : Fin 4096 → ℝ) : 0 < ∑ s, Real.exp (S s) := Finset.sum_pos (fun _ _ => Real.exp_pos _) ⟨0, Finset.mem_univ _⟩

theorem exp_shift (S : Fin 4096 → ℝ) (M : ℝ) (s : Fin 4096) : Ideal.exp ((S s : EReal) - (M : EReal)) = ((Real.exp (S s) * Real.exp (-M) : ℝ) : EReal) := by
  rw [← EReal.coe_sub]
  show ((Real.exp _ : ℝ) : EReal) = _
  rw [sub_eq_add_neg, Real.exp_add]

/-- The weighted sum over the plain sum, both with the scores shifted, is the mean. -/
theorem div_shift (S v : Fin 4096 → ℝ) (M : ℝ) :
    Ideal.div (∑ s, Ideal.exp ((S s : EReal) - (M : EReal)) * (v s : EReal)) (∑ s, Ideal.exp ((S s : EReal) - (M : EReal)) * 1) = ((mean S v : ℝ) : EReal) := by
  have hp := exp_pos_sum S
  simp only [exp_shift, mul_one, ← EReal.coe_mul]
  rw [← coe_sum, ← coe_sum, ← Finset.sum_mul, AttnMath.div_coe _ _ (mul_pos hp (Real.exp_pos _)).ne', mean]
  congr 1
  rw [show ∑ s, Real.exp (S s) * Real.exp (-M) * v s = (∑ s, Real.exp (S s) * v s) * Real.exp (-M) by
    rw [Finset.sum_mul]; exact Finset.sum_congr rfl fun s _ => by ring]
  exact mul_div_mul_right _ _ (Real.exp_pos _).ne'

/-- The shift plus the log of the shifted sum is the log of the sum. -/
theorem log_shift (S : Fin 4096 → ℝ) (M : ℝ) : (M : EReal) + Ideal.log (∑ s, Ideal.exp ((S s : EReal) - (M : EReal)) * 1) = ((lse S : ℝ) : EReal) := by
  have hp := exp_pos_sum S
  have hq : 0 < (∑ s, Real.exp (S s)) * Real.exp (-M) := mul_pos hp (Real.exp_pos _)
  simp only [exp_shift, mul_one]
  rw [← coe_sum, ← Finset.sum_mul]
  have e2 : Ideal.log (((∑ s, Real.exp (S s)) * Real.exp (-M) : ℝ) : EReal) = ((Real.log ((∑ s, Real.exp (S s)) * Real.exp (-M)) : ℝ) : EReal) := by
    show (if (∑ s, Real.exp (S s)) * Real.exp (-M) ≤ 0 then (⊥ : EReal) else _) = _
    rw [if_neg (not_le.2 hq)]
  rw [e2, ← EReal.coe_add, Real.log_mul hp.ne' (Real.exp_pos _).ne', Real.log_exp, lse]
  congr 1
  ring

/-- The values weighted by the shifted scores' softmax sum to the mean. -/
theorem sum_softmax (S v : Fin 4096 → ℝ) (M : ℝ) :
    ∑ s, (v s : EReal) * Ideal.div (Ideal.exp ((S s : EReal) - (M : EReal))) (∑ s', Ideal.exp ((S s' : EReal) - (M : EReal))) = ((mean S v : ℝ) : EReal) := by
  have hp := exp_pos_sum S
  have hq : 0 < (∑ s, Real.exp (S s)) * Real.exp (-M) := mul_pos hp (Real.exp_pos _)
  simp only [exp_shift]
  rw [← coe_sum, ← Finset.sum_mul]
  simp only [AttnMath.div_coe _ _ hq.ne', ← EReal.coe_mul]
  rw [← coe_sum, mean, Finset.sum_div]
  congr 1
  refine Finset.sum_congr rfl fun s _ => ?_
  rw [mul_div_mul_right _ _ (Real.exp_pos _).ne']
  ring

theorem log_sum (S : Fin 4096 → ℝ) : Ideal.log (∑ s, Ideal.exp (S s : EReal)) = ((lse S : ℝ) : EReal) := by
  have hp := exp_pos_sum S
  have e : ∑ s, Ideal.exp (S s : EReal) = ((∑ s, Real.exp (S s) : ℝ) : EReal) := (coe_sum _ _).symm
  rw [e]
  show (if (∑ s, Real.exp (S s)) ≤ 0 then (⊥ : EReal) else _) = _
  rw [if_neg (not_le.2 hp)]
  rfl

/-! ## The kernel's values at an index -/

theorem sc_at (k : Vec Ideal S4096x128 .bf16) (q : Vec Ideal S128x128 .bf16) (r : Fin 128) (s : Fin 4096) :
    k0_pay4 k q (ix2 r s) = ∑ d : Fin 128, q (ix2 r d) * k (ix2 s d) := by
  pointwise [k0_pay4]

theorem den_at (k : Vec Ideal S4096x128 .bf16) (q : Vec Ideal S128x128 .bf16) (w : Vec Ideal S4096x256 .bf16) (r : Fin 128) (x : Fin 256) :
    k0_pay6 k q w (ix2 r x) = ∑ s : Fin 4096, Ideal.exp (k0_pay4 k q (ix2 r s) - k0_pay5 k q (ix2 r 0)) * w (ix2 s x) := by
  pointwise [k0_pay6]

theorem o_at (k : Vec Ideal S4096x128 .bf16) (q : Vec Ideal S128x128 .bf16) (w : Vec Ideal S4096x256 .bf16) (r d : Fin 128) :
    k0_pay8 k q w (ix2 r d) = Ideal.div (k0_pay6 k q w (ix2 r ⟨d.val, by omega⟩)) (k0_pay6 k q w (ix2 r 128)) := by
  pointwise [k0_pay8, k0_pay7]

theorem l_at (k : Vec Ideal S4096x128 .bf16) (q : Vec Ideal S128x128 .bf16) (w : Vec Ideal S4096x256 .bf16) (r : Fin 128) (z z' : Fin 1) :
    k0_pay9 k q w (ix3 z r z') = k0_pay5 k q (ix2 r 0) + Ideal.log (k0_pay6 k q w (ix2 r 128)) := by
  pointwise [k0_pay9, k0_pay7]

/-- A maximum over one axis of reals, from minus infinity, is a real. -/
theorem max_real {s t : Shape} {a : Fin s.rank} (x : FVec Ideal s .f32) (h : s.Reduces [a] t) (hφ : FKind.Formats .f32)
    (hacc : (0xFF800000#32 : BitVec 32) = FKind.maximumf.neutral .f32 hφ) (j : t.Idx) (hx : ∀ i, ∃ r : ℝ, (x i : EReal) = r) (hn : 0 < s.size a) :
    ∃ M : ℝ, (multiReduction .maximumf [a] t x 0xFF800000#32 h hφ hacc j : EReal) = M := by
  rw [Ideal.multiReduction_maximumf_single, show (FloatOps.ofBits (F := Ideal) .f32 0xFF800000#32 : EReal) = ⊥ by
    show Ideal.ofBits .f32 0xFF800000#32 = ⊥
    simp [Ideal.ofBits, Ideal.ieee]]
  exact AttnMath.fold_max_real Finset.univ (x ∘ h.lift j) (fun k => hx _) ⟨⟨0, hn⟩, Finset.mem_univ _⟩

/-- A property of every entry of an array holds of every entry of the array reshaped. -/
theorem shapeCast_all {s t : Shape} (x : FVec Ideal s .f32) (h) (P : EReal → Prop) (hx : ∀ i, P (x i)) (j : t.Idx) : P (shapeCast t x h j) := hx _

/-- The row maximum of real scores is a real. -/
theorem mx_real (k : Vec Ideal S4096x128 .bf16) (q : Vec Ideal S128x128 .bf16) (j : S128x1.Idx) (hs : ∀ i, ∃ x : ℝ, (k0_pay4 k q i : EReal) = x) :
    ∃ M : ℝ, (k0_pay5 k q j : EReal) = M := by
  unfold k0_pay5
  exact shapeCast_all _ _ (fun e => ∃ M : ℝ, e = M) (fun i => max_real _ _ _ _ i hs (by decide)) j

/-- The kernel's two values on blocks of reals, the values' block followed by a column of ones. -/
theorem row_of (k : Vec Ideal S4096x128 .bf16) (q : Vec Ideal S128x128 .bf16) (w : Vec Ideal S4096x256 .bf16) (S v : Fin 4096 → ℝ) (r d : Fin 128)
    (kr : Fin 4096 → Fin 128 → ℝ) (qr : Fin 128 → Fin 128 → ℝ) (hk : ∀ s e, (k (ix2 s e) : EReal) = kr s e) (hq : ∀ r e, (q (ix2 r e) : EReal) = qr r e)
    (hS : ∀ s, ∑ e : Fin 128, qr r e * kr s e = S s) (hv : ∀ s, (w (ix2 s ⟨d.val, by omega⟩) : EReal) = v s) (h1 : ∀ s, (w (ix2 s 128) : EReal) = 1) :
    (k0_pay8 k q w (ix2 r d) : EReal) = ((mean S v : ℝ) : EReal) ∧ ∀ z z', (k0_pay9 k q w (ix3 z r z') : EReal) = ((lse S : ℝ) : EReal) := by
  have e4 : ∀ r s, (k0_pay4 k q (ix2 r s) : EReal) = ((∑ e : Fin 128, qr r e * kr s e : ℝ) : EReal) := fun r s => by
    rw [sc_at, coe_sum]
    exact Finset.sum_congr rfl fun e _ => by rw [hk, hq, EReal.coe_mul]
  obtain ⟨M, hM⟩ := mx_real k q (ix2 r 0) fun i => by
    idx_vars i
    exact ⟨_, e4 i0 i1⟩
  have e6 : ∀ x, k0_pay6 k q w (ix2 r x) = ∑ s : Fin 4096, Ideal.exp ((S s : EReal) - (M : EReal)) * w (ix2 s x) := fun x => by
    rw [den_at, hM]
    exact Finset.sum_congr rfl fun s _ => by rw [e4, hS]
  refine ⟨?_, fun z z' => ?_⟩
  · rw [o_at, e6, e6]
    simp only [h1, hv]
    exact div_shift S v M
  · rw [l_at, e6, hM]
    simp only [h1]
    exact log_shift S M

/-! ## The kernel's blocks -/

variable (m : (ℓ : Loc nD τ sig) → Buf (Elt Ideal) ℓ) (c : Dev nD)

abbrev aQ : FVec Ideal S4096x2048 .bf16 := m ((c : Thread nD τ).loc main_arg0)
abbrev aK : FVec Ideal S4096x512 .bf16 := m ((c : Thread nD τ).loc main_arg1)
abbrev aV : FVec Ideal S4096x512 .bf16 := m ((c : Thread nD τ).loc main_arg2)

/-- The block each window stages at each point. -/
theorem idx : ∀ t : Fin cfg0.N, win0_0.index t = ![t.val % 4, t.val / 4] ∧ win0_1.index t = ![0, t.val / 4] ∧ win0_2.index t = ![0, t.val / 4]
    ∧ win0_3.index t = ![t.val % 4, t.val / 4] ∧ win0_4.index t = ![t.val / 4, t.val % 4, 0] :=
  (by decide +kernel : ∀ t : Fin grid0.N, _)

theorem N_eq : cfg0.N = 16 := N_0

/-- The kv head of a point, and the row of the whole array that row `r` of its block is. -/
abbrev hd (t : Fin cfg0.N) : Fin 4 := ⟨t.val / 4, by have : t.val < 16 := lt_of_lt_of_eq t.isLt N_eq; omega⟩
abbrev row (t : Fin cfg0.N) (r : Fin 1024) : Fin 4096 := ⟨1024 * (t.val % 4) + r.val, by omega⟩

theorem blkQ (t : Fin cfg0.N) (r : Fin 1024) (g : Fin 4) (d : Fin 128) (x : Fin 512) (hx : x.val = 128 * g.val + d.val) :
    (show FVec Ideal S1024x512 .bf16 from iblk m c 0 t) (ix2 r x) = aQ m c (ix2 (row t r) (qcol (hd t) g d)) := by
  blk_point [iblk, V, idx t]
theorem blkK (t : Fin cfg0.N) (s : Fin 4096) (d : Fin 128) :
    (show FVec Ideal S4096x128 .bf16 from iblk m c 1 t) (ix2 s d) = aK m c (ix2 s (kcol (hd t) d)) := by
  blk_point [iblk, V, idx t]
theorem blkV (t : Fin cfg0.N) (s : Fin 4096) (d : Fin 128) :
    (show FVec Ideal S4096x128 .bf16 from iblk m c 2 t) (ix2 s d) = aV m c (ix2 s (kcol (hd t) d)) := by
  blk_point [iblk, V, idx t]

/-- What the carried scratch holds at a kv head's points: the values' block, then a block of ones. -/
def isVO (h : Fin 4) (w : FVec Ideal S4096x256 .bf16) : Prop :=
  ∀ s (x : Fin 256), w (ix2 s x) = if hx : x.val < 128 then aV m c (ix2 s (kcol h ⟨x.val, hx⟩)) else 1

theorem ones_at (s : Fin 4096) (d : Fin 128) : (k0_pay3 (F := Ideal) (ix2 s d) : EReal) = 1 := by
  pointwise [k0_pay3]
theorem vals_at (v : Vec Ideal S4096x128 .bf16) (s : Fin 4096) (d : Fin 128) : k0_pay2 v (ix2 s d) = v (ix2 s d) := by
  pointwise [k0_pay2]

/-- What the first point of a kv head stores to the scratch, read back. -/
theorem vo_canon (t : Fin cfg0.N) : isVO m c (hd t) (View.canon (Val := Elt Ideal) (s := S4096x256) (e := .bf16)
      [⟨Rect.unit ![0, 128] S4096x128.size inb_S4096x256_S4096x128_0_128, k0_pay3 (F := Ideal)⟩,
        ⟨Rect.unit ![0, 0] S4096x128.size inb_S4096x256_S4096x128_0_0, k0_pay2 (iblk m c 2 t)⟩]) := by
  intro s x
  canon_tiles y hy
  all_goals idx_vars y
  · rw [dif_neg (by omega)]
    exact ones_at y0 y1
  · rw [dif_pos (by omega)]
    obtain rfl : s = y0 := Fin.ext hy0
    exact (vals_at _ s y1).trans ((blkV m c t s y1).trans (congrArg (fun d => aV m c (ix2 s (kcol (hd t) d))) (Fin.ext hy1.symm)))

theorem vo_readCov (t : Fin cfg0.N) (v : View sig .tc .vmem S4096x256 .bf16) : isVO m c (hd t) (View.readCov (Val := Elt Ideal) v
      [⟨Rect.unit ![0, 128] S4096x128.size inb_S4096x256_S4096x128_0_128, k0_pay3 (F := Ideal)⟩,
        ⟨Rect.unit ![0, 0] S4096x128.size inb_S4096x256_S4096x128_0_0, k0_pay2 (iblk m c 2 t)⟩]
      (Rect.unit (s := S4096x256) ![0, 0] S4096x256.size inb_S4096x256_S4096x256_0_0).toLoadRect) := by
  intro s x
  refine Eq.trans ?_ (vo_canon m c t s x)
  rw [View.readCov_eq_canon']
  exact congrArg _ (funext fun a => Fin.ext (by fin_cases a <;> simp))

/-- What was left in the scratch is read back. -/
theorem read_scratch (w : Vec Ideal S4096x256 .bf16) : View.read (Elt Ideal) (View.whole cc0_scratch0) ((Memref.isWhole_whole cc0_scratch0).unread w) = w :=
  Memref.IsWhole.read_unread (Memref.isWhole_whole cc0_scratch0) w

theorem scratch_at (n : ℕ) : ∀ (hn : n < cfg0.N), isVO m c (hd ⟨n, hn⟩) (outsAt0 m c n hn).2.2 := by
  induction n with
  | zero =>
    intro hn
    rw [outsAt0_A m c ⟨0, hn⟩ rfl]
    frame_out
    exact vo_canon m c ⟨0, hn⟩
  | succ n ih =>
    intro hn
    by_cases h0 : (n + 1) % 4 = 0
    · rw [outsAt0_A m c ⟨n + 1, hn⟩ h0]
      frame_out
      exact vo_canon m c ⟨n + 1, hn⟩
    · rw [outsAt0_B m c ⟨n + 1, hn⟩ h0]
      rw [show hd ⟨n + 1, hn⟩ = hd ⟨n, by omega⟩ from Fin.ext (by show (n + 1) / 4 = n / 4; omega)]
      exact ih (by omega)

/-- A later point of the kv head finds the same in the scratch. -/
theorem vo_read (t : Fin cfg0.N) (h0 : ¬t.val % 4 = 0) : isVO m c (hd t) (View.read (Elt Ideal) (View.whole cc0_scratch0)
    ((Memref.isWhole_whole cc0_scratch0).unread (outsAt0 m c (t.val - 1) (Nat.lt_of_le_of_lt (Nat.sub_le _ _) t.isLt)).2.2)) := by
  rw [read_scratch, show hd t = hd ⟨t.val - 1, Nat.lt_of_le_of_lt (Nat.sub_le _ _) t.isLt⟩ from Fin.ext (by show t.val / 4 = (t.val - 1) / 4; omega)]
  exact scratch_at m c _ _

/-- The parts of a column of a point's block. -/
abbrev gX (x : Fin 512) : Fin 4 := ⟨x.val / 128, by omega⟩
abbrev dX (x : Fin 512) : Fin 128 := ⟨x.val % 128, by omega⟩

section Real

variable (q : S4096x2048.Idx → ℝ) (k v : S4096x512.Idx → ℝ)

/-- The output's entry, and the saved log, at row `R` of a point's block. -/
def oT (t : Fin cfg0.N) (R : Fin 1024) (x : Fin 512) : EReal := ((mean (sR q k (hd t) (gX x) (row t R)) (fun s => v (ix2 s (kcol (hd t) (dX x)))) : ℝ) : EReal)
def lT (t : Fin cfg0.N) (R : Fin 1024) (g : Fin 4) : EReal := ((lse (sR q k (hd t) g (row t R)) : ℝ) : EReal)

variable (hQ : ∀ i, (aQ m c i : EReal) = q i) (hK : ∀ i, (aK m c i : EReal) = k i) (hV : ∀ i, (aV m c i : EReal) = v i)
include hQ hK hV

theorem piece (t : Fin cfg0.N) (w : Vec Ideal S4096x256 .bf16) (hw : isVO m c (hd t) w) (r0 c0 : ℕ) (inb) (y0 y1 : Fin 128) (g : Fin 4) (R : Fin 1024)
    (hR : R.val = r0 + y0.val) (hc : c0 = 128 * g.val) :
    (k0_pay8 (iblk m c 1 t) (View.ld (iblk m c 0 t) (Rect.unit (s := S1024x512) ![r0, c0] S128x128.size inb)) w (ix2 y0 y1) : EReal)
        = ((mean (sR q k (hd t) g (row t R)) (fun s => v (ix2 s (kcol (hd t) y1))) : ℝ) : EReal)
      ∧ ∀ z z', (k0_pay9 (iblk m c 1 t) (View.ld (iblk m c 0 t) (Rect.unit (s := S1024x512) ![r0, c0] S128x128.size inb)) w (ix3 z y0 z') : EReal) = lT q k t R g := by
  have hb : r0 + 128 ≤ 1024 ∧ c0 + 128 ≤ 512 := ⟨inb 0, inb 1⟩
  refine row_of (iblk m c 1 t) _ w (sR q k (hd t) g (row t R)) (fun s => v (ix2 s (kcol (hd t) y1))) y0 y1
    (fun s e => k (ix2 s (kcol (hd t) e))) (fun r e => q (ix2 (row t ⟨r0 + r.val, by omega⟩) (qcol (hd t) g e))) ?_ ?_ ?_ ?_ ?_
  · exact fun s e => (blkK m c t s e).trans (hK _)
  · intro r e
    refine (View.ld_unit_apply_of (iblk m c 0 t) _ _ _ _ (ix2 (⟨r0 + r.val, by omega⟩ : Fin 1024) (⟨c0 + e.val, by omega⟩ : Fin 512)) (fun a => by fin_cases a <;> simp)).trans ?_
    exact (blkQ m c t _ g e _ (by subst hc; rfl)).trans (hQ _)
  · intro s
    have e0 : (⟨r0 + y0.val, by omega⟩ : Fin 1024) = R := Fin.ext hR.symm
    simp only [e0]
    rfl
  · intro s
    rw [hw, dif_pos y1.isLt]
    exact hV _
  · intro s
    rw [hw]
    exact dif_neg (by decide)

theorem oP (t : Fin cfg0.N) (w : Vec Ideal S4096x256 .bf16) (hw : isVO m c (hd t) w) (r0 c0 : ℕ) (inb) (y0 y1 : Fin 128) (R : Fin 1024) (x : Fin 512)
    (hR : R.val = r0 + y0.val) (hx : x.val = c0 + y1.val) (hc : c0 % 128 = 0) :
    (k0_pay8 (iblk m c 1 t) (View.ld (iblk m c 0 t) (Rect.unit (s := S1024x512) ![r0, c0] S128x128.size inb)) w (ix2 y0 y1) : EReal) = oT q k v t R x := by
  have e : dX x = y1 := Fin.ext (by show x.val % 128 = _; omega)
  rw [oT, e]
  exact (piece m c q k v hQ hK hV t w hw r0 c0 inb y0 y1 (gX x) R hR (by show _ = 128 * (x.val / 128); omega)).1

theorem lP (t : Fin cfg0.N) (w : Vec Ideal S4096x256 .bf16) (hw : isVO m c (hd t) w) (r0 c0 : ℕ) (inb) (y0 : Fin 128) (z z' : Fin 1) (R : Fin 1024) (g : Fin 4)
    (hR : R.val = r0 + y0.val) (hc : c0 = 128 * g.val) :
    (k0_pay9 (iblk m c 1 t) (View.ld (iblk m c 0 t) (Rect.unit (s := S1024x512) ![r0, c0] S128x128.size inb)) w (ix3 z y0 z') : EReal) = lT q k t R g :=
  (piece m c q k v hQ hK hV t w hw r0 c0 inb y0 y0 g R hR hc).2 z z'

theorem out_o (t : Fin cfg0.N) (R : Fin 1024) (x : Fin 512) : ((outsAt0 m c t.val t.isLt).1 (ix2 R x) : EReal) = oT q k v t R x := by
  by_cases h0 : t.val % 4 = 0
  · rw [outsAt0_A m c t h0]
    frame_out
    canon_tiles y hy
    all_goals (idx_vars y; exact oP m c q k v hQ hK hV t _ (vo_readCov m c t _) _ _ _ y0 y1 R x (by omega) (by omega) (by norm_num))
  · rw [outsAt0_B m c t h0]
    frame_out
    canon_tiles y hy
    all_goals (idx_vars y; exact oP m c q k v hQ hK hV t _ (vo_read m c t h0) _ _ _ y0 y1 R x (by omega) (by omega) (by norm_num))

theorem out_l (t : Fin cfg0.N) (z : Fin 1) (R : Fin 1024) (g : Fin 4) : ((outsAt0 m c t.val t.isLt).2.1 (ix3 z R g) : EReal) = lT q k t R g := by
  by_cases h0 : t.val % 4 = 0
  · rw [outsAt0_A m c t h0]
    frame_out
    canon_tiles y hy
    all_goals (idx_vars y; exact lP m c q k v hQ hK hV t _ (vo_readCov m c t _) _ _ _ y1 y0 y2 R g (by omega) (by omega))
  · rw [outsAt0_B m c t h0]
    frame_out
    canon_tiles y hy
    all_goals (idx_vars y; exact lP m c q k v hQ hK hV t _ (vo_read m c t h0) _ _ _ y1 y0 y2 R g (by omega) (by omega))

/-- The two result arrays. -/
def oF : FVec Ideal S4096x2048 .bf16 := fun i => ((mean (sR q k (KerAttn.hQ (i 1)) (KerAttn.gQ (i 1)) (i 0)) (fun s => v (ix2 s (kcol (KerAttn.hQ (i 1)) (KerAttn.eQ (i 1))))) : ℝ) : EReal)
def lF : FVec Ideal S4x4096x4 .f32 := fun i => ((lse (sR q k (i 0) (i 2) (i 1)) : ℝ) : EReal)

omit hQ hK hV in
theorem oF_at (i : S4096x2048.Idx) (r : Fin 4096) (h g : Fin 4) (e : Fin 128) (h0 : (i 0 : Fin 4096) = r) (h1 : (i 1 : Fin 2048).val = 512 * h.val + 128 * g.val + e.val) :
    (oF q k v i : EReal) = ((mean (sR q k h g r) (fun s => v (ix2 s (kcol h e))) : ℝ) : EReal) := by
  have e1 : KerAttn.hQ (i 1) = h := Fin.ext (by show (i 1 : Fin 2048).val / 512 = _; omega)
  have e2 : KerAttn.eQ (i 1) = e := Fin.ext (by show (i 1 : Fin 2048).val % 128 = _; omega)
  have e3 : KerAttn.gQ (i 1) = g := Fin.ext (by show (i 1 : Fin 2048).val % 512 / 128 = _; omega)
  unfold oF
  rw [e1, e2, e3, h0]

omit hQ hK hV in
theorem lF_at (i : S4x4096x4.Idx) (r : Fin 4096) (h g : Fin 4) (h0 : (i 0 : Fin 4) = h) (h1 : (i 1 : Fin 4096) = r) (h2 : (i 2 : Fin 4) = g) :
    (lF q k i : EReal) = ((lse (sR q k h g r) : ℝ) : EReal) := by
  unfold lF
  rw [h0, h1, h2]

theorem final_o : (dats m 0 c).arrAt 3 cfg0.N = oF q k v := by
  refine (dats m 0 c).arrAt_eq_of_covers 3 _ (by decide +kernel) fun t hf y => ?_
  blk_simp
  rw [after0_3]
  revert y
  show ∀ y : S1024x512.Idx, _
  intro y
  idx_vars y
  refine (out_o m c q k v hQ hK hV t y0 y1).trans (oF_at q k v _ (row t y0) (hd t) (gX y1) (dX y1) (Fin.ext ?_) ?_).symm
  · show win0_3.index t (0 : Fin 2) * 1024 + 1 * y0.val = _
    simp [idx t]; omega
  · show win0_3.index t (1 : Fin 2) * 512 + 1 * y1.val = 512 * (t.val / 4) + 128 * (y1.val / 128) + y1.val % 128
    simp [idx t]; omega

theorem final_l : (dats m 0 c).arrAt 4 cfg0.N = lF q k := by
  refine (dats m 0 c).arrAt_eq_of_covers 4 _ (by decide +kernel) fun t hf y => ?_
  blk_simp
  rw [after0_4]
  revert y
  show ∀ y : S1x1024x4.Idx, _
  intro y
  idx_vars y
  refine (out_l m c q k v hQ hK hV t y0 y1 y2).trans (lF_at q k _ (row t y1) (hd t) y2 (Fin.ext ?_) (Fin.ext ?_) (Fin.ext ?_)).symm
  · show win0_4.index t (0 : Fin 3) * 1 + 1 * y0.val = t.val / 4
    simp [idx t]
  · show win0_4.index t (1 : Fin 3) * 1024 + 1 * y1.val = _
    simp [idx t]; omega
  · show win0_4.index t (2 : Fin 3) * 4 + 1 * y2.val = _
    simp [idx t]

end Real

/-! ## The reference's values -/

section Reference

variable (Q : FVec Ideal S4096x2048 .bf16) (K V : FVec Ideal S4096x512 .bf16) (q : S4096x2048.Idx → ℝ) (k v : S4096x512.Idx → ℝ)
  (hQ : ∀ i, (Q i : EReal) = q i) (hK : ∀ i, (K i : EReal) = k i) (hV : ∀ i, (V i : EReal) = v i)
include hQ hK

theorem ref_sc (h g : Fin 4) (i s : Fin 4096) : (RefAttn.sc Q K (ix4 h g i s) : EReal) = ((sR q k h g i s : ℝ) : EReal) := by
  rw [RefAttn.sc_at, sR, coe_sum]
  exact Finset.sum_congr rfl fun d _ => by rw [hQ, hK, EReal.coe_mul, mul_comm]

/-- The log of each row's sum of exponentials. -/
def lRef : FVec Ideal S4x4096x4 .f32 :=
  transpose S4x4096x4 [0, 2, 1] (Host.log (Host.reduceAdd (Host.exp (RefAttn.sc Q K)) (constant Cert.Reference14Ideal.S_ .f32 0x00000000#32)
    Cert.Reference14Ideal.Gen.reducesTo_S4x4x4096x4096_S4x4x4096_d3 Cert.Reference14Ideal.Gen.h_S_)) Cert.Reference14Ideal.Gen.transposes_S4x4x4096_S4x4096x4_0_2_1

omit hQ hK in
theorem lRef_at (h g : Fin 4) (i : Fin 4096) : (lRef Q K (ix3 h i g) : EReal) = Ideal.log (∑ s : Fin 4096, Ideal.exp (RefAttn.sc Q K (ix4 h g i s))) := by
  pointwise [lRef]

theorem ref_l : lRef Q K = lF q k := by
  funext i
  idx_vars i
  rw [lRef_at, lF_at q k (ix3 i0 i1 i2) i1 i0 i2 rfl rfl rfl]
  simp only [ref_sc Q K q k hQ hK]
  exact log_sum _

include hV

theorem ref_o : KerAttn.oArr Q K V = oF q k v := by
  funext i
  idx_vars i
  have e : i1 = qcol (KerAttn.hQ i1) (KerAttn.gQ i1) (KerAttn.eQ i1) := Fin.ext (by show i1.val = 512 * (i1.val / 512) + 128 * (i1.val % 512 / 128) + i1.val % 128; omega)
  rw [oF_at q k v (ix2 i0 i1) i0 (KerAttn.hQ i1) (KerAttn.gQ i1) (KerAttn.eQ i1) rfl (congrArg Fin.val e)]
  conv => lhs; rw [e]
  rw [KerAttn.o_at]
  obtain ⟨M, hM⟩ := RefAttn.mx_real Q K (fun j => by idx_vars j; exact ⟨_, ref_sc Q K q k hQ hK _ _ _ _⟩) (ix3 (KerAttn.hQ i1) (KerAttn.gQ i1) i0)
  simp only [RefAttn.pr_at, RefAttn.sm_at, RefAttn.ex_at, hM, ref_sc Q K q k hQ hK, hV]
  exact sum_softmax _ _ M

end Reference

theorem pre_facts : Cert.Pre_finite_qkv.Facts where
  bcast_S_S4096x2048 := by decide
  reducesTo_S4096x2048_S_d0_1 := by decide
  h_S_ := by decide
  bcast_S_S4096x512 := by decide
  reducesTo_S4096x512_S_d0_1 := by decide

instance : Subsingleton Cert.Pre_finite_qkv.S_.Idx := ⟨fun a b => funext fun k => k.elim0⟩

/-- The precondition says that every argument's entries are real. -/
theorem pre_real [Cert.Pre_finite_qkv.Facts] (Q : FVec Ideal S4096x2048 .bf16) (K V : FVec Ideal S4096x512 .bf16)
    (h : Cert.Pre_finite_qkv.fn (F := Ideal) Q K V = fun _ => 1#1) : KerAttn.Fin' Q ∧ KerAttn.Fin' K ∧ KerAttn.Fin' V := by
  have h0 := congrFun h fun k => k.elim0
  dsimp only [Cert.Pre_finite_qkv.fn] at h0
  obtain ⟨h1, hV⟩ := KerAttn.andi_one _ _ _ h0
  obtain ⟨hQ, hK⟩ := KerAttn.andi_one _ _ _ h1
  exact ⟨KerAttn.real_of_all Q _ _ _ _ _ _ _ _ hQ, KerAttn.real_of_all K _ _ _ _ _ _ _ _ hK, KerAttn.real_of_all V _ _ _ _ _ _ _ _ hV⟩

theorem frame : Cert.quiescent_Kernel14 := fun m ρ _ => Cert.Kernel14.Gen.frame (F := Bits) m ρ
theorem frame_ideal : Cert.quiescent_Kernel14Ideal := fun m ρ _ => Cert.Kernel14Ideal.Gen.frame (F := Ideal) m ρ
theorem frame_reference : Cert.quiescent_Reference14Ideal := fun m ρ _ =>
  (θ_run Cert.Reference14Ideal.defs _ _).mono (fun r h => ⟨fun c => (h c).2.2, sem_eq_zero_of_no_sems (by decide) r.2⟩) (Cert.Reference14Ideal.Value.run m ρ)

theorem algebraic : Cert.algebraic_Kernel14Ideal_Reference14Ideal_pre_finite_qkv (hPre_finite_qkv := pre_facts) := by
  intro m ρ m' ρ' hpre hagree
  have hr : ∀ c : Dev Cert.Kernel14Ideal.nD, ∃ (q : S4096x2048.Idx → ℝ) (k v : S4096x512.Idx → ℝ),
      (∀ i, (aQ m c i : EReal) = q i) ∧ (∀ i, (aK m c i : EReal) = k i) ∧ ∀ i, (aV m c i : EReal) = v i := fun c => by
    obtain ⟨fQ, fK, fV⟩ := @pre_real pre_facts _ _ _ (hpre c)
    exact ⟨fun i => (fQ i).choose, fun i => (fK i).choose, fun i => (fV i).choose, fun i => (fQ i).choose_spec, fun i => (fK i).choose_spec, fun i => (fV i).choose_spec⟩
  choose q k v hQ hK hV using hr
  refine ⟨fun c => oF (q c) (k c) (v c), fun c => lF (q c) (k c), ?_, ?_⟩
  · exact (θ_run _ _ _).mono (fun r h c => ⟨(h c).1.trans (final_o m c _ _ _ (hQ c) (hK c) (hV c)), (h c).2.1.trans (final_l m c _ _ _ (hQ c) (hK c) (hV c)), (h c).2.2⟩) (run_blocks m ρ)
  · refine (θ_run _ _ _).mono (fun r h c => ⟨(h c).1.trans ?_, (h c).2.1.trans ?_, (h c).2.2⟩) (Cert.Reference14Ideal.Value.run m' ρ')
    all_goals obtain ⟨a0, a1, a2⟩ := hagree c
    · rw [a0, a1, a2]
      exact (show _ = KerAttn.oArr (aQ m c) (aK m c) (aV m c) from rfl).trans (ref_o _ _ _ _ _ _ (hQ c) (hK c) (hV c))
    · rw [a0, a1]
      exact (show _ = lRef (aQ m c) (aK m c) from rfl).trans (ref_l _ _ _ _ (hQ c) (hK c))

end Cert.AttnFwd

end
-- ==== Proof.MmDown.lean ====
/- The MLP's second product: `r · w`, the contraction taken in two parts. -/
module

public import proofs.«01_k».proof.Proof.Products
public import proofs.«01_k».proof.Proof.Gen.Kernel13.Frame
public import proofs.«01_k».proof.Proof.Gen.Kernel13Ideal.Value
public import proofs.«01_k».proof.Proof.Gen.Reference13Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.MmDown

open Cert.Kernel13Ideal Cert.Kernel13Ideal.Gen Cert.Kernel13Ideal.Value Idealize.ShloMosaic.Pointwise

variable (m : (ℓ : Loc nD τ sig) → Buf (Elt Ideal) ℓ) (c : Dev nD)

abbrev A : FVec Ideal S4096x8192 .bf16 := m ((c : Thread nD τ).loc main_arg0)
abbrev B : FVec Ideal S8192x2048 .bf16 := m ((c : Thread nD τ).loc main_arg1)

/-- The block each window stages at each point. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

theorem N_eq : cfg0.N = 16 := N_0

/-- The row, the column and the contracted index of the whole arrays that a point's blocks have at `r`. -/
abbrev row (t : Fin cfg0.N) (r : Fin 1024) : Fin 4096 := ⟨1024 * (t.val / 4) + r.val, by have : t.val < 16 := lt_of_lt_of_eq t.isLt N_eq; omega⟩
abbrev col (t : Fin cfg0.N) (r : Fin 1024) : Fin 2048 := ⟨1024 * (t.val / 2 % 2) + r.val, by omega⟩
abbrev con (n : Fin 2) (k : Fin 4096) : Fin 8192 := ⟨4096 * n.val + k.val, by omega⟩
abbrev part (t : Fin cfg0.N) : Fin 2 := ⟨t.val % 2, by omega⟩

theorem blkA (t : Fin cfg0.N) (r : Fin 1024) (k : Fin 4096) :
    (show FVec Ideal S1024x4096 .bf16 from iblk m c 0 t) (ix2 r k) = A m c (ix2 (row t r) (con (part t) k)) := by
  blk_point [iblk, V, idx t]
theorem blkB (t : Fin cfg0.N) (x : Fin 1024) (k : Fin 4096) :
    (show FVec Ideal S4096x1024 .bf16 from iblk m c 1 t) (ix2 k x) = B m c (ix2 (con (part t) k) (col t x)) := by
  blk_point [iblk, V, idx t]

/-- The part of the sum over the contraction that a point adds. -/
def term (t : Fin cfg0.N) (r x : Fin 1024) : EReal :=
  ∑ k : Fin 4096, A m c (ix2 (row t r) (con (part t) k)) * B m c (ix2 (con (part t) k) (col t x))

theorem pay2_at (a : Vec Ideal S1024x4096 .bf16) (b : Vec Ideal S4096x1024 .bf16) (r x : Fin 1024) :
    k0_pay2 a b (ix2 r x) = ∑ k : Fin 4096, a (ix2 r k) * b (ix2 k x) := by
  pointwise [k0_pay2, k0_pay1]
theorem pay3_at (a : Vec Ideal S1024x4096 .bf16) (b : Vec Ideal S4096x1024 .bf16) (w : Vec Ideal S1024x1024 .f32) (r x : Fin 1024) :
    k0_pay3 a b w (ix2 r x) = w (ix2 r x) + ∑ k : Fin 4096, a (ix2 r k) * b (ix2 k x) := by
  pointwise [k0_pay3, k0_pay1]
theorem pay4_at (w : Vec Ideal S1024x1024 .f32) (j : S1024x1024.Idx) : k0_pay4 w j = w j := by
  idx_vars j
  pointwise [k0_pay4]

theorem reset_at (t : Fin cfg0.N) (r x : Fin 1024) :
    k0_pay2 (F := Ideal) (iblk m c 0 t) (iblk m c 1 t) (ix2 r x) = 0 + term m c t r x :=
  (pay2_at _ _ r x).trans ((Fin.sum_fin_congr fun k => congrArg₂ (· * ·) (blkA m c t r k) (blkB m c t x k)).trans (zero_add _).symm)
theorem step_at (t : Fin cfg0.N) (w : Vec Ideal S1024x1024 .f32) (r x : Fin 1024) :
    k0_pay3 (F := Ideal) (iblk m c 0 t) (iblk m c 1 t) w (ix2 r x) = w (ix2 r x) + term m c t r x :=
  (pay3_at _ _ w r x).trans (congrArg (_ + ·) (Fin.sum_fin_congr fun k => congrArg₂ (· * ·) (blkA m c t r k) (blkB m c t x k)))

/-- What was left in the accumulator is read back. -/
theorem read_acc (w : Vec Ideal S1024x1024 .f32) (j : S1024x1024.Idx) :
    View.read (Elt Ideal) (View.whole cc0_scratch0) ((Memref.isWhole_whole cc0_scratch0).unread w) j = w j :=
  congrFun (Memref.IsWhole.read_unread (Memref.isWhole_whole cc0_scratch0) w) j

theorem acc_reset (t : Fin cfg0.N) (h0 : t.val % 2 = 0) (r x : Fin 1024) :
    (outsAt0 m c t.val t.isLt).2 (ix2 r x) = 0 + term m c t r x := by
  rw [outsAt0_A m c t h0 (by omega) (by omega)]
  frame_out
  exact reset_at m c t r x

theorem acc_step (t : Fin cfg0.N) (h0 : ¬t.val % 2 = 0) (r x : Fin 1024) :
    (outsAt0 m c t.val t.isLt).2 (ix2 r x)
      = (outsAt0 m c (t.val - 1) (Nat.lt_of_le_of_lt (Nat.sub_le _ _) t.isLt)).2 (ix2 r x) + term m c t r x := by
  rw [outsAt0_B m c t h0 (by omega) (by omega)]
  frame_out
  exact (step_at m c t _ r x).trans (congrArg (· + _) (read_acc _ _))

theorem acc_out (t : Fin cfg0.N) (h : t.val % 2 = 1) (j : S1024x1024.Idx) :
    (outsAt0 m c t.val t.isLt).1 j = (outsAt0 m c t.val t.isLt).2 j := by
  rw [outsAt0_B m c t (by omega) (by omega) h]
  frame_out
  exact pay4_at _ _

theorem pt_row (t : Fin cfg0.N) (n : Fin 2) (hn : 2 * (t.val / 2) + n.val < cfg0.N) (r : Fin 1024) :
    row ⟨2 * (t.val / 2) + n.val, hn⟩ r = row t r := Fin.ext (by show 1024 * ((2 * (t.val / 2) + n.val) / 4) + _ = 1024 * (t.val / 4) + _; omega)
theorem pt_col (t : Fin cfg0.N) (n : Fin 2) (hn : 2 * (t.val / 2) + n.val < cfg0.N) (r : Fin 1024) :
    col ⟨2 * (t.val / 2) + n.val, hn⟩ r = col t r := Fin.ext (by show 1024 * ((2 * (t.val / 2) + n.val) / 2 % 2) + _ = 1024 * (t.val / 2 % 2) + _; omega)
theorem pt_part (t : Fin cfg0.N) (n : Fin 2) (hn : 2 * (t.val / 2) + n.val < cfg0.N) :
    part ⟨2 * (t.val / 2) + n.val, hn⟩ = n := Fin.ext (by show (2 * (t.val / 2) + n.val) % 2 = n.val; omega)

/-- At a tile's last point the accumulator holds the whole sum. -/
theorem acc_full (t : Fin cfg0.N) (h : t.val % 2 = 1) (r x : Fin 1024) :
    (outsAt0 m c t.val t.isLt).2 (ix2 r x) = ∑ l : Fin 8192, A m c (ix2 (row t r) l) * B m c (ix2 l (col t x)) := by
  refine (Pipeline.eq_sum_fin_of_reset_step_apply_of_flush (ι := Fin 1024 × Fin 1024) (M := EReal) (N := cfg0.N) (fun n hn (p : Fin 1024 × Fin 1024) => (outsAt0 m c n hn).2 (ix2 p.1 p.2)) 2
    (fun _ => 0) (fun t p => term m c t p.1 p.2) (fun t h0 p => acc_reset m c t h0 _ _) (fun t h0 p => acc_step m c t h0 _ _) t h (r, x)).trans ?_
  rw [zero_add]
  simp only [term, pt_row, pt_col, pt_part]
  exact Fin.sum_mul_add_congr (f := fun l : Fin 8192 => A m c (ix2 (row t r) l) * B m c (ix2 l (col t x))) fun s k hl => by
    rw [show con s k = ⟨s.val * 4096 + k.val, hl⟩ from Fin.ext (by show 4096 * s.val + k.val = s.val * 4096 + k.val; omega)]

def res : FVec Ideal S4096x2048 .bf16 := Products.nn (A m c) (B m c)

theorem final : (dats m 0 c).arrAt 2 cfg0.N = res m c := by
  refine (dats m 0 c).arrAt_eq_of_covers 2 _ (by decide +kernel) fun t hf y => ?_
  have ht := (flush0_2 t).mp hf
  blk_simp
  rw [after0_2]
  revert y
  show ∀ y : S1024x1024.Idx, _
  intro y
  idx_vars y
  have a0 : ((win0_2.blk t).view.emb (ix2 y0 y1) 0 : Fin 4096) = row t y0 := Fin.ext (by
    show win0_2.index t (0 : Fin 2) * 1024 + 1 * y0.val = _
    simp [idx t]; omega)
  have a1 : ((win0_2.blk t).view.emb (ix2 y0 y1) 1 : Fin 2048) = col t y1 := Fin.ext (by
    show win0_2.index t (1 : Fin 2) * 1024 + 1 * y1.val = _
    simp [idx t]; omega)
  exact (acc_out m c t ht _).trans ((acc_full m c t ht y0 y1).trans (Products.nn_at (A m c) (B m c) _ (row t y0) (col t y1) a0 a1).symm)

theorem ref_eq (X : FVec Ideal S4096x8192 .bf16) (W : FVec Ideal S8192x2048 .bf16) (h : FTy.bits .bf16 < FTy.bits .f32) :
    truncf .bf16 (Host.dotGeneral Cert.Reference13Ideal.dot_S4096x8192_S8192x2048_S4096x2048_1_0_0_1_n_n none (extf .f32 X h) (extf .f32 W h)) h = Products.nn X W := by
  funext i
  revert i
  show ∀ i : S4096x2048.Idx, _
  intro i
  idx_vars i
  pointwise [Products.nn]

theorem frame : Cert.quiescent_Kernel13 := fun m ρ _ => Cert.Kernel13.Gen.frame (F := Bits) m ρ
theorem frame_ideal : Cert.quiescent_Kernel13Ideal := fun m ρ _ => Cert.Kernel13Ideal.Gen.frame (F := Ideal) m ρ
theorem frame_reference : Cert.quiescent_Reference13Ideal := fun m ρ _ =>
  (θ_run Cert.Reference13Ideal.defs _ _).mono (fun r h => ⟨fun c => (h c).2, sem_eq_zero_of_no_sems (by decide) r.2⟩) (Cert.Reference13Ideal.Value.run m ρ)

theorem algebraic : Cert.algebraic_Kernel13Ideal_Reference13Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference13Ideal.Value.run m' ρ')
    obtain ⟨a0, a1⟩ := hagree c
    rw [a0, a1]
    exact ref_eq _ _ _

end Cert.MmDown

end
-- ==== Proof.MmUp.lean ====
/- The MLP's first product, and its squared relu: `a = x · w` and `max(a, 0)²`. -/
module

public import proofs.«01_k».proof.Proof.Products
public import proofs.«01_k».proof.Proof.Gen.Kernel12.Frame
public import proofs.«01_k».proof.Proof.Gen.Kernel12Ideal.Value
public import proofs.«01_k».proof.Proof.Gen.Reference12Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.MmUp

open Cert.Kernel12Ideal Cert.Kernel12Ideal.Gen Cert.Kernel12Ideal.Value Idealize.ShloMosaic.Pointwise

variable (m : (ℓ : Loc nD τ sig) → Buf (Elt Ideal) ℓ) (c : Dev nD)

abbrev A : FVec Ideal S4096x2048 .bf16 := m ((c : Thread nD τ).loc main_arg0)
abbrev B : FVec Ideal S2048x8192 .bf16 := m ((c : Thread nD τ).loc main_arg1)

/-- The block each window stages at each point. -/
theorem idx : ∀ t : Fin cfg0.N, win0_0.index t = ![t.val / 8, 0] ∧ win0_1.index t = ![0, t.val % 8] ∧ win0_2.index t = ![t.val / 8, t.val % 8]
    ∧ win0_3.index t = ![t.val / 8, t.val % 8] :=
  (by decide +kernel : ∀ t : Fin grid0.N, _)

theorem N_eq : cfg0.N = 32 := N_0

/-- The row, and the column, of the whole array that a point's block has at `r`. -/
abbrev row (t : Fin cfg0.N) (r : Fin 1024) : Fin 4096 := ⟨1024 * (t.val / 8) + r.val, by have : t.val < 32 := lt_of_lt_of_eq t.isLt N_eq; omega⟩
abbrev col (t : Fin cfg0.N) (r : Fin 1024) : Fin 8192 := ⟨1024 * (t.val % 8) + r.val, by omega⟩

theorem blkA (t : Fin cfg0.N) (r : Fin 1024) (k : Fin 2048) :
    (show FVec Ideal S1024x2048 .bf16 from iblk m c 0 t) (ix2 r k) = A m c (ix2 (row t r) k) := by
  blk_point [iblk, V, idx t]
theorem blkB (t : Fin cfg0.N) (r : Fin 1024) (k : Fin 2048) :
    (show FVec Ideal S2048x1024 .bf16 from iblk m c 1 t) (ix2 k r) = B m c (ix2 k (col t r)) := by
  blk_point [iblk, V, idx t]

theorem hz : (![0, 0] : Fin 2 → Nat) = fun _ => 0 := funext fun a => by fin_cases a <;> rfl

theorem pay_at (a : Vec Ideal S1024x2048 .bf16) (b : Vec Ideal S2048x1024 .bf16) (r x : Fin 1024) :
    k0_pay1 a b (ix2 r x) = ∑ k : Fin 2048, a (ix2 r k) * b (ix2 k x) := by
  pointwise [k0_pay1]

/-- What the second result applies to each entry of the product. -/
def relu2 (a : EReal) : EReal := max a 0 * max a 0

theorem pay2_at (a : Vec Ideal S1024x2048 .bf16) (b : Vec Ideal S2048x1024 .bf16) (r x : Fin 1024) :
    k0_pay2 a b (ix2 r x) = ∑ k : Fin 2048, a (ix2 r k) * b (ix2 k x) := pay_at a b r x
theorem pay3_at (a : Vec Ideal S1024x2048 .bf16) (b : Vec Ideal S2048x1024 .bf16) (r x : Fin 1024) :
    k0_pay3 a b (ix2 r x) = relu2 (∑ k : Fin 2048, a (ix2 r k) * b (ix2 k x)) := by
  rw [← pay_at]
  pointwise [k0_pay3, relu2]

theorem out2_at (a : Vec Ideal S1024x2048 .bf16) (b : Vec Ideal S2048x1024 .bf16) (r x : Fin 1024) :
    out0_2 a b (ix2 r x) = ∑ k : Fin 2048, a (ix2 r k) * b (ix2 k x) := by
  unfold out0_2
  rw [View.canon_unit_zero hz]
  unfold r0_0 r0_1
  simp only [View.ld_unit_zero (S := S1024x2048) hz, View.ld_unit_zero (S := S2048x1024) hz]
  exact pay2_at a b r x
theorem out3_at (a : Vec Ideal S1024x2048 .bf16) (b : Vec Ideal S2048x1024 .bf16) (r x : Fin 1024) :
    out0_3 a b (ix2 r x) = relu2 (∑ k : Fin 2048, a (ix2 r k) * b (ix2 k x)) := by
  unfold out0_3
  rw [View.canon_unit_zero hz]
  unfold r0_0 r0_1
  simp only [View.ld_unit_zero (S := S1024x2048) hz, View.ld_unit_zero (S := S2048x1024) hz]
  exact pay3_at a b r x

def act : FVec Ideal S4096x8192 .bf16 := Products.nn (A m c) (B m c)
def sq : FVec Ideal S4096x8192 .bf16 := fun i => relu2 (act m c i)

theorem act_blk (t : Fin cfg0.N) (y0 y1 : Fin 1024) (i : S4096x8192.Idx) (h0 : (i 0 : Fin 4096) = row t y0) (h1 : (i 1 : Fin 8192) = col t y1) :
    ∑ k : Fin 2048, (show FVec Ideal S1024x2048 .bf16 from iblk m c 0 t) (ix2 y0 k) * (show FVec Ideal S2048x1024 .bf16 from iblk m c 1 t) (ix2 k y1) = act m c i :=
  (Fin.sum_fin_congr fun k => congrArg₂ (· * ·) (blkA m c t y0 k) (blkB m c t y1 k)).trans (Products.nn_at (A m c) (B m c) i (row t y0) (col t y1) h0 h1).symm

theorem final_act : (dats m 0 c).arrAt 2 cfg0.N = act m c := by
  refine (dats m 0 c).arrAt_eq_of_covers 2 _ (by decide +kernel) fun t hf y => ?_
  blk_simp
  rw [after0_2]
  revert y
  show ∀ y : S1024x1024.Idx, _
  intro y
  idx_vars y
  refine (out2_at _ _ y0 y1).trans (act_blk m c t y0 y1 _ (Fin.ext ?_) (Fin.ext ?_))
  · show win0_2.index t (0 : Fin 2) * 1024 + 1 * y0.val = _
    simp [idx t]; omega
  · show win0_2.index t (1 : Fin 2) * 1024 + 1 * y1.val = _
    simp [idx t]; omega

theorem final_sq : (dats m 0 c).arrAt 3 cfg0.N = sq m c := by
  refine (dats m 0 c).arrAt_eq_of_covers 3 _ (by decide +kernel) fun t hf y => ?_
  blk_simp
  rw [after0_3]
  revert y
  show ∀ y : S1024x1024.Idx, _
  intro y
  idx_vars y
  refine (out3_at _ _ y0 y1).trans (congrArg relu2 (act_blk m c t y0 y1 _ (Fin.ext ?_) (Fin.ext ?_)))
  · show win0_3.index t (0 : Fin 2) * 1024 + 1 * y0.val = _
    simp [idx t]; omega
  · show win0_3.index t (1 : Fin 2) * 1024 + 1 * y1.val = _
    simp [idx t]; omega

/-- The reference's product. -/
abbrev prod (X : FVec Ideal S4096x2048 .bf16) (W : FVec Ideal S2048x8192 .bf16) (h : FTy.bits .bf16 < FTy.bits .f32) : FVec Ideal S4096x8192 .f32 :=
  Host.dotGeneral Cert.Reference12Ideal.dot_S4096x2048_S2048x8192_S4096x8192_1_0_0_1_n_n none (extf .f32 X h) (extf .f32 W h)

theorem prod_at (X : FVec Ideal S4096x2048 .bf16) (W : FVec Ideal S2048x8192 .bf16) (h : FTy.bits .bf16 < FTy.bits .f32) (i : S4096x8192.Idx) :
    prod X W h i = Products.nn X W i := by
  idx_vars i
  pointwise [prod, Products.nn]

theorem ref_act (X : FVec Ideal S4096x2048 .bf16) (W : FVec Ideal S2048x8192 .bf16) (h : FTy.bits .bf16 < FTy.bits .f32) :
    truncf .bf16 (prod X W h) h = Products.nn X W := funext fun i => prod_at X W h i

theorem ref_sq (X : FVec Ideal S4096x2048 .bf16) (W : FVec Ideal S2048x8192 .bf16) (h : FTy.bits .bf16 < FTy.bits .f32) (hb : Cert.Reference12Ideal.S_.BroadcastsInDim S4096x8192 (![] : Fin 0 → Fin S4096x8192.rank)) :
    truncf .bf16 (mulf (maximumf (prod X W h) (broadcastInDim S4096x8192 ![] hb (constant Cert.Reference12Ideal.S_ .f32 0x00000000#32)))
      (maximumf (prod X W h) (broadcastInDim S4096x8192 ![] hb (constant Cert.Reference12Ideal.S_ .f32 0x00000000#32)))) h = fun i => relu2 (Products.nn X W i) := by
  funext i
  rw [← prod_at X W h i]
  generalize prod X W h = z
  revert i
  show ∀ i : S4096x8192.Idx, _
  intro i
  idx_vars i
  pointwise [relu2]

theorem frame : Cert.quiescent_Kernel12 := fun m ρ _ => Cert.Kernel12.Gen.frame (F := Bits) m ρ
theorem frame_ideal : Cert.quiescent_Kernel12Ideal := fun m ρ _ => Cert.Kernel12Ideal.Gen.frame (F := Ideal) m ρ
theorem frame_reference : Cert.quiescent_Reference12Ideal := fun m ρ _ =>
  (θ_run Cert.Reference12Ideal.defs _ _).mono (fun r h => ⟨fun c => (h c).2.2, sem_eq_zero_of_no_sems (by decide) r.2⟩) (Cert.Reference12Ideal.Value.run m ρ)

theorem algebraic : Cert.algebraic_Kernel12Ideal_Reference12Ideal := by
  intro m ρ m' ρ' _ hagree
  refine ⟨fun c => act m c, fun c => sq m c, ?_, ?_⟩
  · exact (θ_run _ _ _).mono (fun r h c => ⟨(h c).1.trans (final_act m c), (h c).2.1.trans (final_sq m c), (h c).2.2⟩) (run_blocks m ρ)
  · refine (θ_run _ _ _).mono (fun r h c => ⟨(h c).1.trans ?_, (h c).2.1.trans ?_, (h c).2.2⟩) (Cert.Reference12Ideal.Value.run m' ρ')
    all_goals obtain ⟨a0, a1⟩ := hagree c
    all_goals rw [a0, a1]
    · exact ref_act _ _ _
    · exact ref_sq _ _ _ _

end Cert.MmUp

end
-- ==== Proof.MmIn.lean ====
/- The first projection of the forward pass: `h · w`. -/
module

public import proofs.«01_k».proof.Proof.Products
public import proofs.«01_k».proof.Proof.Gen.Kernel11.Frame
public import proofs.«01_k».proof.Proof.Gen.Kernel11Ideal.Value
public import proofs.«01_k».proof.Proof.Gen.Reference11Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.MmIn

open Cert.Kernel11Ideal Cert.Kernel11Ideal.Gen Cert.Kernel11Ideal.Value Idealize.ShloMosaic.Pointwise

variable (m : (ℓ : Loc nD τ sig) → Buf (Elt Ideal) ℓ) (c : Dev nD)

abbrev A : FVec Ideal S4096x2048 .bf16 := m ((c : Thread nD τ).loc main_arg0)
abbrev B : FVec Ideal S2048x13312 .bf16 := m ((c : Thread nD τ).loc main_arg1)

/-- The block each window stages at each point. -/
theorem idx : ∀ t : Fin cfg0.N, win0_0.index t = ![t.val / 13, 0] ∧ win0_1.index t = ![0, t.val % 13] ∧ win0_2.index t = ![t.val / 13, t.val % 13] :=
  (by decide +kernel : ∀ t : Fin grid0.N, _)

theorem N_eq : cfg0.N = 52 := N_0

/-- The row, and the column, of the whole array that a point's block has at `r`. -/
abbrev row (t : Fin cfg0.N) (r : Fin 1024) : Fin 4096 := ⟨1024 * (t.val / 13) + r.val, by have : t.val < 52 := lt_of_lt_of_eq t.isLt N_eq; omega⟩
abbrev col (t : Fin cfg0.N) (r : Fin 1024) : Fin 13312 := ⟨1024 * (t.val % 13) + r.val, by omega⟩

theorem blkA (t : Fin cfg0.N) (r : Fin 1024) (k : Fin 2048) :
    (show FVec Ideal S1024x2048 .bf16 from iblk m c 0 t) (ix2 r k) = A m c (ix2 (row t r) k) := by
  blk_point [iblk, V, idx t]
theorem blkB (t : Fin cfg0.N) (r : Fin 1024) (k : Fin 2048) :
    (show FVec Ideal S2048x1024 .bf16 from iblk m c 1 t) (ix2 k r) = B m c (ix2 k (col t r)) := by
  blk_point [iblk, V, idx t]

theorem hz : (![0, 0] : Fin 2 → Nat) = fun _ => 0 := funext fun a => by fin_cases a <;> rfl

theorem pay_at (a : Vec Ideal S1024x2048 .bf16) (b : Vec Ideal S2048x1024 .bf16) (r x : Fin 1024) :
    k0_pay1 a b (ix2 r x) = ∑ k : Fin 2048, a (ix2 r k) * b (ix2 k x) := by
  pointwise [k0_pay1]

theorem out_at (a : Vec Ideal S1024x2048 .bf16) (b : Vec Ideal S2048x1024 .bf16) (r x : Fin 1024) :
    out0_2 a b (ix2 r x) = ∑ k : Fin 2048, a (ix2 r k) * b (ix2 k x) := by
  unfold out0_2
  rw [View.canon_unit_zero hz]
  unfold r0_0 r0_1
  simp only [View.ld_unit_zero (S := S1024x2048) hz, View.ld_unit_zero (S := S2048x1024) hz]
  exact pay_at a b r x

def res : FVec Ideal S4096x13312 .bf16 := Products.nn (A m c) (B m c)

theorem final : (dats m 0 c).arrAt 2 cfg0.N = res m c := by
  refine (dats m 0 c).arrAt_eq_of_covers 2 _ (by decide +kernel) fun t hf y => ?_
  blk_simp
  rw [after0_2]
  revert y
  show ∀ y : S1024x1024.Idx, _
  intro y
  idx_vars y
  have a0 : ((win0_2.blk t).view.emb (ix2 y0 y1) 0 : Fin 4096) = row t y0 := Fin.ext (by
    show win0_2.index t (0 : Fin 2) * 1024 + 1 * y0.val = _
    simp [idx t]; omega)
  have a1 : ((win0_2.blk t).view.emb (ix2 y0 y1) 1 : Fin 13312) = col t y1 := Fin.ext (by
    show win0_2.index t (1 : Fin 2) * 1024 + 1 * y1.val = _
    simp [idx t]; omega)
  refine (out_at _ _ y0 y1).trans (Eq.trans ?_ (Products.nn_at (A m c) (B m c) _ (row t y0) (col t y1) a0 a1).symm)
  exact Fin.sum_fin_congr fun k => by rw [← blkA, ← blkB]

theorem ref_eq (X : FVec Ideal S4096x2048 .bf16) (W : FVec Ideal S2048x13312 .bf16) (h : FTy.bits .bf16 < FTy.bits .f32) :
    truncf .bf16 (Host.dotGeneral Cert.Reference11Ideal.dot_S4096x2048_S2048x13312_S4096x13312_1_0_0_1_n_n none (extf .f32 X h) (extf .f32 W h)) h = Products.nn X W := by
  funext i
  revert i
  show ∀ i : S4096x13312.Idx, _
  intro i
  idx_vars i
  pointwise [Products.nn]

theorem frame : Cert.quiescent_Kernel11 := fun m ρ _ => Cert.Kernel11.Gen.frame (F := Bits) m ρ
theorem frame_ideal : Cert.quiescent_Kernel11Ideal := fun m ρ _ => Cert.Kernel11Ideal.Gen.frame (F := Ideal) m ρ
theorem frame_reference : Cert.quiescent_Reference11Ideal := fun m ρ _ =>
  (θ_run Cert.Reference11Ideal.defs _ _).mono (fun r h => ⟨fun c => (h c).2, sem_eq_zero_of_no_sems (by decide) r.2⟩) (Cert.Reference11Ideal.Value.run m ρ)

theorem algebraic : Cert.algebraic_Kernel11Ideal_Reference11Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference11Ideal.Value.run m' ρ')
    obtain ⟨a0, a1⟩ := hagree c
    rw [a0, a1]
    exact ref_eq _ _ _

end Cert.MmIn

end
-- ==== Proof.MmSquare.lean ====
/- A square product of the forward pass: `x · w`. -/
module

public import proofs.«01_k».proof.Proof.Products
public import proofs.«01_k».proof.Proof.Gen.Kernel10.Frame
public import proofs.«01_k».proof.Proof.Gen.Kernel10Ideal.Value
public import proofs.«01_k».proof.Proof.Gen.Reference10Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.MmSquare

open Cert.Kernel10Ideal Cert.Kernel10Ideal.Gen Cert.Kernel10Ideal.Value Idealize.ShloMosaic.Pointwise

variable (m : (ℓ : Loc nD τ sig) → Buf (Elt Ideal) ℓ) (c : Dev nD)

abbrev A : FVec Ideal S4096x2048 .bf16 := m ((c : Thread nD τ).loc main_arg0)
abbrev B : FVec Ideal S2048x2048 .bf16 := m ((c : Thread nD τ).loc main_arg1)

/-- The block each window stages at each point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem N_eq : cfg0.N = 8 := N_0

/-- The row, and the column, of the whole array that a point's block has at `r`. -/
abbrev row (t : Fin cfg0.N) (r : Fin 1024) : Fin 4096 := ⟨1024 * (t.val / 2) + r.val, by have : t.val < 8 := lt_of_lt_of_eq t.isLt N_eq; omega⟩
abbrev col (t : Fin cfg0.N) (r : Fin 1024) : Fin 2048 := ⟨1024 * (t.val % 2) + r.val, by omega⟩

theorem blkA (t : Fin cfg0.N) (r : Fin 1024) (k : Fin 2048) :
    (show FVec Ideal S1024x2048 .bf16 from iblk m c 0 t) (ix2 r k) = A m c (ix2 (row t r) k) := by
  blk_point [iblk, V, idx t]
theorem blkB (t : Fin cfg0.N) (r : Fin 1024) (k : Fin 2048) :
    (show FVec Ideal S2048x1024 .bf16 from iblk m c 1 t) (ix2 k r) = B m c (ix2 k (col t r)) := by
  blk_point [iblk, V, idx t]

theorem hz : (![0, 0] : Fin 2 → Nat) = fun _ => 0 := funext fun a => by fin_cases a <;> rfl

theorem pay_at (a : Vec Ideal S1024x2048 .bf16) (b : Vec Ideal S2048x1024 .bf16) (r x : Fin 1024) :
    k0_pay1 a b (ix2 r x) = ∑ k : Fin 2048, a (ix2 r k) * b (ix2 k x) := by
  pointwise [k0_pay1]

theorem out_at (a : Vec Ideal S1024x2048 .bf16) (b : Vec Ideal S2048x1024 .bf16) (r x : Fin 1024) :
    out0_2 a b (ix2 r x) = ∑ k : Fin 2048, a (ix2 r k) * b (ix2 k x) := by
  unfold out0_2
  rw [View.canon_unit_zero hz]
  unfold r0_0 r0_1
  simp only [View.ld_unit_zero (S := S1024x2048) hz, View.ld_unit_zero (S := S2048x1024) hz]
  exact pay_at a b r x

def res : FVec Ideal S4096x2048 .bf16 := Products.nn (A m c) (B m c)

theorem final : (dats m 0 c).arrAt 2 cfg0.N = res m c := by
  refine (dats m 0 c).arrAt_eq_of_covers 2 _ (by decide +kernel) fun t hf y => ?_
  blk_simp
  rw [after0_2]
  revert y
  show ∀ y : S1024x1024.Idx, _
  intro y
  idx_vars y
  have a0 : ((win0_2.blk t).view.emb (ix2 y0 y1) 0 : Fin 4096) = row t y0 := Fin.ext (by
    show win0_2.index t (0 : Fin 2) * 1024 + 1 * y0.val = _
    simp [idx t]; omega)
  have a1 : ((win0_2.blk t).view.emb (ix2 y0 y1) 1 : Fin 2048) = col t y1 := Fin.ext (by
    show win0_2.index t (1 : Fin 2) * 1024 + 1 * y1.val = _
    simp [idx t]; omega)
  refine (out_at _ _ y0 y1).trans (Eq.trans ?_ (Products.nn_at (A m c) (B m c) _ (row t y0) (col t y1) a0 a1).symm)
  exact Fin.sum_fin_congr fun k => by rw [← blkA, ← blkB]

theorem ref_eq (X : FVec Ideal S4096x2048 .bf16) (W : FVec Ideal S2048x2048 .bf16) (h : FTy.bits .bf16 < FTy.bits .f32) :
    truncf .bf16 (Host.dotGeneral Cert.Reference10Ideal.dot_S4096x2048_S2048x2048_S4096x2048_1_0_0_1_n_n none (extf .f32 X h) (extf .f32 W h)) h = Products.nn X W := by
  funext i
  revert i
  show ∀ i : S4096x2048.Idx, _
  intro i
  idx_vars i
  pointwise [Products.nn]

theorem frame : Cert.quiescent_Kernel10 := fun m ρ _ => Cert.Kernel10.Gen.frame (F := Bits) m ρ
theorem frame_ideal : Cert.quiescent_Kernel10Ideal := fun m ρ _ => Cert.Kernel10Ideal.Gen.frame (F := Ideal) m ρ
theorem frame_reference : Cert.quiescent_Reference10Ideal := fun m ρ _ =>
  (θ_run Cert.Reference10Ideal.defs _ _).mono (fun r h => ⟨fun c => (h c).2, sem_eq_zero_of_no_sems (by decide) r.2⟩) (Cert.Reference10Ideal.Value.run m ρ)

theorem algebraic : Cert.algebraic_Kernel10Ideal_Reference10Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference10Ideal.Value.run m' ρ')
    obtain ⟨a0, a1⟩ := hagree c
    rw [a0, a1]
    exact ref_eq _ _ _

end Cert.MmSquare

end
-- ==== Proof.DwIn.lean ====
/- The gradient of the first projection with respect to its weight: `hᵀ · dz`. -/
module

public import proofs.«01_k».proof.Proof.Products
public import proofs.«01_k».proof.Proof.Gen.Kernel9.Frame
public import proofs.«01_k».proof.Proof.Gen.Kernel9Ideal.Value
public import proofs.«01_k».proof.Proof.Gen.Reference9Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.DwIn

open Cert.Kernel9Ideal Cert.Kernel9Ideal.Gen Cert.Kernel9Ideal.Value Idealize.ShloMosaic.Pointwise

variable (m : (ℓ : Loc nD τ sig) → Buf (Elt Ideal) ℓ) (c : Dev nD)

abbrev A : FVec Ideal S4096x2048 .bf16 := m ((c : Thread nD τ).loc main_arg0)
abbrev B : FVec Ideal S4096x13312 .bf16 := m ((c : Thread nD τ).loc main_arg1)

/-- The block each window stages at each point. -/
theorem idx : ∀ t : Fin cfg0.N, win0_0.index t = ![0, t.val / 13] ∧ win0_1.index t = ![0, t.val % 13] ∧ win0_2.index t = ![t.val / 13, t.val % 13] :=
  (by decide +kernel : ∀ t : Fin grid0.N, _)

theorem N_eq : cfg0.N = 26 := N_0

/-- The row, and the column, of the whole array that a point's block has at `r`. -/
abbrev row (t : Fin cfg0.N) (r : Fin 1024) : Fin 2048 := ⟨1024 * (t.val / 13) + r.val, by have : t.val < 26 := lt_of_lt_of_eq t.isLt N_eq; omega⟩
abbrev col (t : Fin cfg0.N) (r : Fin 1024) : Fin 13312 := ⟨1024 * (t.val % 13) + r.val, by omega⟩

theorem blkA (t : Fin cfg0.N) (r : Fin 1024) (k : Fin 4096) :
    (show FVec Ideal S4096x1024 .bf16 from iblk m c 0 t) (ix2 k r) = A m c (ix2 k (row t r)) := by
  blk_point [iblk, V, idx t]
theorem blkB (t : Fin cfg0.N) (r : Fin 1024) (k : Fin 4096) :
    (show FVec Ideal S4096x1024 .bf16 from iblk m c 1 t) (ix2 k r) = B m c (ix2 k (col t r)) := by
  blk_point [iblk, V, idx t]

theorem hz : (![0, 0] : Fin 2 → Nat) = fun _ => 0 := funext fun a => by fin_cases a <;> rfl

theorem pay_at (a b : Vec Ideal S4096x1024 .bf16) (r x : Fin 1024) :
    k0_pay1 a b (ix2 r x) = ∑ k : Fin 4096, a (ix2 k r) * b (ix2 k x) := by
  pointwise [k0_pay1]

theorem out_at (a b : Vec Ideal S4096x1024 .bf16) (r x : Fin 1024) :
    out0_2 a b (ix2 r x) = ∑ k : Fin 4096, a (ix2 k r) * b (ix2 k x) := by
  unfold out0_2
  rw [View.canon_unit_zero hz]
  unfold r0_0
  simp only [View.ld_unit_zero (S := S4096x1024) hz]
  exact pay_at a b r x

def res : FVec Ideal S2048x13312 .bf16 := Products.tn (A m c) (B m c)

theorem final : (dats m 0 c).arrAt 2 cfg0.N = res m c := by
  refine (dats m 0 c).arrAt_eq_of_covers 2 _ (by decide +kernel) fun t hf y => ?_
  blk_simp
  rw [after0_2]
  revert y
  show ∀ y : S1024x1024.Idx, _
  intro y
  idx_vars y
  have a0 : ((win0_2.blk t).view.emb (ix2 y0 y1) 0 : Fin 2048) = row t y0 := Fin.ext (by
    show win0_2.index t (0 : Fin 2) * 1024 + 1 * y0.val = _
    simp [idx t]; omega)
  have a1 : ((win0_2.blk t).view.emb (ix2 y0 y1) 1 : Fin 13312) = col t y1 := Fin.ext (by
    show win0_2.index t (1 : Fin 2) * 1024 + 1 * y1.val = _
    simp [idx t]; omega)
  refine (out_at _ _ y0 y1).trans (Eq.trans ?_ (Products.tn_at (A m c) (B m c) _ (row t y0) (col t y1) a0 a1).symm)
  exact Fin.sum_fin_congr fun k => by rw [← blkA, ← blkB]

theorem ref_eq (X : FVec Ideal S4096x2048 .bf16) (Y : FVec Ideal S4096x13312 .bf16) (h : FTy.bits .bf16 < FTy.bits .f32)
    (hT : Cert.Reference9Ideal.S13312x2048.Transposes [1, 0] S2048x13312) :
    truncf .bf16 (transpose S2048x13312 [1, 0] (Host.dotGeneral Cert.Reference9Ideal.dot_S4096x13312_S4096x2048_S13312x2048_0_0_1_1_n_n none
      (extf .f32 Y h) (extf .f32 X h)) hT) h = Products.tn X Y := by
  funext i
  revert i
  show ∀ i : S2048x13312.Idx, _
  intro i
  idx_vars i
  pointwise [Products.tn]
  exact Fin.sum_fin_congr fun k => mul_comm _ _

theorem frame : Cert.quiescent_Kernel9 := fun m ρ _ => Cert.Kernel9.Gen.frame (F := Bits) m ρ
theorem frame_ideal : Cert.quiescent_Kernel9Ideal := fun m ρ _ => Cert.Kernel9Ideal.Gen.frame (F := Ideal) m ρ
theorem frame_reference : Cert.quiescent_Reference9Ideal := fun m ρ _ =>
  (θ_run Cert.Reference9Ideal.defs _ _).mono (fun r h => ⟨fun c => (h c).2, sem_eq_zero_of_no_sems (by decide) r.2⟩) (Cert.Reference9Ideal.Value.run m ρ)

theorem algebraic : Cert.algebraic_Kernel9Ideal_Reference9Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference9Ideal.Value.run m' ρ')
    obtain ⟨a0, a1⟩ := hagree c
    rw [a0, a1]
    exact ref_eq _ _ _ _

end Cert.DwIn

end
-- ==== Proof.DwUp.lean ====
/- The gradient of the MLP's first product with respect to its weight: `hᵀ · da`. -/
module

public import proofs.«01_k».proof.Proof.Products
public import proofs.«01_k».proof.Proof.Gen.Kernel8.Frame
public import proofs.«01_k».proof.Proof.Gen.Kernel8Ideal.Value
public import proofs.«01_k».proof.Proof.Gen.Reference8Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.DwUp

open Cert.Kernel8Ideal Cert.Kernel8Ideal.Gen Cert.Kernel8Ideal.Value Idealize.ShloMosaic.Pointwise

variable (m : (ℓ : Loc nD τ sig) → Buf (Elt Ideal) ℓ) (c : Dev nD)

abbrev A : FVec Ideal S4096x2048 .bf16 := m ((c : Thread nD τ).loc main_arg0)
abbrev B : FVec Ideal S4096x8192 .bf16 := m ((c : Thread nD τ).loc main_arg1)

/-- The block each window stages at each point. -/
theorem idx : ∀ t : Fin cfg0.N, win0_0.index t = ![0, t.val / 8] ∧ win0_1.index t = ![0, t.val % 8] ∧ win0_2.index t = ![t.val / 8, t.val % 8] :=
  (by decide +kernel : ∀ t : Fin grid0.N, _)

theorem N_eq : cfg0.N = 16 := N_0

/-- The row, and the column, of the whole array that a point's block has at `r`. -/
abbrev row (t : Fin cfg0.N) (r : Fin 1024) : Fin 2048 := ⟨1024 * (t.val / 8) + r.val, by have : t.val < 16 := lt_of_lt_of_eq t.isLt N_eq; omega⟩
abbrev col (t : Fin cfg0.N) (r : Fin 1024) : Fin 8192 := ⟨1024 * (t.val % 8) + r.val, by omega⟩

theorem blkA (t : Fin cfg0.N) (r : Fin 1024) (k : Fin 4096) :
    (show FVec Ideal S4096x1024 .bf16 from iblk m c 0 t) (ix2 k r) = A m c (ix2 k (row t r)) := by
  blk_point [iblk, V, idx t]
theorem blkB (t : Fin cfg0.N) (r : Fin 1024) (k : Fin 4096) :
    (show FVec Ideal S4096x1024 .bf16 from iblk m c 1 t) (ix2 k r) = B m c (ix2 k (col t r)) := by
  blk_point [iblk, V, idx t]

theorem hz : (![0, 0] : Fin 2 → Nat) = fun _ => 0 := funext fun a => by fin_cases a <;> rfl

theorem pay_at (a b : Vec Ideal S4096x1024 .bf16) (r x : Fin 1024) :
    k0_pay1 a b (ix2 r x) = ∑ k : Fin 4096, a (ix2 k r) * b (ix2 k x) := by
  pointwise [k0_pay1]

theorem out_at (a b : Vec Ideal S4096x1024 .bf16) (r x : Fin 1024) :
    out0_2 a b (ix2 r x) = ∑ k : Fin 4096, a (ix2 k r) * b (ix2 k x) := by
  unfold out0_2
  rw [View.canon_unit_zero hz]
  unfold r0_0
  simp only [View.ld_unit_zero (S := S4096x1024) hz]
  exact pay_at a b r x

def res : FVec Ideal S2048x8192 .bf16 := Products.tn (A m c) (B m c)

theorem final : (dats m 0 c).arrAt 2 cfg0.N = res m c := by
  refine (dats m 0 c).arrAt_eq_of_covers 2 _ (by decide +kernel) fun t hf y => ?_
  blk_simp
  rw [after0_2]
  revert y
  show ∀ y : S1024x1024.Idx, _
  intro y
  idx_vars y
  have a0 : ((win0_2.blk t).view.emb (ix2 y0 y1) 0 : Fin 2048) = row t y0 := Fin.ext (by
    show win0_2.index t (0 : Fin 2) * 1024 + 1 * y0.val = _
    simp [idx t]; omega)
  have a1 : ((win0_2.blk t).view.emb (ix2 y0 y1) 1 : Fin 8192) = col t y1 := Fin.ext (by
    show win0_2.index t (1 : Fin 2) * 1024 + 1 * y1.val = _
    simp [idx t]; omega)
  refine (out_at _ _ y0 y1).trans (Eq.trans ?_ (Products.tn_at (A m c) (B m c) _ (row t y0) (col t y1) a0 a1).symm)
  exact Fin.sum_fin_congr fun k => by rw [← blkA, ← blkB]

theorem ref_eq (X : FVec Ideal S4096x2048 .bf16) (Y : FVec Ideal S4096x8192 .bf16) (h : FTy.bits .bf16 < FTy.bits .f32)
    (hT : Cert.Reference8Ideal.S8192x2048.Transposes [1, 0] S2048x8192) :
    truncf .bf16 (transpose S2048x8192 [1, 0] (Host.dotGeneral Cert.Reference8Ideal.dot_S4096x8192_S4096x2048_S8192x2048_0_0_1_1_n_n none
      (extf .f32 Y h) (extf .f32 X h)) hT) h = Products.tn X Y := by
  funext i
  revert i
  show ∀ i : S2048x8192.Idx, _
  intro i
  idx_vars i
  pointwise [Products.tn]
  exact Fin.sum_fin_congr fun k => mul_comm _ _

theorem frame : Cert.quiescent_Kernel8 := fun m ρ _ => Cert.Kernel8.Gen.frame (F := Bits) m ρ
theorem frame_ideal : Cert.quiescent_Kernel8Ideal := fun m ρ _ => Cert.Kernel8Ideal.Gen.frame (F := Ideal) m ρ
theorem frame_reference : Cert.quiescent_Reference8Ideal := fun m ρ _ =>
  (θ_run Cert.Reference8Ideal.defs _ _).mono (fun r h => ⟨fun c => (h c).2, sem_eq_zero_of_no_sems (by decide) r.2⟩) (Cert.Reference8Ideal.Value.run m ρ)

theorem algebraic : Cert.algebraic_Kernel8Ideal_Reference8Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference8Ideal.Value.run m' ρ')
    obtain ⟨a0, a1⟩ := hagree c
    rw [a0, a1]
    exact ref_eq _ _ _ _

end Cert.DwUp

end
-- ==== Proof.DwDown.lean ====
/- The gradient of the MLP's second product with respect to its weight: `rᵀ · df`. -/
module

public import proofs.«01_k».proof.Proof.Products
public import proofs.«01_k».proof.Proof.Gen.Kernel7.Frame
public import proofs.«01_k».proof.Proof.Gen.Kernel7Ideal.Value
public import proofs.«01_k».proof.Proof.Gen.Reference7Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.DwDown

open Cert.Kernel7Ideal Cert.Kernel7Ideal.Gen Cert.Kernel7Ideal.Value Idealize.ShloMosaic.Pointwise

variable (m : (ℓ : Loc nD τ sig) → Buf (Elt Ideal) ℓ) (c : Dev nD)

abbrev A : FVec Ideal S4096x8192 .bf16 := m ((c : Thread nD τ).loc main_arg0)
abbrev B : FVec Ideal S4096x2048 .bf16 := m ((c : Thread nD τ).loc main_arg1)

/-- The block each window stages at each point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem N_eq : cfg0.N = 16 := N_0

/-- The row, and the column, of the whole array that a point's block has at `r`. -/
abbrev row (t : Fin cfg0.N) (r : Fin 1024) : Fin 8192 := ⟨1024 * (t.val / 2) + r.val, by have : t.val < 16 := lt_of_lt_of_eq t.isLt N_eq; omega⟩
abbrev col (t : Fin cfg0.N) (r : Fin 1024) : Fin 2048 := ⟨1024 * (t.val % 2) + r.val, by omega⟩

theorem blkA (t : Fin cfg0.N) (r : Fin 1024) (k : Fin 4096) :
    (show FVec Ideal S4096x1024 .bf16 from iblk m c 0 t) (ix2 k r) = A m c (ix2 k (row t r)) := by
  blk_point [iblk, V, idx t]
theorem blkB (t : Fin cfg0.N) (r : Fin 1024) (k : Fin 4096) :
    (show FVec Ideal S4096x1024 .bf16 from iblk m c 1 t) (ix2 k r) = B m c (ix2 k (col t r)) := by
  blk_point [iblk, V, idx t]

theorem hz : (![0, 0] : Fin 2 → Nat) = fun _ => 0 := funext fun a => by fin_cases a <;> rfl

theorem pay_at (a b : Vec Ideal S4096x1024 .bf16) (r x : Fin 1024) :
    k0_pay1 a b (ix2 r x) = ∑ k : Fin 4096, a (ix2 k r) * b (ix2 k x) := by
  pointwise [k0_pay1]

theorem out_at (a b : Vec Ideal S4096x1024 .bf16) (r x : Fin 1024) :
    out0_2 a b (ix2 r x) = ∑ k : Fin 4096, a (ix2 k r) * b (ix2 k x) := by
  unfold out0_2
  rw [View.canon_unit_zero hz]
  unfold r0_0
  simp only [View.ld_unit_zero (S := S4096x1024) hz]
  exact pay_at a b r x

def res : FVec Ideal S8192x2048 .bf16 := Products.tn (A m c) (B m c)

theorem final : (dats m 0 c).arrAt 2 cfg0.N = res m c := by
  refine (dats m 0 c).arrAt_eq_of_covers 2 _ (by decide +kernel) fun t hf y => ?_
  blk_simp
  rw [after0_2]
  revert y
  show ∀ y : S1024x1024.Idx, _
  intro y
  idx_vars y
  have a0 : ((win0_2.blk t).view.emb (ix2 y0 y1) 0 : Fin 8192) = row t y0 := Fin.ext (by
    show win0_2.index t (0 : Fin 2) * 1024 + 1 * y0.val = _
    simp [idx t]; omega)
  have a1 : ((win0_2.blk t).view.emb (ix2 y0 y1) 1 : Fin 2048) = col t y1 := Fin.ext (by
    show win0_2.index t (1 : Fin 2) * 1024 + 1 * y1.val = _
    simp [idx t]; omega)
  refine (out_at _ _ y0 y1).trans (Eq.trans ?_ (Products.tn_at (A m c) (B m c) _ (row t y0) (col t y1) a0 a1).symm)
  exact Fin.sum_fin_congr fun k => by rw [← blkA, ← blkB]

theorem ref_eq (X : FVec Ideal S4096x8192 .bf16) (Y : FVec Ideal S4096x2048 .bf16) (h : FTy.bits .bf16 < FTy.bits .f32)
    (hT : Cert.Reference7Ideal.S2048x8192.Transposes [1, 0] S8192x2048) :
    truncf .bf16 (transpose S8192x2048 [1, 0] (Host.dotGeneral Cert.Reference7Ideal.dot_S4096x2048_S4096x8192_S2048x8192_0_0_1_1_n_n none
      (extf .f32 Y h) (extf .f32 X h)) hT) h = Products.tn X Y := by
  funext i
  revert i
  show ∀ i : S8192x2048.Idx, _
  intro i
  idx_vars i
  pointwise [Products.tn]
  exact Fin.sum_fin_congr fun k => mul_comm _ _

theorem frame : Cert.quiescent_Kernel7 := fun m ρ _ => Cert.Kernel7.Gen.frame (F := Bits) m ρ
theorem frame_ideal : Cert.quiescent_Kernel7Ideal := fun m ρ _ => Cert.Kernel7Ideal.Gen.frame (F := Ideal) m ρ
theorem frame_reference : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

theorem algebraic : Cert.algebraic_Kernel7Ideal_Reference7Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference7Ideal.Value.run m' ρ')
    obtain ⟨a0, a1⟩ := hagree c
    rw [a0, a1]
    exact ref_eq _ _ _ _

end Cert.DwDown

end
-- ==== Proof.DxIn.lean ====
/- The gradient of the first projection with respect to its input: `dz · wᵀ`, the contraction taken in four parts. -/
module

public import proofs.«01_k».proof.Proof.Products
public import proofs.«01_k».proof.Proof.Gen.Kernel6.Frame
public import proofs.«01_k».proof.Proof.Gen.Kernel6Ideal.Value
public import proofs.«01_k».proof.Proof.Gen.Reference6Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.DxIn

open Cert.Kernel6Ideal Cert.Kernel6Ideal.Gen Cert.Kernel6Ideal.Value Idealize.ShloMosaic.Pointwise

variable (m : (ℓ : Loc nD τ sig) → Buf (Elt Ideal) ℓ) (c : Dev nD)

abbrev A : FVec Ideal S4096x13312 .bf16 := m ((c : Thread nD τ).loc main_arg0)
abbrev B : FVec Ideal S2048x13312 .bf16 := m ((c : Thread nD τ).loc main_arg1)

/-- The block each window stages at each point. -/
theorem idx : ∀ t : Fin cfg0.N, win0_0.index t = ![t.val / 8, t.val % 4] ∧ win0_1.index t = ![t.val / 4 % 2, t.val % 4]
    ∧ win0_2.index t = ![t.val / 8, t.val / 4 % 2] :=
  (by decide +kernel : ∀ t : Fin grid0.N, _)

theorem N_eq : cfg0.N = 32 := N_0

/-- The row, the column and the contracted index of the whole arrays that a point's blocks have at `r`. -/
abbrev row (t : Fin cfg0.N) (r : Fin 1024) : Fin 4096 := ⟨1024 * (t.val / 8) + r.val, by have : t.val < 32 := lt_of_lt_of_eq t.isLt N_eq; omega⟩
abbrev col (t : Fin cfg0.N) (r : Fin 1024) : Fin 2048 := ⟨1024 * (t.val / 4 % 2) + r.val, by omega⟩
abbrev con (n : Fin 4) (k : Fin 3328) : Fin 13312 := ⟨3328 * n.val + k.val, by omega⟩
abbrev part (t : Fin cfg0.N) : Fin 4 := ⟨t.val % 4, by omega⟩

theorem blkA (t : Fin cfg0.N) (r : Fin 1024) (k : Fin 3328) :
    (show FVec Ideal S1024x3328 .bf16 from iblk m c 0 t) (ix2 r k) = A m c (ix2 (row t r) (con (part t) k)) := by
  blk_point [iblk, V, idx t]
theorem blkB (t : Fin cfg0.N) (x : Fin 1024) (k : Fin 3328) :
    (show FVec Ideal S1024x3328 .bf16 from iblk m c 1 t) (ix2 x k) = B m c (ix2 (col t x) (con (part t) k)) := by
  blk_point [iblk, V, idx t]

/-- The part of the sum over the contraction that a point adds. -/
def term (t : Fin cfg0.N) (r x : Fin 1024) : EReal :=
  ∑ k : Fin 3328, A m c (ix2 (row t r) (con (part t) k)) * B m c (ix2 (col t x) (con (part t) k))

theorem pay2_at (a b : Vec Ideal S1024x3328 .bf16) (r x : Fin 1024) :
    k0_pay2 a b (ix2 r x) = ∑ k : Fin 3328, a (ix2 r k) * b (ix2 x k) := by
  pointwise [k0_pay2, k0_pay1]
theorem pay3_at (a b : Vec Ideal S1024x3328 .bf16) (w : Vec Ideal S1024x1024 .f32) (r x : Fin 1024) :
    k0_pay3 a b w (ix2 r x) = w (ix2 r x) + ∑ k : Fin 3328, a (ix2 r k) * b (ix2 x k) := by
  pointwise [k0_pay3, k0_pay1]
theorem pay4_at (w : Vec Ideal S1024x1024 .f32) (j : S1024x1024.Idx) : k0_pay4 w j = w j := by
  idx_vars j
  pointwise [k0_pay4]

theorem reset_at (t : Fin cfg0.N) (r x : Fin 1024) :
    k0_pay2 (F := Ideal) (iblk m c 0 t) (iblk m c 1 t) (ix2 r x) = 0 + term m c t r x :=
  (pay2_at _ _ r x).trans ((Fin.sum_fin_congr fun k => congrArg₂ (· * ·) (blkA m c t r k) (blkB m c t x k)).trans (zero_add _).symm)
theorem step_at (t : Fin cfg0.N) (w : Vec Ideal S1024x1024 .f32) (r x : Fin 1024) :
    k0_pay3 (F := Ideal) (iblk m c 0 t) (iblk m c 1 t) w (ix2 r x) = w (ix2 r x) + term m c t r x :=
  (pay3_at _ _ w r x).trans (congrArg (_ + ·) (Fin.sum_fin_congr fun k => congrArg₂ (· * ·) (blkA m c t r k) (blkB m c t x k)))

/-- What was left in the accumulator is read back. -/
theorem read_acc (w : Vec Ideal S1024x1024 .f32) (j : S1024x1024.Idx) :
    View.read (Elt Ideal) (View.whole cc0_scratch0) ((Memref.isWhole_whole cc0_scratch0).unread w) j = w j :=
  congrFun (Memref.IsWhole.read_unread (Memref.isWhole_whole cc0_scratch0) w) j

theorem acc_reset (t : Fin cfg0.N) (h0 : t.val % 4 = 0) (r x : Fin 1024) :
    (outsAt0 m c t.val t.isLt).2 (ix2 r x) = 0 + term m c t r x := by
  rw [outsAt0_A m c t h0 (by omega) (by omega)]
  frame_out
  exact reset_at m c t r x

theorem acc_step (t : Fin cfg0.N) (h0 : ¬t.val % 4 = 0) (r x : Fin 1024) :
    (outsAt0 m c t.val t.isLt).2 (ix2 r x)
      = (outsAt0 m c (t.val - 1) (Nat.lt_of_le_of_lt (Nat.sub_le _ _) t.isLt)).2 (ix2 r x) + term m c t r x := by
  by_cases h2 : t.val % 4 = 3
  · rw [outsAt0_C m c t h0 (by omega) h2]
    frame_out
    exact (step_at m c t _ r x).trans (congrArg (· + _) (read_acc _ _))
  · rw [outsAt0_B m c t h0 (by omega) h2]
    frame_out
    exact (step_at m c t _ r x).trans (congrArg (· + _) (read_acc _ _))

theorem acc_out (t : Fin cfg0.N) (h : t.val % 4 = 3) (j : S1024x1024.Idx) :
    (outsAt0 m c t.val t.isLt).1 j = (outsAt0 m c t.val t.isLt).2 j := by
  rw [outsAt0_C m c t (by omega) (by omega) h]
  frame_out
  exact pay4_at _ _

theorem pt_row (t : Fin cfg0.N) (n : Fin 4) (hn : 4 * (t.val / 4) + n.val < cfg0.N) (r : Fin 1024) :
    row ⟨4 * (t.val / 4) + n.val, hn⟩ r = row t r := Fin.ext (by show 1024 * ((4 * (t.val / 4) + n.val) / 8) + _ = 1024 * (t.val / 8) + _; omega)
theorem pt_col (t : Fin cfg0.N) (n : Fin 4) (hn : 4 * (t.val / 4) + n.val < cfg0.N) (r : Fin 1024) :
    col ⟨4 * (t.val / 4) + n.val, hn⟩ r = col t r := Fin.ext (by show 1024 * ((4 * (t.val / 4) + n.val) / 4 % 2) + _ = 1024 * (t.val / 4 % 2) + _; omega)
theorem pt_part (t : Fin cfg0.N) (n : Fin 4) (hn : 4 * (t.val / 4) + n.val < cfg0.N) :
    part ⟨4 * (t.val / 4) + n.val, hn⟩ = n := Fin.ext (by show (4 * (t.val / 4) + n.val) % 4 = n.val; omega)

/-- At a tile's last point the accumulator holds the whole sum. -/
theorem acc_full (t : Fin cfg0.N) (h : t.val % 4 = 3) (r x : Fin 1024) :
    (outsAt0 m c t.val t.isLt).2 (ix2 r x) = ∑ l : Fin 13312, A m c (ix2 (row t r) l) * B m c (ix2 (col t x) l) := by
  refine (Pipeline.eq_sum_fin_of_reset_step_apply_of_flush (ι := Fin 1024 × Fin 1024) (M := EReal) (N := cfg0.N) (fun n hn (p : Fin 1024 × Fin 1024) => (outsAt0 m c n hn).2 (ix2 p.1 p.2)) 4
    (fun _ => 0) (fun t p => term m c t p.1 p.2) (fun t h0 p => acc_reset m c t h0 _ _) (fun t h0 p => acc_step m c t h0 _ _) t h (r, x)).trans ?_
  rw [zero_add]
  simp only [term, pt_row, pt_col, pt_part]
  exact Fin.sum_mul_add_congr (f := fun l : Fin 13312 => A m c (ix2 (row t r) l) * B m c (ix2 (col t x) l)) fun s k hl => by
    rw [show con s k = ⟨s.val * 3328 + k.val, hl⟩ from Fin.ext (by show 3328 * s.val + k.val = s.val * 3328 + k.val; omega)]

def res : FVec Ideal S4096x2048 .bf16 := Products.nt (A m c) (B m c)

theorem final : (dats m 0 c).arrAt 2 cfg0.N = res m c := by
  refine (dats m 0 c).arrAt_eq_of_covers 2 _ (by decide +kernel) fun t hf y => ?_
  have ht := (flush0_2 t).mp hf
  blk_simp
  rw [after0_2]
  revert y
  show ∀ y : S1024x1024.Idx, _
  intro y
  idx_vars y
  have a0 : ((win0_2.blk t).view.emb (ix2 y0 y1) 0 : Fin 4096) = row t y0 := Fin.ext (by
    show win0_2.index t (0 : Fin 2) * 1024 + 1 * y0.val = _
    simp [idx t]; omega)
  have a1 : ((win0_2.blk t).view.emb (ix2 y0 y1) 1 : Fin 2048) = col t y1 := Fin.ext (by
    show win0_2.index t (1 : Fin 2) * 1024 + 1 * y1.val = _
    simp [idx t]; omega)
  exact (acc_out m c t ht _).trans ((acc_full m c t ht y0 y1).trans (Products.nt_at (A m c) (B m c) _ (row t y0) (col t y1) a0 a1).symm)

theorem ref_eq (X : FVec Ideal S4096x13312 .bf16) (W : FVec Ideal S2048x13312 .bf16) (h : FTy.bits .bf16 < FTy.bits .f32) :
    truncf .bf16 (Host.dotGeneral Cert.Reference6Ideal.dot_S4096x13312_S2048x13312_S4096x2048_1_1_0_0_n_n none (extf .f32 X h) (extf .f32 W h)) h = Products.nt X W := by
  funext i
  revert i
  show ∀ i : S4096x2048.Idx, _
  intro i
  idx_vars i
  pointwise [Products.nt]

theorem frame : Cert.quiescent_Kernel6 := fun m ρ _ => Cert.Kernel6.Gen.frame (F := Bits) m ρ
theorem frame_ideal : Cert.quiescent_Kernel6Ideal := fun m ρ _ => Cert.Kernel6Ideal.Gen.frame (F := Ideal) m ρ
theorem frame_reference : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

theorem algebraic : Cert.algebraic_Kernel6Ideal_Reference6Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference6Ideal.Value.run m' ρ')
    obtain ⟨a0, a1⟩ := hagree c
    rw [a0, a1]
    exact ref_eq _ _ _

end Cert.DxIn

end
-- ==== Proof.DxUp.lean ====
/- The gradient of the MLP's first product with respect to its input: `da · wᵀ`, the contraction taken in two parts. -/
module

public import proofs.«01_k».proof.Proof.Products
public import proofs.«01_k».proof.Proof.Gen.Kernel5.Frame
public import proofs.«01_k».proof.Proof.Gen.Kernel5Ideal.Value
public import proofs.«01_k».proof.Proof.Gen.Reference5Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.DxUp

open Cert.Kernel5Ideal Cert.Kernel5Ideal.Gen Cert.Kernel5Ideal.Value Idealize.ShloMosaic.Pointwise

variable (m : (ℓ : Loc nD τ sig) → Buf (Elt Ideal) ℓ) (c : Dev nD)

abbrev A : FVec Ideal S4096x8192 .bf16 := m ((c : Thread nD τ).loc main_arg0)
abbrev B : FVec Ideal S2048x8192 .bf16 := m ((c : Thread nD τ).loc main_arg1)

/-- The block each window stages at each point. -/
theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

theorem N_eq : cfg0.N = 16 := N_0

/-- The row, the column and the contracted index of the whole arrays that a point's blocks have at `r`. -/
abbrev row (t : Fin cfg0.N) (r : Fin 1024) : Fin 4096 := ⟨1024 * (t.val / 4) + r.val, by have : t.val < 16 := lt_of_lt_of_eq t.isLt N_eq; omega⟩
abbrev col (t : Fin cfg0.N) (r : Fin 1024) : Fin 2048 := ⟨1024 * (t.val / 2 % 2) + r.val, by omega⟩
abbrev con (n : Fin 2) (k : Fin 4096) : Fin 8192 := ⟨4096 * n.val + k.val, by omega⟩
abbrev part (t : Fin cfg0.N) : Fin 2 := ⟨t.val % 2, by omega⟩

theorem blkA (t : Fin cfg0.N) (r : Fin 1024) (k : Fin 4096) :
    (show FVec Ideal S1024x4096 .bf16 from iblk m c 0 t) (ix2 r k) = A m c (ix2 (row t r) (con (part t) k)) := by
  blk_point [iblk, V, idx t]
theorem blkB (t : Fin cfg0.N) (x : Fin 1024) (k : Fin 4096) :
    (show FVec Ideal S1024x4096 .bf16 from iblk m c 1 t) (ix2 x k) = B m c (ix2 (col t x) (con (part t) k)) := by
  blk_point [iblk, V, idx t]

/-- The part of the sum over the contraction that a point adds. -/
def term (t : Fin cfg0.N) (r x : Fin 1024) : EReal :=
  ∑ k : Fin 4096, A m c (ix2 (row t r) (con (part t) k)) * B m c (ix2 (col t x) (con (part t) k))

theorem pay2_at (a b : Vec Ideal S1024x4096 .bf16) (r x : Fin 1024) :
    k0_pay2 a b (ix2 r x) = ∑ k : Fin 4096, a (ix2 r k) * b (ix2 x k) := by
  pointwise [k0_pay2, k0_pay1]
theorem pay3_at (a b : Vec Ideal S1024x4096 .bf16) (w : Vec Ideal S1024x1024 .f32) (r x : Fin 1024) :
    k0_pay3 a b w (ix2 r x) = w (ix2 r x) + ∑ k : Fin 4096, a (ix2 r k) * b (ix2 x k) := by
  pointwise [k0_pay3, k0_pay1]
theorem pay4_at (w : Vec Ideal S1024x1024 .f32) (j : S1024x1024.Idx) : k0_pay4 w j = w j := by
  idx_vars j
  pointwise [k0_pay4]

theorem reset_at (t : Fin cfg0.N) (r x : Fin 1024) :
    k0_pay2 (F := Ideal) (iblk m c 0 t) (iblk m c 1 t) (ix2 r x) = 0 + term m c t r x :=
  (pay2_at _ _ r x).trans ((Fin.sum_fin_congr fun k => congrArg₂ (· * ·) (blkA m c t r k) (blkB m c t x k)).trans (zero_add _).symm)
theorem step_at (t : Fin cfg0.N) (w : Vec Ideal S1024x1024 .f32) (r x : Fin 1024) :
    k0_pay3 (F := Ideal) (iblk m c 0 t) (iblk m c 1 t) w (ix2 r x) = w (ix2 r x) + term m c t r x :=
  (pay3_at _ _ w r x).trans (congrArg (_ + ·) (Fin.sum_fin_congr fun k => congrArg₂ (· * ·) (blkA m c t r k) (blkB m c t x k)))

/-- What was left in the accumulator is read back. -/
theorem read_acc (w : Vec Ideal S1024x1024 .f32) (j : S1024x1024.Idx) :
    View.read (Elt Ideal) (View.whole cc0_scratch0) ((Memref.isWhole_whole cc0_scratch0).unread w) j = w j :=
  congrFun (Memref.IsWhole.read_unread (Memref.isWhole_whole cc0_scratch0) w) j

theorem acc_reset (t : Fin cfg0.N) (h0 : t.val % 2 = 0) (r x : Fin 1024) :
    (outsAt0 m c t.val t.isLt).2 (ix2 r x) = 0 + term m c t r x := by
  rw [outsAt0_A m c t h0 (by omega) (by omega)]
  frame_out
  exact reset_at m c t r x

theorem acc_step (t : Fin cfg0.N) (h0 : ¬t.val % 2 = 0) (r x : Fin 1024) :
    (outsAt0 m c t.val t.isLt).2 (ix2 r x)
      = (outsAt0 m c (t.val - 1) (Nat.lt_of_le_of_lt (Nat.sub_le _ _) t.isLt)).2 (ix2 r x) + term m c t r x := by
  rw [outsAt0_B m c t h0 (by omega) (by omega)]
  frame_out
  exact (step_at m c t _ r x).trans (congrArg (· + _) (read_acc _ _))

theorem acc_out (t : Fin cfg0.N) (h : t.val % 2 = 1) (j : S1024x1024.Idx) :
    (outsAt0 m c t.val t.isLt).1 j = (outsAt0 m c t.val t.isLt).2 j := by
  rw [outsAt0_B m c t (by omega) (by omega) h]
  frame_out
  exact pay4_at _ _

theorem pt_row (t : Fin cfg0.N) (n : Fin 2) (hn : 2 * (t.val / 2) + n.val < cfg0.N) (r : Fin 1024) :
    row ⟨2 * (t.val / 2) + n.val, hn⟩ r = row t r := Fin.ext (by show 1024 * ((2 * (t.val / 2) + n.val) / 4) + _ = 1024 * (t.val / 4) + _; omega)
theorem pt_col (t : Fin cfg0.N) (n : Fin 2) (hn : 2 * (t.val / 2) + n.val < cfg0.N) (r : Fin 1024) :
    col ⟨2 * (t.val / 2) + n.val, hn⟩ r = col t r := Fin.ext (by show 1024 * ((2 * (t.val / 2) + n.val) / 2 % 2) + _ = 1024 * (t.val / 2 % 2) + _; omega)
theorem pt_part (t : Fin cfg0.N) (n : Fin 2) (hn : 2 * (t.val / 2) + n.val < cfg0.N) :
    part ⟨2 * (t.val / 2) + n.val, hn⟩ = n := Fin.ext (by show (2 * (t.val / 2) + n.val) % 2 = n.val; omega)

/-- At a tile's last point the accumulator holds the whole sum. -/
theorem acc_full (t : Fin cfg0.N) (h : t.val % 2 = 1) (r x : Fin 1024) :
    (outsAt0 m c t.val t.isLt).2 (ix2 r x) = ∑ l : Fin 8192, A m c (ix2 (row t r) l) * B m c (ix2 (col t x) l) := by
  refine (Pipeline.eq_sum_fin_of_reset_step_apply_of_flush (ι := Fin 1024 × Fin 1024) (M := EReal) (N := cfg0.N) (fun n hn (p : Fin 1024 × Fin 1024) => (outsAt0 m c n hn).2 (ix2 p.1 p.2)) 2
    (fun _ => 0) (fun t p => term m c t p.1 p.2) (fun t h0 p => acc_reset m c t h0 _ _) (fun t h0 p => acc_step m c t h0 _ _) t h (r, x)).trans ?_
  rw [zero_add]
  simp only [term, pt_row, pt_col, pt_part]
  exact Fin.sum_mul_add_congr (f := fun l : Fin 8192 => A m c (ix2 (row t r) l) * B m c (ix2 (col t x) l)) fun s k hl => by
    rw [show con s k = ⟨s.val * 4096 + k.val, hl⟩ from Fin.ext (by show 4096 * s.val + k.val = s.val * 4096 + k.val; omega)]

def res : FVec Ideal S4096x2048 .bf16 := Products.nt (A m c) (B m c)

theorem final : (dats m 0 c).arrAt 2 cfg0.N = res m c := by
  refine (dats m 0 c).arrAt_eq_of_covers 2 _ (by decide +kernel) fun t hf y => ?_
  have ht := (flush0_2 t).mp hf
  blk_simp
  rw [after0_2]
  revert y
  show ∀ y : S1024x1024.Idx, _
  intro y
  idx_vars y
  have a0 : ((win0_2.blk t).view.emb (ix2 y0 y1) 0 : Fin 4096) = row t y0 := Fin.ext (by
    show win0_2.index t (0 : Fin 2) * 1024 + 1 * y0.val = _
    simp [idx t]; omega)
  have a1 : ((win0_2.blk t).view.emb (ix2 y0 y1) 1 : Fin 2048) = col t y1 := Fin.ext (by
    show win0_2.index t (1 : Fin 2) * 1024 + 1 * y1.val = _
    simp [idx t]; omega)
  exact (acc_out m c t ht _).trans ((acc_full m c t ht y0 y1).trans (Products.nt_at (A m c) (B m c) _ (row t y0) (col t y1) a0 a1).symm)

theorem ref_eq (X : FVec Ideal S4096x8192 .bf16) (W : FVec Ideal S2048x8192 .bf16) (h : FTy.bits .bf16 < FTy.bits .f32) :
    truncf .bf16 (Host.dotGeneral Cert.Reference5Ideal.dot_S4096x8192_S2048x8192_S4096x2048_1_1_0_0_n_n none (extf .f32 X h) (extf .f32 W h)) h = Products.nt X W := by
  funext i
  revert i
  show ∀ i : S4096x2048.Idx, _
  intro i
  idx_vars i
  pointwise [Products.nt]

theorem frame : Cert.quiescent_Kernel5 := fun m ρ _ => Cert.Kernel5.Gen.frame (F := Bits) m ρ
theorem frame_ideal : Cert.quiescent_Kernel5Ideal := fun m ρ _ => Cert.Kernel5Ideal.Gen.frame (F := Ideal) m ρ
theorem frame_reference : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

theorem algebraic : Cert.algebraic_Kernel5Ideal_Reference5Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference5Ideal.Value.run m' ρ')
    obtain ⟨a0, a1⟩ := hagree c
    rw [a0, a1]
    exact ref_eq _ _ _

end Cert.DxUp

end
-- ==== Proof.Dact.lean ====
/- The gradient of `relu(act)² · w` with respect to `act`: `(df · wᵀ) · 2 relu(act)`. -/
module

public import proofs.«01_k».proof.Proof.Products
public import proofs.«01_k».proof.Proof.Gen.Kernel4.Frame
public import proofs.«01_k».proof.Proof.Gen.Kernel4Ideal.Value
public import proofs.«01_k».proof.Proof.Gen.Reference4Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.Dact

open Cert.Kernel4Ideal Cert.Kernel4Ideal.Gen Cert.Kernel4Ideal.Value Idealize.ShloMosaic.Pointwise

variable (m : (ℓ : Loc nD τ sig) → Buf (Elt Ideal) ℓ) (c : Dev nD)

abbrev A : FVec Ideal S4096x2048 .bf16 := m ((c : Thread nD τ).loc main_arg0)
abbrev B : FVec Ideal S8192x2048 .bf16 := m ((c : Thread nD τ).loc main_arg1)
abbrev C : FVec Ideal S4096x8192 .bf16 := m ((c : Thread nD τ).loc main_arg2)

/-- The gradient of `relu(x)²`: `2 · max(x, 0)`, its factor the float word of 2. -/
def slope (x : EReal) : EReal := Ideal.ofBits FTy.f32 1073741824#32 * max x 0

/-- Where `x` is not positive the slope is zero, so a choice between a multiple of it and zero is that multiple. -/
theorem slope_pick (x y : EReal) : (if 0 < x then y * slope x else 0) = y * slope x := by
  split_ifs with h
  · rfl
  · rw [slope, max_eq_right (not_lt.mp h), mul_zero, mul_zero]

/-- The block each window stages at each point. -/
theorem idx : ∀ t : Fin cfg0.N, win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, _)

theorem N_eq : cfg0.N = 32 := N_0

/-- The row, and the column, of the whole array that a point's block has at `r`. -/
abbrev row (t : Fin cfg0.N) (r : Fin 1024) : Fin 4096 := ⟨1024 * (t.val / 8) + r.val, by have : t.val < 32 := lt_of_lt_of_eq t.isLt N_eq; omega⟩
abbrev col (t : Fin cfg0.N) (r : Fin 1024) : Fin 8192 := ⟨1024 * (t.val % 8) + r.val, by omega⟩

theorem blkA (t : Fin cfg0.N) (r : Fin 1024) (k : Fin 2048) :
    (show FVec Ideal S1024x2048 .bf16 from iblk m c 0 t) (ix2 r k) = A m c (ix2 (row t r) k) := by
  blk_point [iblk, V, idx t]
theorem blkB (t : Fin cfg0.N) (r : Fin 1024) (k : Fin 2048) :
    (show FVec Ideal S1024x2048 .bf16 from iblk m c 1 t) (ix2 r k) = B m c (ix2 (col t r) k) := by
  blk_point [iblk, V, idx t]

theorem blkC (t : Fin cfg0.N) (r x : Fin 1024) :
    (show FVec Ideal S1024x1024 .bf16 from iblk m c 2 t) (ix2 r x) = C m c (ix2 (row t r) (col t x)) := by
  blk_point [iblk, V, idx t]

theorem hz : (![0, 0] : Fin 2 → Nat) = fun _ => 0 := funext fun a => by fin_cases a <;> rfl

theorem pay_at (a b : Vec Ideal S1024x2048 .bf16) (d : Vec Ideal S1024x1024 .bf16) (r x : Fin 1024) :
    k0_pay1 a b d (ix2 r x) = (∑ k : Fin 2048, a (ix2 r k) * b (ix2 x k)) * slope (d (ix2 r x)) := by
  pointwise [k0_pay1]
  rfl

theorem out_at (a b : Vec Ideal S1024x2048 .bf16) (d : Vec Ideal S1024x1024 .bf16) (r x : Fin 1024) :
    out0_3 a b d (ix2 r x) = (∑ k : Fin 2048, a (ix2 r k) * b (ix2 x k)) * slope (d (ix2 r x)) := by
  unfold out0_3
  rw [View.canon_unit_zero hz]
  unfold r0_0 r0_1
  simp only [View.ld_unit_zero (S := S1024x2048) hz, View.ld_unit_zero (S := S1024x1024) hz]
  exact pay_at a b d r x

def res : FVec Ideal S4096x8192 .bf16 := fun i => Products.nt (A m c) (B m c) i * slope (C m c i)

theorem final : (dats m 0 c).arrAt 3 cfg0.N = res m c := by
  refine (dats m 0 c).arrAt_eq_of_covers 3 _ (by decide +kernel) fun t hf y => ?_
  blk_simp
  rw [after0_3]
  revert y
  show ∀ y : S1024x1024.Idx, _
  intro y
  idx_vars y
  have a0 : ((win0_3.blk t).view.emb (ix2 y0 y1) 0 : Fin 4096) = row t y0 := Fin.ext (by
    show win0_3.index t (0 : Fin 2) * 1024 + 1 * y0.val = _
    simp [idx t]; omega)
  have a1 : ((win0_3.blk t).view.emb (ix2 y0 y1) 1 : Fin 8192) = col t y1 := Fin.ext (by
    show win0_3.index t (1 : Fin 2) * 1024 + 1 * y1.val = _
    simp [idx t]; omega)
  refine (out_at _ _ _ y0 y1).trans ?_
  show _ = Products.nt (A m c) (B m c) _ * slope (C m c _)
  rw [Products.nt_at (A m c) (B m c) _ (row t y0) (col t y1) a0 a1, Products.ix2_of ((win0_3.blk t).view.emb (ix2 y0 y1)) _ _ a0 a1, ← blkC]
  exact congrArg (· * _) (Fin.sum_fin_congr fun k => by rw [← blkA, ← blkB])

theorem ref_eq (X : FVec Ideal S4096x2048 .bf16) (W : FVec Ideal S8192x2048 .bf16) (Z : FVec Ideal S4096x8192 .bf16) (h : FTy.bits .bf16 < FTy.bits .f32)
    (hb : Cert.Reference4Ideal.S_.BroadcastsInDim Cert.Reference4Ideal.S4096x8192 (![] : Fin 0 → Fin Cert.Reference4Ideal.S4096x8192.rank)) :
    truncf .bf16 (select (cmpf .ogt (extf .f32 Z h) (broadcastInDim S4096x8192 ![] hb (constant Cert.Reference4Ideal.S_ .f32 0x00000000#32)))
      (mulf (Host.dotGeneral Cert.Reference4Ideal.dot_S4096x2048_S8192x2048_S4096x8192_1_1_0_0_n_n none (extf .f32 X h) (extf .f32 W h))
        (mulf (broadcastInDim S4096x8192 ![] hb (constant Cert.Reference4Ideal.S_ .f32 0x40000000#32))
          (maximumf (extf .f32 Z h) (broadcastInDim S4096x8192 ![] hb (constant Cert.Reference4Ideal.S_ .f32 0x00000000#32)))))
      (broadcastInDim S4096x8192 ![] hb (constant Cert.Reference4Ideal.S_ .f32 0x00000000#32))) h = fun i => Products.nt X W i * slope (Z i) := by
  funext i
  revert i
  show ∀ i : S4096x8192.Idx, _
  intro i
  idx_vars i
  pointwise [Products.nt]
  exact slope_pick _ _

theorem frame : Cert.quiescent_Kernel4 := fun m ρ _ => Cert.Kernel4.Gen.frame (F := Bits) m ρ
theorem frame_ideal : Cert.quiescent_Kernel4Ideal := fun m ρ _ => Cert.Kernel4Ideal.Gen.frame (F := Ideal) m ρ
theorem frame_reference : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

theorem algebraic : Cert.algebraic_Kernel4Ideal_Reference4Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference4Ideal.Value.run m' ρ')
    obtain ⟨a0, a1, a2⟩ := hagree c
    rw [a0, a1, a2]
    exact ref_eq _ _ _ _ _

end Cert.Dact

end
-- ==== Proof.DwSquare.lean ====
/- The gradient of a square product with respect to its right factor: `xᵀ · dy`. -/
module

public import proofs.«01_k».proof.Proof.Products
public import proofs.«01_k».proof.Proof.Gen.Kernel3.Frame
public import proofs.«01_k».proof.Proof.Gen.Kernel3Ideal.Value
public import proofs.«01_k».proof.Proof.Gen.Reference3Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.DwSquare

open Cert.Kernel3Ideal Cert.Kernel3Ideal.Gen Cert.Kernel3Ideal.Value Idealize.ShloMosaic.Pointwise

variable (m : (ℓ : Loc nD τ sig) → Buf (Elt Ideal) ℓ) (c : Dev nD)

abbrev A : FVec Ideal S4096x2048 .bf16 := m ((c : Thread nD τ).loc main_arg0)
abbrev B : FVec Ideal S4096x2048 .bf16 := m ((c : Thread nD τ).loc main_arg1)

/-- The block each window stages at each point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem N_eq : cfg0.N = 4 := N_0

/-- The row, and the column, of the whole array that a point's block has at `r`. -/
abbrev row (t : Fin cfg0.N) (r : Fin 1024) : Fin 2048 := ⟨1024 * (t.val / 2) + r.val, by have : t.val < 4 := lt_of_lt_of_eq t.isLt N_eq; omega⟩
abbrev col (t : Fin cfg0.N) (r : Fin 1024) : Fin 2048 := ⟨1024 * (t.val % 2) + r.val, by omega⟩

theorem blkA (t : Fin cfg0.N) (r : Fin 1024) (k : Fin 4096) :
    (show FVec Ideal S4096x1024 .bf16 from iblk m c 0 t) (ix2 k r) = A m c (ix2 k (row t r)) := by
  blk_point [iblk, V, idx t]
theorem blkB (t : Fin cfg0.N) (r : Fin 1024) (k : Fin 4096) :
    (show FVec Ideal S4096x1024 .bf16 from iblk m c 1 t) (ix2 k r) = B m c (ix2 k (col t r)) := by
  blk_point [iblk, V, idx t]

theorem hz : (![0, 0] : Fin 2 → Nat) = fun _ => 0 := funext fun a => by fin_cases a <;> rfl

theorem pay_at (a b : Vec Ideal S4096x1024 .bf16) (r x : Fin 1024) :
    k0_pay1 a b (ix2 r x) = ∑ k : Fin 4096, a (ix2 k r) * b (ix2 k x) := by
  pointwise [k0_pay1]

theorem out_at (a b : Vec Ideal S4096x1024 .bf16) (r x : Fin 1024) :
    out0_2 a b (ix2 r x) = ∑ k : Fin 4096, a (ix2 k r) * b (ix2 k x) := by
  unfold out0_2
  rw [View.canon_unit_zero hz]
  unfold r0_0
  simp only [View.ld_unit_zero (S := S4096x1024) hz]
  exact pay_at a b r x

def res : FVec Ideal S2048x2048 .bf16 := Products.tn (A m c) (B m c)

theorem final : (dats m 0 c).arrAt 2 cfg0.N = res m c := by
  refine (dats m 0 c).arrAt_eq_of_covers 2 _ (by decide +kernel) fun t hf y => ?_
  blk_simp
  rw [after0_2]
  revert y
  show ∀ y : S1024x1024.Idx, _
  intro y
  idx_vars y
  have a0 : ((win0_2.blk t).view.emb (ix2 y0 y1) 0 : Fin 2048) = row t y0 := Fin.ext (by
    show win0_2.index t (0 : Fin 2) * 1024 + 1 * y0.val = _
    simp [idx t]; omega)
  have a1 : ((win0_2.blk t).view.emb (ix2 y0 y1) 1 : Fin 2048) = col t y1 := Fin.ext (by
    show win0_2.index t (1 : Fin 2) * 1024 + 1 * y1.val = _
    simp [idx t]; omega)
  refine (out_at _ _ y0 y1).trans (Eq.trans ?_ (Products.tn_at (A m c) (B m c) _ (row t y0) (col t y1) a0 a1).symm)
  exact Fin.sum_fin_congr fun k => by rw [← blkA, ← blkB]

theorem ref_eq (X : FVec Ideal S4096x2048 .bf16) (Y : FVec Ideal S4096x2048 .bf16) (h : FTy.bits .bf16 < FTy.bits .f32)
    (hT : Cert.Reference3Ideal.S2048x2048.Transposes [1, 0] S2048x2048) :
    truncf .bf16 (transpose S2048x2048 [1, 0] (Host.dotGeneral Cert.Reference3Ideal.dot_S4096x2048_S4096x2048_S2048x2048_0_0_1_1_n_n none
      (extf .f32 Y h) (extf .f32 X h)) hT) h = Products.tn X Y := by
  funext i
  revert i
  show ∀ i : S2048x2048.Idx, _
  intro i
  idx_vars i
  pointwise [Products.tn]
  exact Fin.sum_fin_congr fun k => mul_comm _ _

theorem frame : Cert.quiescent_Kernel3 := fun m ρ _ => Cert.Kernel3.Gen.frame (F := Bits) m ρ
theorem frame_ideal : Cert.quiescent_Kernel3Ideal := fun m ρ _ => Cert.Kernel3Ideal.Gen.frame (F := Ideal) m ρ
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

theorem algebraic : Cert.algebraic_Kernel3Ideal_Reference3Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference3Ideal.Value.run m' ρ')
    obtain ⟨a0, a1⟩ := hagree c
    rw [a0, a1]
    exact ref_eq _ _ _ _

end Cert.DwSquare

end
-- ==== Proof.DxSquare.lean ====
/- The gradient of a square product with respect to its left factor: `dy · wᵀ`. -/
module

public import proofs.«01_k».proof.Proof.Products
public import proofs.«01_k».proof.Proof.Gen.Kernel2.Frame
public import proofs.«01_k».proof.Proof.Gen.Kernel2Ideal.Value
public import proofs.«01_k».proof.Proof.Gen.Reference2Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.DxSquare

open Cert.Kernel2Ideal Cert.Kernel2Ideal.Gen Cert.Kernel2Ideal.Value Idealize.ShloMosaic.Pointwise

variable (m : (ℓ : Loc nD τ sig) → Buf (Elt Ideal) ℓ) (c : Dev nD)

abbrev A : FVec Ideal S4096x2048 .bf16 := m ((c : Thread nD τ).loc main_arg0)
abbrev B : FVec Ideal S2048x2048 .bf16 := m ((c : Thread nD τ).loc main_arg1)

/-- The block each window stages at each point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem N8 : cfg0.N = 8 := N_0

/-- The row, and the column, of the whole array that a point's block has at `r`. -/
abbrev row (t : Fin cfg0.N) (r : Fin 1024) : Fin 4096 := ⟨1024 * (t.val / 2) + r.val, by have : t.val < 8 := lt_of_lt_of_eq t.isLt N8; omega⟩
abbrev col (t : Fin cfg0.N) (r : Fin 1024) : Fin 2048 := ⟨1024 * (t.val % 2) + r.val, by omega⟩

theorem blkA (t : Fin cfg0.N) (r : Fin 1024) (k : Fin 2048) :
    (show FVec Ideal S1024x2048 .bf16 from iblk m c 0 t) (ix2 r k) = A m c (ix2 (row t r) k) := by
  blk_point [iblk, V, idx t]
theorem blkB (t : Fin cfg0.N) (r : Fin 1024) (k : Fin 2048) :
    (show FVec Ideal S1024x2048 .bf16 from iblk m c 1 t) (ix2 r k) = B m c (ix2 (col t r) k) := by
  blk_point [iblk, V, idx t]

theorem hz : (![0, 0] : Fin 2 → Nat) = fun _ => 0 := funext fun a => by fin_cases a <;> rfl

theorem pay_at (a b : Vec Ideal S1024x2048 .bf16) (r x : Fin 1024) :
    k0_pay1 a b (ix2 r x) = ∑ k : Fin 2048, a (ix2 r k) * b (ix2 x k) := by
  pointwise [k0_pay1]

theorem out_at (a b : Vec Ideal S1024x2048 .bf16) (r x : Fin 1024) :
    out0_2 a b (ix2 r x) = ∑ k : Fin 2048, a (ix2 r k) * b (ix2 x k) := by
  unfold out0_2
  rw [View.canon_unit_zero hz]
  unfold r0_0
  simp only [View.ld_unit_zero (S := S1024x2048) hz]
  exact pay_at a b r x

def res : FVec Ideal S4096x2048 .bf16 := Products.nt (A m c) (B m c)

theorem final : (dats m 0 c).arrAt 2 cfg0.N = res m c := by
  refine (dats m 0 c).arrAt_eq_of_covers 2 _ (by decide +kernel) fun t hf y => ?_
  blk_simp
  rw [after0_2]
  revert y
  show ∀ y : S1024x1024.Idx, _
  intro y
  idx_vars y
  have a0 : ((win0_2.blk t).view.emb (ix2 y0 y1) 0 : Fin 4096) = row t y0 := Fin.ext (by
    show win0_2.index t (0 : Fin 2) * 1024 + 1 * y0.val = _
    simp [idx t]; omega)
  have a1 : ((win0_2.blk t).view.emb (ix2 y0 y1) 1 : Fin 2048) = col t y1 := Fin.ext (by
    show win0_2.index t (1 : Fin 2) * 1024 + 1 * y1.val = _
    simp [idx t]; omega)
  refine (out_at _ _ y0 y1).trans (Eq.trans ?_ (Products.nt_at (A m c) (B m c) _ (row t y0) (col t y1) a0 a1).symm)
  exact Fin.sum_fin_congr fun k => by rw [← blkA, ← blkB]

theorem ref_eq (X : FVec Ideal S4096x2048 .bf16) (W : FVec Ideal S2048x2048 .bf16) (h : FTy.bits .bf16 < FTy.bits .f32) :
    truncf .bf16 (Host.dotGeneral Cert.Reference2Ideal.dot_S4096x2048_S2048x2048_S4096x2048_1_1_0_0_n_n none
      (extf .f32 X h) (extf .f32 W h)) h = Products.nt X W := by
  funext i
  revert i
  show ∀ i : S4096x2048.Idx, _
  intro i
  idx_vars i
  pointwise [Products.nt]

theorem frame : Cert.quiescent_Kernel2 := fun m ρ _ => Cert.Kernel2.Gen.frame (F := Bits) m ρ
theorem frame_ideal : Cert.quiescent_Kernel2Ideal := fun m ρ _ => Cert.Kernel2Ideal.Gen.frame (F := Ideal) m ρ
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

theorem algebraic : Cert.algebraic_Kernel2Ideal_Reference2Ideal := by
  intro m ρ m' ρ' _ hagree
  refine ⟨fun c => res m c, ?_, ?_⟩
  · exact (θ_run _ _ _).mono (fun r h c => ⟨(h c).1.trans (final m c), (h c).2⟩) (run_blocks m ρ)
  · refine (θ_run _ _ _).mono (fun r h c => ⟨(h c).1.trans ?_, (h c).2⟩) (Cert.Reference2Ideal.Value.run m' ρ')
    obtain ⟨a0, a1⟩ := hagree c
    rw [a0, a1]
    exact ref_eq _ _ _

end Cert.DxSquare

end
-- ==== Proof.lean ====
/- The attention's gradient: the kernel and the reference run, leave their arguments as they were, and end with equal
   gradients of q, k and v on finite arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal
public import proofs.«01_k».proof.Proof.KerAlg
public import proofs.«01_k».proof.Proof.GateBwd
public import proofs.«01_k».proof.Proof.GateFwd
public import proofs.«01_k».proof.Proof.ConvBwd
public import proofs.«01_k».proof.Proof.ConvFwd
public import proofs.«01_k».proof.Proof.AttnFwd
public import proofs.«01_k».proof.Proof.MmDown
public import proofs.«01_k».proof.Proof.MmUp
public import proofs.«01_k».proof.Proof.MmIn
public import proofs.«01_k».proof.Proof.MmSquare
public import proofs.«01_k».proof.Proof.DwIn
public import proofs.«01_k».proof.Proof.DwUp
public import proofs.«01_k».proof.Proof.DwDown
public import proofs.«01_k».proof.Proof.DxIn
public import proofs.«01_k».proof.Proof.DxUp
public import proofs.«01_k».proof.Proof.Dact
public import proofs.«01_k».proof.Proof.DwSquare
public import proofs.«01_k».proof.Proof.DxSquare
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem frame_kernel : Cert.quiescent_Kernel := fun m ρ _ => Cert.Kernel.Gen.frame (F := Bits) m ρ

theorem frame_kernel_ideal : Cert.quiescent_KernelIdeal := fun m ρ _ => Cert.KernelIdeal.Gen.frame (F := Ideal) m ρ

/-- The reference's frame: its run keeps the arguments, and it declares no semaphore. -/
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩) (Cert.ReferenceIdeal.Value.run m ρ)

theorem algebraic : Cert.algebraic_KernelIdeal_ReferenceIdeal_pre_finite (hPre_finite := KerAttn.pre_facts) := by
  intro m ρ m' ρ' hpre hagree
  have hfin := fun c => @KerAttn.pre_real KerAttn.pre_facts _ _ _ _ (hpre c)
  refine ⟨fun c => KerAttn.dqF m c, fun c => KerAttn.dkF m c, fun c => KerAttn.dvF m c, ?_, ?_⟩
  · refine (θ_run _ _ _).mono (fun r h c => ?_) (Cert.KernelIdeal.Value.run_blocks m ρ)
    obtain ⟨h0, h1, h2, h3⟩ := h c
    exact ⟨h0.trans (KerAttn.final_dq m c), h1.trans (KerAttn.final_dk m c), h2.trans (KerAttn.final_dv m c), h3⟩
  · refine (θ_run _ _ _).mono (fun r h c => ?_) (Cert.ReferenceIdeal.Value.run m' ρ')
    obtain ⟨h0, h1, h2, h3⟩ := h c
    obtain ⟨a0, a1, a2, a3⟩ := hagree c
    obtain ⟨fQ, fK, fV, fD⟩ := hfin c
    refine ⟨?_, ?_, ?_, h3⟩
    · rw [h0, RefAttn.res0, a0, a1, a2, a3]; exact (KerAttn.dqF_eq m c fQ fK fV fD).symm
    · rw [h1, RefAttn.res1, a0, a1, a2, a3]; exact (KerAttn.dkF_eq m c fQ fK fV fD).symm
    · rw [h2]
      refine Eq.trans ?_ (KerAttn.dvF_eq m c fQ fK).symm
      rw [a0, a1, a3]
      rfl

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts, Cert.Kernel4.Gen.facts,
  Cert.Kernel4Ideal.Gen.facts, Cert.Reference4Ideal.Gen.facts, Cert.Kernel5.Gen.facts,
  Cert.Kernel5Ideal.Gen.facts, Cert.Reference5Ideal.Gen.facts, Cert.Kernel6.Gen.facts,
  Cert.Kernel6Ideal.Gen.facts, Cert.Reference6Ideal.Gen.facts, Cert.Kernel7.Gen.facts,
  Cert.Kernel7Ideal.Gen.facts, Cert.Reference7Ideal.Gen.facts, Cert.Kernel8.Gen.facts,
  Cert.Kernel8Ideal.Gen.facts, Cert.Reference8Ideal.Gen.facts, Cert.Kernel9.Gen.facts,
  Cert.Kernel9Ideal.Gen.facts, Cert.Reference9Ideal.Gen.facts, Cert.Kernel10.Gen.facts,
  Cert.Kernel10Ideal.Gen.facts, Cert.Reference10Ideal.Gen.facts, Cert.Kernel11.Gen.facts,
  Cert.Kernel11Ideal.Gen.facts, Cert.Reference11Ideal.Gen.facts, Cert.Kernel12.Gen.facts,
  Cert.Kernel12Ideal.Gen.facts, Cert.Reference12Ideal.Gen.facts, Cert.Kernel13.Gen.facts,
  Cert.Kernel13Ideal.Gen.facts, Cert.Reference13Ideal.Gen.facts, Cert.Kernel14.Gen.facts,
  Cert.Kernel14Ideal.Gen.facts, Cert.Reference14Ideal.Gen.facts, Cert.Kernel15.Gen.facts,
  Cert.Kernel15Ideal.Gen.facts, Cert.Reference15Ideal.Gen.facts, Cert.Kernel16.Gen.facts,
  Cert.Kernel16Ideal.Gen.facts, Cert.Reference16Ideal.Gen.facts, Cert.Kernel17.Gen.facts,
  Cert.Kernel17Ideal.Gen.facts, Cert.Reference17Ideal.Gen.facts, Cert.Kernel18.Gen.facts,
  Cert.Kernel18Ideal.Gen.facts, Cert.Reference18Ideal.Gen.facts, KerAttn.pre_facts, AttnFwd.pre_facts,
  frame_kernel, frame_kernel_ideal, fun m ρ _ => frame_kernel_ideal m ρ trivial, frame_reference,
  fun m ρ _ => frame_reference m ρ trivial, DxSquare.frame, DxSquare.frame_ideal, DxSquare.frame_reference,
  DwSquare.frame, DwSquare.frame_ideal, DwSquare.frame_reference, Dact.frame, Dact.frame_ideal,
  Dact.frame_reference, DxUp.frame, DxUp.frame_ideal, DxUp.frame_reference, DxIn.frame, DxIn.frame_ideal,
  DxIn.frame_reference, DwDown.frame, DwDown.frame_ideal, DwDown.frame_reference, DwUp.frame, DwUp.frame_ideal,
  DwUp.frame_reference, DwIn.frame, DwIn.frame_ideal, DwIn.frame_reference, MmSquare.frame, MmSquare.frame_ideal,
  MmSquare.frame_reference, MmIn.frame, MmIn.frame_ideal, MmIn.frame_reference, MmUp.frame, MmUp.frame_ideal,
  MmUp.frame_reference, MmDown.frame, MmDown.frame_ideal, MmDown.frame_reference, AttnFwd.frame,
  AttnFwd.frame_ideal, fun m ρ _ => AttnFwd.frame_ideal m ρ trivial, AttnFwd.frame_reference,
  fun m ρ _ => AttnFwd.frame_reference m ρ trivial, ConvFwd.frame, ConvFwd.frame_ideal, ConvFwd.frame_reference,
  ConvBwd.frame, ConvBwd.frame_ideal, ConvBwd.frame_reference, GateFwd.frame, GateFwd.frame_ideal,
  GateFwd.frame_reference, GateBwd.frame, GateBwd.frame_ideal, GateBwd.frame_reference, trivial, algebraic,
  trivial, DxSquare.algebraic, trivial, DwSquare.algebraic, trivial, Dact.algebraic, trivial, DxUp.algebraic,
  trivial, DxIn.algebraic, trivial, DwDown.algebraic, trivial, DwUp.algebraic, trivial, DwIn.algebraic, trivial,
  MmSquare.algebraic, trivial, MmIn.algebraic, trivial, MmUp.algebraic, trivial, MmDown.algebraic, trivial,
  AttnFwd.algebraic, trivial, ConvFwd.algebraic, trivial, ConvBwd.algebraic, trivial, GateFwd.algebraic, trivial,
  GateBwd.algebraic⟩

end Cert.Proof

end
